-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjRwKernel (m : (ℓ : Loc Cert.ProjRwKernel.nD Cert.ProjRwKernel.τ Cert.ProjRwKernel.sig) → Buf (Elt Bits) ℓ) : Prop :=
  True

def Pre_ProjRwKernelIdeal (m : (ℓ : Loc Cert.ProjRwKernelIdeal.nD Cert.ProjRwKernelIdeal.τ Cert.ProjRwKernelIdeal.sig) → Buf (Elt Ideal) ℓ) : Prop :=
  True

def Pre_ProjRwReferenceIdeal (m : (ℓ : Loc Cert.ProjRwReferenceIdeal.nD Cert.ProjRwReferenceIdeal.τ Cert.ProjRwReferenceIdeal.sig) → Buf (Elt Ideal) ℓ) : Prop :=
  True

def Pre_ProjSsmKernel (m : (ℓ : Loc Cert.ProjSsmKernel.nD Cert.ProjSsmKernel.τ Cert.ProjSsmKernel.sig) → Buf (Elt Bits) ℓ) : Prop :=
  True

def Pre_ProjSsmKernelIdeal (m : (ℓ : Loc Cert.ProjSsmKernelIdeal.nD Cert.ProjSsmKernelIdeal.τ Cert.ProjSsmKernelIdeal.sig) → Buf (Elt Ideal) ℓ) : Prop :=
  True

def Pre_ProjSsmReferenceIdeal (m : (ℓ : Loc Cert.ProjSsmReferenceIdeal.nD Cert.ProjSsmReferenceIdeal.τ Cert.ProjSsmReferenceIdeal.sig) → Buf (Elt Ideal) ℓ) : Prop :=
  True

def Pre_ProjNsaKernel (m : (ℓ : Loc Cert.ProjNsaKernel.nD Cert.ProjNsaKernel.τ Cert.ProjNsaKernel.sig) → Buf (Elt Bits) ℓ) : Prop :=
  True

def Pre_ProjNsaKernelIdeal (m : (ℓ : Loc Cert.ProjNsaKernelIdeal.nD Cert.ProjNsaKernelIdeal.τ Cert.ProjNsaKernelIdeal.sig) → Buf (Elt Ideal) ℓ) : Prop :=
  True

def Pre_ProjNsaReferenceIdeal (m : (ℓ : Loc Cert.ProjNsaReferenceIdeal.nD Cert.ProjNsaReferenceIdeal.τ Cert.ProjNsaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_ProjRwKernel [hProjRwKernel : Cert.ProjRwKernel.Facts] : Prop :=
  ∀ (m : (ℓ : Loc Cert.ProjRwKernel.nD Cert.ProjRwKernel.τ Cert.ProjRwKernel.sig) → Buf (Elt Bits) ℓ) (g : Dev Cert.ProjRwKernel.nD → PrngReg), Pre_ProjRwKernel m →
    θ_run (Cert.ProjRwKernel.defs (F := Bits)) (onTc (τ := Cert.ProjRwKernel.τ) (Cert.ProjRwKernel.main (F := Bits))) ⟨m, fun _ => 0, g⟩ (fun r => (∀ c : Dev Cert.ProjRwKernel.nD,
      r.2.mem ((c.tc : Thread Cert.ProjRwKernel.nD Cert.ProjRwKernel.τ).loc Cert.ProjRwKernel.main_arg0) = m ((c.tc : Thread Cert.ProjRwKernel.nD Cert.ProjRwKernel.τ).loc Cert.ProjRwKernel.main_arg0)
      ∧ r.2.mem ((c.tc : Thread Cert.ProjRwKernel.nD Cert.ProjRwKernel.τ).loc Cert.ProjRwKernel.main_arg1) = m ((c.tc : Thread Cert.ProjRwKernel.nD Cert.ProjRwKernel.τ).loc Cert.ProjRwKernel.main_arg1)
      ∧ r.2.mem ((c.tc : Thread Cert.ProjRwKernel.nD Cert.ProjRwKernel.τ).loc Cert.ProjRwKernel.main_arg2) = m ((c.tc : Thread Cert.ProjRwKernel.nD Cert.ProjRwKernel.τ).loc Cert.ProjRwKernel.main_arg2)
      ∧ r.2.mem ((c.tc : Thread Cert.ProjRwKernel.nD Cert.ProjRwKernel.τ).loc Cert.ProjRwKernel.main_arg3) = m ((c.tc : Thread Cert.ProjRwKernel.nD Cert.ProjRwKernel.τ).loc Cert.ProjRwKernel.main_arg3)
      ∧ r.2.mem ((c.tc : Thread Cert.ProjRwKernel.nD Cert.ProjRwKernel.τ).loc Cert.ProjRwKernel.main_arg4) = m ((c.tc : Thread Cert.ProjRwKernel.nD Cert.ProjRwKernel.τ).loc Cert.ProjRwKernel.main_arg4))
      ∧ r.2.sem = fun _ => 0)

def quiescent_ProjRwKernelIdeal [hProjRwKernelIdeal : Cert.ProjRwKernelIdeal.Facts] : Prop :=
  ∀ (m : (ℓ : Loc Cert.ProjRwKernelIdeal.nD Cert.ProjRwKernelIdeal.τ Cert.ProjRwKernelIdeal.sig) → Buf (Elt Ideal) ℓ) (g : Dev Cert.ProjRwKernelIdeal.nD → PrngReg), Pre_ProjRwKernelIdeal m →
    θ_run (Cert.ProjRwKernelIdeal.defs (F := Ideal)) (onTc (τ := Cert.ProjRwKernelIdeal.τ) (Cert.ProjRwKernelIdeal.main (F := Ideal))) ⟨m, fun _ => 0, g⟩ (fun r => (∀ c : Dev Cert.ProjRwKernelIdeal.nD,
      r.2.mem ((c.tc : Thread Cert.ProjRwKernelIdeal.nD Cert.ProjRwKernelIdeal.τ).loc Cert.ProjRwKernelIdeal.main_arg0) = m ((c.tc : Thread Cert.ProjRwKernelIdeal.nD Cert.ProjRwKernelIdeal.τ).loc Cert.ProjRwKernelIdeal.main_arg0)
      ∧ r.2.mem ((c.tc : Thread Cert.ProjRwKernelIdeal.nD Cert.ProjRwKernelIdeal.τ).loc Cert.ProjRwKernelIdeal.main_arg1) = m ((c.tc : Thread Cert.ProjRwKernelIdeal.nD Cert.ProjRwKernelIdeal.τ).loc Cert.ProjRwKernelIdeal.main_arg1)
      ∧ r.2.mem ((c.tc : Thread Cert.ProjRwKernelIdeal.nD Cert.ProjRwKernelIdeal.τ).loc Cert.ProjRwKernelIdeal.main_arg2) = m ((c.tc : Thread Cert.ProjRwKernelIdeal.nD Cert.ProjRwKernelIdeal.τ).loc Cert.ProjRwKernelIdeal.main_arg2)
      ∧ r.2.mem ((c.tc : Thread Cert.ProjRwKernelIdeal.nD Cert.ProjRwKernelIdeal.τ).loc Cert.ProjRwKernelIdeal.main_arg3) = m ((c.tc : Thread Cert.ProjRwKernelIdeal.nD Cert.ProjRwKernelIdeal.τ).loc Cert.ProjRwKernelIdeal.main_arg3)
      ∧ r.2.mem ((c.tc : Thread Cert.ProjRwKernelIdeal.nD Cert.ProjRwKernelIdeal.τ).loc Cert.ProjRwKernelIdeal.main_arg4) = m ((c.tc : Thread Cert.ProjRwKernelIdeal.nD Cert.ProjRwKernelIdeal.τ).loc Cert.ProjRwKernelIdeal.main_arg4))
      ∧ r.2.sem = fun _ => 0)

def quiescent_ProjRwReferenceIdeal [hProjRwReferenceIdeal : Cert.ProjRwReferenceIdeal.Facts] : Prop :=
  ∀ (m : (ℓ : Loc Cert.ProjRwReferenceIdeal.nD Cert.ProjRwReferenceIdeal.τ Cert.ProjRwReferenceIdeal.sig) → Buf (Elt Ideal) ℓ) (g : Dev Cert.ProjRwReferenceIdeal.nD → PrngReg), Pre_ProjRwReferenceIdeal m →
    θ_run (Cert.ProjRwReferenceIdeal.defs (F := Ideal)) (onTc (τ := Cert.ProjRwReferenceIdeal.τ) (Cert.ProjRwReferenceIdeal.main (F := Ideal))) ⟨m, fun _ => 0, g⟩ (fun r => (∀ c : Dev Cert.ProjRwReferenceIdeal.nD,
      r.2.mem ((c.tc : Thread Cert.ProjRwReferenceIdeal.nD Cert.ProjRwReferenceIdeal.τ).loc Cert.ProjRwReferenceIdeal.main_arg0) = m ((c.tc : Thread Cert.ProjRwReferenceIdeal.nD Cert.ProjRwReferenceIdeal.τ).loc Cert.ProjRwReferenceIdeal.main_arg0)
      ∧ r.2.mem ((c.tc : Thread Cert.ProjRwReferenceIdeal.nD Cert.ProjRwReferenceIdeal.τ).loc Cert.ProjRwReferenceIdeal.main_arg1) = m ((c.tc : Thread Cert.ProjRwReferenceIdeal.nD Cert.ProjRwReferenceIdeal.τ).loc Cert.ProjRwReferenceIdeal.main_arg1)
      ∧ r.2.mem ((c.tc : Thread Cert.ProjRwReferenceIdeal.nD Cert.ProjRwReferenceIdeal.τ).loc Cert.ProjRwReferenceIdeal.main_arg2) = m ((c.tc : Thread Cert.ProjRwReferenceIdeal.nD Cert.ProjRwReferenceIdeal.τ).loc Cert.ProjRwReferenceIdeal.main_arg2)
      ∧ r.2.mem ((c.tc : Thread Cert.ProjRwReferenceIdeal.nD Cert.ProjRwReferenceIdeal.τ).loc Cert.ProjRwReferenceIdeal.main_arg3) = m ((c.tc : Thread Cert.ProjRwReferenceIdeal.nD Cert.ProjRwReferenceIdeal.τ).loc Cert.ProjRwReferenceIdeal.main_arg3)
      ∧ r.2.mem ((c.tc : Thread Cert.ProjRwReferenceIdeal.nD Cert.ProjRwReferenceIdeal.τ).loc Cert.ProjRwReferenceIdeal.main_arg4) = m ((c.tc : Thread Cert.ProjRwReferenceIdeal.nD Cert.ProjRwReferenceIdeal.τ).loc Cert.ProjRwReferenceIdeal.main_arg4))
      ∧ r.2.sem = fun _ => 0)

def quiescent_ProjSsmKernel [hProjSsmKernel : Cert.ProjSsmKernel.Facts] : Prop :=
  ∀ (m : (ℓ : Loc Cert.ProjSsmKernel.nD Cert.ProjSsmKernel.τ Cert.ProjSsmKernel.sig) → Buf (Elt Bits) ℓ) (g : Dev Cert.ProjSsmKernel.nD → PrngReg), Pre_ProjSsmKernel m →
    θ_run (Cert.ProjSsmKernel.defs (F := Bits)) (onTc (τ := Cert.ProjSsmKernel.τ) (Cert.ProjSsmKernel.main (F := Bits))) ⟨m, fun _ => 0, g⟩ (fun r => (∀ c : Dev Cert.ProjSsmKernel.nD,
      r.2.mem ((c.tc : Thread Cert.ProjSsmKernel.nD Cert.ProjSsmKernel.τ).loc Cert.ProjSsmKernel.main_arg0) = m ((c.tc : Thread Cert.ProjSsmKernel.nD Cert.ProjSsmKernel.τ).loc Cert.ProjSsmKernel.main_arg0)
      ∧ r.2.mem ((c.tc : Thread Cert.ProjSsmKernel.nD Cert.ProjSsmKernel.τ).loc Cert.ProjSsmKernel.main_arg1) = m ((c.tc : Thread Cert.ProjSsmKernel.nD Cert.ProjSsmKernel.τ).loc Cert.ProjSsmKernel.main_arg1)
      ∧ r.2.mem ((c.tc : Thread Cert.ProjSsmKernel.nD Cert.ProjSsmKernel.τ).loc Cert.ProjSsmKernel.main_arg2) = m ((c.tc : Thread Cert.ProjSsmKernel.nD Cert.ProjSsmKernel.τ).loc Cert.ProjSsmKernel.main_arg2)
      ∧ r.2.mem ((c.tc : Thread Cert.ProjSsmKernel.nD Cert.ProjSsmKernel.τ).loc Cert.ProjSsmKernel.main_arg3) = m ((c.tc : Thread Cert.ProjSsmKernel.nD Cert.ProjSsmKernel.τ).loc Cert.ProjSsmKernel.main_arg3)
      ∧ r.2.mem ((c.tc : Thread Cert.ProjSsmKernel.nD Cert.ProjSsmKernel.τ).loc Cert.ProjSsmKernel.main_arg4) = m ((c.tc : Thread Cert.ProjSsmKernel.nD Cert.ProjSsmKernel.τ).loc Cert.ProjSsmKernel.main_arg4))
      ∧ r.2.sem = fun _ => 0)

def quiescent_ProjSsmKernelIdeal [hProjSsmKernelIdeal : Cert.ProjSsmKernelIdeal.Facts] : Prop :=
  ∀ (m : (ℓ : Loc Cert.ProjSsmKernelIdeal.nD Cert.ProjSsmKernelIdeal.τ Cert.ProjSsmKernelIdeal.sig) → Buf (Elt Ideal) ℓ) (g : Dev Cert.ProjSsmKernelIdeal.nD → PrngReg), Pre_ProjSsmKernelIdeal m →
    θ_run (Cert.ProjSsmKernelIdeal.defs (F := Ideal)) (onTc (τ := Cert.ProjSsmKernelIdeal.τ) (Cert.ProjSsmKernelIdeal.main (F := Ideal))) ⟨m, fun _ => 0, g⟩ (fun r => (∀ c : Dev Cert.ProjSsmKernelIdeal.nD,
      r.2.mem ((c.tc : Thread Cert.ProjSsmKernelIdeal.nD Cert.ProjSsmKernelIdeal.τ).loc Cert.ProjSsmKernelIdeal.main_arg0) = m ((c.tc : Thread Cert.ProjSsmKernelIdeal.nD Cert.ProjSsmKernelIdeal.τ).loc Cert.ProjSsmKernelIdeal.main_arg0)
      ∧ r.2.mem ((c.tc : Thread Cert.ProjSsmKernelIdeal.nD Cert.ProjSsmKernelIdeal.τ).loc Cert.ProjSsmKernelIdeal.main_arg1) = m ((c.tc : Thread Cert.ProjSsmKernelIdeal.nD Cert.ProjSsmKernelIdeal.τ).loc Cert.ProjSsmKernelIdeal.main_arg1)
      ∧ r.2.mem ((c.tc : Thread Cert.ProjSsmKernelIdeal.nD Cert.ProjSsmKernelIdeal.τ).loc Cert.ProjSsmKernelIdeal.main_arg2) = m ((c.tc : Thread Cert.ProjSsmKernelIdeal.nD Cert.ProjSsmKernelIdeal.τ).loc Cert.ProjSsmKernelIdeal.main_arg2)
      ∧ r.2.mem ((c.tc : Thread Cert.ProjSsmKernelIdeal.nD Cert.ProjSsmKernelIdeal.τ).loc Cert.ProjSsmKernelIdeal.main_arg3) = m ((c.tc : Thread Cert.ProjSsmKernelIdeal.nD Cert.ProjSsmKernelIdeal.τ).loc Cert.ProjSsmKernelIdeal.main_arg3)
      ∧ r.2.mem ((c.tc : Thread Cert.ProjSsmKernelIdeal.nD Cert.ProjSsmKernelIdeal.τ).loc Cert.ProjSsmKernelIdeal.main_arg4) = m ((c.tc : Thread Cert.ProjSsmKernelIdeal.nD Cert.ProjSsmKernelIdeal.τ).loc Cert.ProjSsmKernelIdeal.main_arg4))
      ∧ r.2.sem = fun _ => 0)

def quiescent_ProjSsmReferenceIdeal [hProjSsmReferenceIdeal : Cert.ProjSsmReferenceIdeal.Facts] : Prop :=
  ∀ (m : (ℓ : Loc Cert.ProjSsmReferenceIdeal.nD Cert.ProjSsmReferenceIdeal.τ Cert.ProjSsmReferenceIdeal.sig) → Buf (Elt Ideal) ℓ) (g : Dev Cert.ProjSsmReferenceIdeal.nD → PrngReg), Pre_ProjSsmReferenceIdeal m →
    θ_run (Cert.ProjSsmReferenceIdeal.defs (F := Ideal)) (onTc (τ := Cert.ProjSsmReferenceIdeal.τ) (Cert.ProjSsmReferenceIdeal.main (F := Ideal))) ⟨m, fun _ => 0, g⟩ (fun r => (∀ c : Dev Cert.ProjSsmReferenceIdeal.nD,
      r.2.mem ((c.tc : Thread Cert.ProjSsmReferenceIdeal.nD Cert.ProjSsmReferenceIdeal.τ).loc Cert.ProjSsmReferenceIdeal.main_arg0) = m ((c.tc : Thread Cert.ProjSsmReferenceIdeal.nD Cert.ProjSsmReferenceIdeal.τ).loc Cert.ProjSsmReferenceIdeal.main_arg0)
      ∧ r.2.mem ((c.tc : Thread Cert.ProjSsmReferenceIdeal.nD Cert.ProjSsmReferenceIdeal.τ).loc Cert.ProjSsmReferenceIdeal.main_arg1) = m ((c.tc : Thread Cert.ProjSsmReferenceIdeal.nD Cert.ProjSsmReferenceIdeal.τ).loc Cert.ProjSsmReferenceIdeal.main_arg1)
      ∧ r.2.mem ((c.tc : Thread Cert.ProjSsmReferenceIdeal.nD Cert.ProjSsmReferenceIdeal.τ).loc Cert.ProjSsmReferenceIdeal.main_arg2) = m ((c.tc : Thread Cert.ProjSsmReferenceIdeal.nD Cert.ProjSsmReferenceIdeal.τ).loc Cert.ProjSsmReferenceIdeal.main_arg2)
      ∧ r.2.mem ((c.tc : Thread Cert.ProjSsmReferenceIdeal.nD Cert.ProjSsmReferenceIdeal.τ).loc Cert.ProjSsmReferenceIdeal.main_arg3) = m ((c.tc : Thread Cert.ProjSsmReferenceIdeal.nD Cert.ProjSsmReferenceIdeal.τ).loc Cert.ProjSsmReferenceIdeal.main_arg3)
      ∧ r.2.mem ((c.tc : Thread Cert.ProjSsmReferenceIdeal.nD Cert.ProjSsmReferenceIdeal.τ).loc Cert.ProjSsmReferenceIdeal.main_arg4) = m ((c.tc : Thread Cert.ProjSsmReferenceIdeal.nD Cert.ProjSsmReferenceIdeal.τ).loc Cert.ProjSsmReferenceIdeal.main_arg4))
      ∧ r.2.sem = fun _ => 0)

def quiescent_ProjNsaKernel [hProjNsaKernel : Cert.ProjNsaKernel.Facts] : Prop :=
  ∀ (m : (ℓ : Loc Cert.ProjNsaKernel.nD Cert.ProjNsaKernel.τ Cert.ProjNsaKernel.sig) → Buf (Elt Bits) ℓ) (g : Dev Cert.ProjNsaKernel.nD → PrngReg), Pre_ProjNsaKernel m →
    θ_run (Cert.ProjNsaKernel.defs (F := Bits)) (onTc (τ := Cert.ProjNsaKernel.τ) (Cert.ProjNsaKernel.main (F := Bits))) ⟨m, fun _ => 0, g⟩ (fun r => (∀ c : Dev Cert.ProjNsaKernel.nD,
      r.2.mem ((c.tc : Thread Cert.ProjNsaKernel.nD Cert.ProjNsaKernel.τ).loc Cert.ProjNsaKernel.main_arg0) = m ((c.tc : Thread Cert.ProjNsaKernel.nD Cert.ProjNsaKernel.τ).loc Cert.ProjNsaKernel.main_arg0)
      ∧ r.2.mem ((c.tc : Thread Cert.ProjNsaKernel.nD Cert.ProjNsaKernel.τ).loc Cert.ProjNsaKernel.main_arg1) = m ((c.tc : Thread Cert.ProjNsaKernel.nD Cert.ProjNsaKernel.τ).loc Cert.ProjNsaKernel.main_arg1)
      ∧ r.2.mem ((c.tc : Thread Cert.ProjNsaKernel.nD Cert.ProjNsaKernel.τ).loc Cert.ProjNsaKernel.main_arg2) = m ((c.tc : Thread Cert.ProjNsaKernel.nD Cert.ProjNsaKernel.τ).loc Cert.ProjNsaKernel.main_arg2)
      ∧ r.2.mem ((c.tc : Thread Cert.ProjNsaKernel.nD Cert.ProjNsaKernel.τ).loc Cert.ProjNsaKernel.main_arg3) = m ((c.tc : Thread Cert.ProjNsaKernel.nD Cert.ProjNsaKernel.τ).loc Cert.ProjNsaKernel.main_arg3)
      ∧ r.2.mem ((c.tc : Thread Cert.ProjNsaKernel.nD Cert.ProjNsaKernel.τ).loc Cert.ProjNsaKernel.main_arg4) = m ((c.tc : Thread Cert.ProjNsaKernel.nD Cert.ProjNsaKernel.τ).loc Cert.ProjNsaKernel.main_arg4))
      ∧ r.2.sem = fun _ => 0)

def quiescent_ProjNsaKernelIdeal [hProjNsaKernelIdeal : Cert.ProjNsaKernelIdeal.Facts] : Prop :=
  ∀ (m : (ℓ : Loc Cert.ProjNsaKernelIdeal.nD Cert.ProjNsaKernelIdeal.τ Cert.ProjNsaKernelIdeal.sig) → Buf (Elt Ideal) ℓ) (g : Dev Cert.ProjNsaKernelIdeal.nD → PrngReg), Pre_ProjNsaKernelIdeal m →
    θ_run (Cert.ProjNsaKernelIdeal.defs (F := Ideal)) (onTc (τ := Cert.ProjNsaKernelIdeal.τ) (Cert.ProjNsaKernelIdeal.main (F := Ideal))) ⟨m, fun _ => 0, g⟩ (fun r => (∀ c : Dev Cert.ProjNsaKernelIdeal.nD,
      r.2.mem ((c.tc : Thread Cert.ProjNsaKernelIdeal.nD Cert.ProjNsaKernelIdeal.τ).loc Cert.ProjNsaKernelIdeal.main_arg0) = m ((c.tc : Thread Cert.ProjNsaKernelIdeal.nD Cert.ProjNsaKernelIdeal.τ).loc Cert.ProjNsaKernelIdeal.main_arg0)
      ∧ r.2.mem ((c.tc : Thread Cert.ProjNsaKernelIdeal.nD Cert.ProjNsaKernelIdeal.τ).loc Cert.ProjNsaKernelIdeal.main_arg1) = m ((c.tc : Thread Cert.ProjNsaKernelIdeal.nD Cert.ProjNsaKernelIdeal.τ).loc Cert.ProjNsaKernelIdeal.main_arg1)
      ∧ r.2.mem ((c.tc : Thread Cert.ProjNsaKernelIdeal.nD Cert.ProjNsaKernelIdeal.τ).loc Cert.ProjNsaKernelIdeal.main_arg2) = m ((c.tc : Thread Cert.ProjNsaKernelIdeal.nD Cert.ProjNsaKernelIdeal.τ).loc Cert.ProjNsaKernelIdeal.main_arg2)
      ∧ r.2.mem ((c.tc : Thread Cert.ProjNsaKernelIdeal.nD Cert.ProjNsaKernelIdeal.τ).loc Cert.ProjNsaKernelIdeal.main_arg3) = m ((c.tc : Thread Cert.ProjNsaKernelIdeal.nD Cert.ProjNsaKernelIdeal.τ).loc Cert.ProjNsaKernelIdeal.main_arg3)
      ∧ r.2.mem ((c.tc : Thread Cert.ProjNsaKernelIdeal.nD Cert.ProjNsaKernelIdeal.τ).loc Cert.ProjNsaKernelIdeal.main_arg4) = m ((c.tc : Thread Cert.ProjNsaKernelIdeal.nD Cert.ProjNsaKernelIdeal.τ).loc Cert.ProjNsaKernelIdeal.main_arg4))
      ∧ r.2.sem = fun _ => 0)

def quiescent_ProjNsaReferenceIdeal [hProjNsaReferenceIdeal : Cert.ProjNsaReferenceIdeal.Facts] : Prop :=
  ∀ (m : (ℓ : Loc Cert.ProjNsaReferenceIdeal.nD Cert.ProjNsaReferenceIdeal.τ Cert.ProjNsaReferenceIdeal.sig) → Buf (Elt Ideal) ℓ) (g : Dev Cert.ProjNsaReferenceIdeal.nD → PrngReg), Pre_ProjNsaReferenceIdeal m →
    θ_run (Cert.ProjNsaReferenceIdeal.defs (F := Ideal)) (onTc (τ := Cert.ProjNsaReferenceIdeal.τ) (Cert.ProjNsaReferenceIdeal.main (F := Ideal))) ⟨m, fun _ => 0, g⟩ (fun r => (∀ c : Dev Cert.ProjNsaReferenceIdeal.nD,
      r.2.mem ((c.tc : Thread Cert.ProjNsaReferenceIdeal.nD Cert.ProjNsaReferenceIdeal.τ).loc Cert.ProjNsaReferenceIdeal.main_arg0) = m ((c.tc : Thread Cert.ProjNsaReferenceIdeal.nD Cert.ProjNsaReferenceIdeal.τ).loc Cert.ProjNsaReferenceIdeal.main_arg0)
      ∧ r.2.mem ((c.tc : Thread Cert.ProjNsaReferenceIdeal.nD Cert.ProjNsaReferenceIdeal.τ).loc Cert.ProjNsaReferenceIdeal.main_arg1) = m ((c.tc : Thread Cert.ProjNsaReferenceIdeal.nD Cert.ProjNsaReferenceIdeal.τ).loc Cert.ProjNsaReferenceIdeal.main_arg1)
      ∧ r.2.mem ((c.tc : Thread Cert.ProjNsaReferenceIdeal.nD Cert.ProjNsaReferenceIdeal.τ).loc Cert.ProjNsaReferenceIdeal.main_arg2) = m ((c.tc : Thread Cert.ProjNsaReferenceIdeal.nD Cert.ProjNsaReferenceIdeal.τ).loc Cert.ProjNsaReferenceIdeal.main_arg2)
      ∧ r.2.mem ((c.tc : Thread Cert.ProjNsaReferenceIdeal.nD Cert.ProjNsaReferenceIdeal.τ).loc Cert.ProjNsaReferenceIdeal.main_arg3) = m ((c.tc : Thread Cert.ProjNsaReferenceIdeal.nD Cert.ProjNsaReferenceIdeal.τ).loc Cert.ProjNsaReferenceIdeal.main_arg3)
      ∧ r.2.mem ((c.tc : Thread Cert.ProjNsaReferenceIdeal.nD Cert.ProjNsaReferenceIdeal.τ).loc Cert.ProjNsaReferenceIdeal.main_arg4) = m ((c.tc : Thread Cert.ProjNsaReferenceIdeal.nD Cert.ProjNsaReferenceIdeal.τ).loc Cert.ProjNsaReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v28) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v9)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v9) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_ProjRwKernel_ProjRwKernelIdeal : Prop :=
  True

def algebraic_ProjRwKernelIdeal_ProjRwReferenceIdeal [hProjRwKernelIdeal : Cert.ProjRwKernelIdeal.Facts] [hProjRwReferenceIdeal : Cert.ProjRwReferenceIdeal.Facts] : Prop :=
  ∀ (m : (ℓ : Loc Cert.ProjRwKernelIdeal.nD Cert.ProjRwKernelIdeal.τ Cert.ProjRwKernelIdeal.sig) → Buf (Elt Ideal) ℓ) (g : Dev Cert.ProjRwKernelIdeal.nD → PrngReg)
    (m' : (ℓ : Loc Cert.ProjRwReferenceIdeal.nD Cert.ProjRwReferenceIdeal.τ Cert.ProjRwReferenceIdeal.sig) → Buf (Elt Ideal) ℓ) (g' : Dev Cert.ProjRwReferenceIdeal.nD → PrngReg), Pre_ProjRwKernelIdeal m →
    (∀ c : Dev Cert.ProjRwKernelIdeal.nD,
      m' ((c.tc : Thread Cert.ProjRwReferenceIdeal.nD Cert.ProjRwReferenceIdeal.τ).loc Cert.ProjRwReferenceIdeal.main_arg0) = m ((c.tc : Thread Cert.ProjRwKernelIdeal.nD Cert.ProjRwKernelIdeal.τ).loc Cert.ProjRwKernelIdeal.main_arg0)
      ∧ m' ((c.tc : Thread Cert.ProjRwReferenceIdeal.nD Cert.ProjRwReferenceIdeal.τ).loc Cert.ProjRwReferenceIdeal.main_arg1) = m ((c.tc : Thread Cert.ProjRwKernelIdeal.nD Cert.ProjRwKernelIdeal.τ).loc Cert.ProjRwKernelIdeal.main_arg1)
      ∧ m' ((c.tc : Thread Cert.ProjRwReferenceIdeal.nD Cert.ProjRwReferenceIdeal.τ).loc Cert.ProjRwReferenceIdeal.main_arg2) = m ((c.tc : Thread Cert.ProjRwKernelIdeal.nD Cert.ProjRwKernelIdeal.τ).loc Cert.ProjRwKernelIdeal.main_arg2)
      ∧ m' ((c.tc : Thread Cert.ProjRwReferenceIdeal.nD Cert.ProjRwReferenceIdeal.τ).loc Cert.ProjRwReferenceIdeal.main_arg3) = m ((c.tc : Thread Cert.ProjRwKernelIdeal.nD Cert.ProjRwKernelIdeal.τ).loc Cert.ProjRwKernelIdeal.main_arg3)
      ∧ m' ((c.tc : Thread Cert.ProjRwReferenceIdeal.nD Cert.ProjRwReferenceIdeal.τ).loc Cert.ProjRwReferenceIdeal.main_arg4) = m ((c.tc : Thread Cert.ProjRwKernelIdeal.nD Cert.ProjRwKernelIdeal.τ).loc Cert.ProjRwKernelIdeal.main_arg4)) →
    ∃ (v0 : (c : Dev Cert.ProjRwKernelIdeal.nD) → Buf (Elt Ideal) ((c.tc : Thread Cert.ProjRwKernelIdeal.nD Cert.ProjRwKernelIdeal.τ).loc Cert.ProjRwKernelIdeal.main_v4)),
      θ_run (Cert.ProjRwKernelIdeal.defs (F := Ideal)) (onTc (τ := Cert.ProjRwKernelIdeal.τ) (Cert.ProjRwKernelIdeal.main (F := Ideal))) ⟨m, fun _ => 0, g⟩ (fun r => ∀ c : Dev Cert.ProjRwKernelIdeal.nD,
          r.2.mem ((c.tc : Thread Cert.ProjRwKernelIdeal.nD Cert.ProjRwKernelIdeal.τ).loc Cert.ProjRwKernelIdeal.main_v4) = v0 c
          ∧ r.2.mem ((c.tc : Thread Cert.ProjRwKernelIdeal.nD Cert.ProjRwKernelIdeal.τ).loc Cert.ProjRwKernelIdeal.main_arg0) = m ((c.tc : Thread Cert.ProjRwKernelIdeal.nD Cert.ProjRwKernelIdeal.τ).loc Cert.ProjRwKernelIdeal.main_arg0)
          ∧ r.2.mem ((c.tc : Thread Cert.ProjRwKernelIdeal.nD Cert.ProjRwKernelIdeal.τ).loc Cert.ProjRwKernelIdeal.main_arg1) = m ((c.tc : Thread Cert.ProjRwKernelIdeal.nD Cert.ProjRwKernelIdeal.τ).loc Cert.ProjRwKernelIdeal.main_arg1)
          ∧ r.2.mem ((c.tc : Thread Cert.ProjRwKernelIdeal.nD Cert.ProjRwKernelIdeal.τ).loc Cert.ProjRwKernelIdeal.main_arg2) = m ((c.tc : Thread Cert.ProjRwKernelIdeal.nD Cert.ProjRwKernelIdeal.τ).loc Cert.ProjRwKernelIdeal.main_arg2)
          ∧ r.2.mem ((c.tc : Thread Cert.ProjRwKernelIdeal.nD Cert.ProjRwKernelIdeal.τ).loc Cert.ProjRwKernelIdeal.main_arg3) = m ((c.tc : Thread Cert.ProjRwKernelIdeal.nD Cert.ProjRwKernelIdeal.τ).loc Cert.ProjRwKernelIdeal.main_arg3)
          ∧ r.2.mem ((c.tc : Thread Cert.ProjRwKernelIdeal.nD Cert.ProjRwKernelIdeal.τ).loc Cert.ProjRwKernelIdeal.main_arg4) = m ((c.tc : Thread Cert.ProjRwKernelIdeal.nD Cert.ProjRwKernelIdeal.τ).loc Cert.ProjRwKernelIdeal.main_arg4))
      ∧ θ_run (Cert.ProjRwReferenceIdeal.defs (F := Ideal)) (onTc (τ := Cert.ProjRwReferenceIdeal.τ) (Cert.ProjRwReferenceIdeal.main (F := Ideal))) ⟨m', fun _ => 0, g'⟩ (fun r => ∀ c : Dev Cert.ProjRwReferenceIdeal.nD,
          r.2.mem ((c.tc : Thread Cert.ProjRwReferenceIdeal.nD Cert.ProjRwReferenceIdeal.τ).loc Cert.ProjRwReferenceIdeal.main_v24) = v0 c
          ∧ r.2.mem ((c.tc : Thread Cert.ProjRwReferenceIdeal.nD Cert.ProjRwReferenceIdeal.τ).loc Cert.ProjRwReferenceIdeal.main_arg0) = m' ((c.tc : Thread Cert.ProjRwReferenceIdeal.nD Cert.ProjRwReferenceIdeal.τ).loc Cert.ProjRwReferenceIdeal.main_arg0)
          ∧ r.2.mem ((c.tc : Thread Cert.ProjRwReferenceIdeal.nD Cert.ProjRwReferenceIdeal.τ).loc Cert.ProjRwReferenceIdeal.main_arg1) = m' ((c.tc : Thread Cert.ProjRwReferenceIdeal.nD Cert.ProjRwReferenceIdeal.τ).loc Cert.ProjRwReferenceIdeal.main_arg1)
          ∧ r.2.mem ((c.tc : Thread Cert.ProjRwReferenceIdeal.nD Cert.ProjRwReferenceIdeal.τ).loc Cert.ProjRwReferenceIdeal.main_arg2) = m' ((c.tc : Thread Cert.ProjRwReferenceIdeal.nD Cert.ProjRwReferenceIdeal.τ).loc Cert.ProjRwReferenceIdeal.main_arg2)
          ∧ r.2.mem ((c.tc : Thread Cert.ProjRwReferenceIdeal.nD Cert.ProjRwReferenceIdeal.τ).loc Cert.ProjRwReferenceIdeal.main_arg3) = m' ((c.tc : Thread Cert.ProjRwReferenceIdeal.nD Cert.ProjRwReferenceIdeal.τ).loc Cert.ProjRwReferenceIdeal.main_arg3)
          ∧ r.2.mem ((c.tc : Thread Cert.ProjRwReferenceIdeal.nD Cert.ProjRwReferenceIdeal.τ).loc Cert.ProjRwReferenceIdeal.main_arg4) = m' ((c.tc : Thread Cert.ProjRwReferenceIdeal.nD Cert.ProjRwReferenceIdeal.τ).loc Cert.ProjRwReferenceIdeal.main_arg4))

def preserves_ProjSsmKernel_ProjSsmKernelIdeal : Prop :=
  True

def algebraic_ProjSsmKernelIdeal_ProjSsmReferenceIdeal [hProjSsmKernelIdeal : Cert.ProjSsmKernelIdeal.Facts] [hProjSsmReferenceIdeal : Cert.ProjSsmReferenceIdeal.Facts] : Prop :=
  ∀ (m : (ℓ : Loc Cert.ProjSsmKernelIdeal.nD Cert.ProjSsmKernelIdeal.τ Cert.ProjSsmKernelIdeal.sig) → Buf (Elt Ideal) ℓ) (g : Dev Cert.ProjSsmKernelIdeal.nD → PrngReg)
    (m' : (ℓ : Loc Cert.ProjSsmReferenceIdeal.nD Cert.ProjSsmReferenceIdeal.τ Cert.ProjSsmReferenceIdeal.sig) → Buf (Elt Ideal) ℓ) (g' : Dev Cert.ProjSsmReferenceIdeal.nD → PrngReg), Pre_ProjSsmKernelIdeal m →
    (∀ c : Dev Cert.ProjSsmKernelIdeal.nD,
      m' ((c.tc : Thread Cert.ProjSsmReferenceIdeal.nD Cert.ProjSsmReferenceIdeal.τ).loc Cert.ProjSsmReferenceIdeal.main_arg0) = m ((c.tc : Thread Cert.ProjSsmKernelIdeal.nD Cert.ProjSsmKernelIdeal.τ).loc Cert.ProjSsmKernelIdeal.main_arg0)
      ∧ m' ((c.tc : Thread Cert.ProjSsmReferenceIdeal.nD Cert.ProjSsmReferenceIdeal.τ).loc Cert.ProjSsmReferenceIdeal.main_arg1) = m ((c.tc : Thread Cert.ProjSsmKernelIdeal.nD Cert.ProjSsmKernelIdeal.τ).loc Cert.ProjSsmKernelIdeal.main_arg1)
      ∧ m' ((c.tc : Thread Cert.ProjSsmReferenceIdeal.nD Cert.ProjSsmReferenceIdeal.τ).loc Cert.ProjSsmReferenceIdeal.main_arg2) = m ((c.tc : Thread Cert.ProjSsmKernelIdeal.nD Cert.ProjSsmKernelIdeal.τ).loc Cert.ProjSsmKernelIdeal.main_arg2)
      ∧ m' ((c.tc : Thread Cert.ProjSsmReferenceIdeal.nD Cert.ProjSsmReferenceIdeal.τ).loc Cert.ProjSsmReferenceIdeal.main_arg3) = m ((c.tc : Thread Cert.ProjSsmKernelIdeal.nD Cert.ProjSsmKernelIdeal.τ).loc Cert.ProjSsmKernelIdeal.main_arg3)
      ∧ m' ((c.tc : Thread Cert.ProjSsmReferenceIdeal.nD Cert.ProjSsmReferenceIdeal.τ).loc Cert.ProjSsmReferenceIdeal.main_arg4) = m ((c.tc : Thread Cert.ProjSsmKernelIdeal.nD Cert.ProjSsmKernelIdeal.τ).loc Cert.ProjSsmKernelIdeal.main_arg4)) →
    ∃ (v0 : (c : Dev Cert.ProjSsmKernelIdeal.nD) → Buf (Elt Ideal) ((c.tc : Thread Cert.ProjSsmKernelIdeal.nD Cert.ProjSsmKernelIdeal.τ).loc Cert.ProjSsmKernelIdeal.main_v7_0)) (v1 : (c : Dev Cert.ProjSsmKernelIdeal.nD) → Buf (Elt Ideal) ((c.tc : Thread Cert.ProjSsmKernelIdeal.nD Cert.ProjSsmKernelIdeal.τ).loc Cert.ProjSsmKernelIdeal.main_v7_1)) (v2 : (c : Dev Cert.ProjSsmKernelIdeal.nD) → Buf (Elt Ideal) ((c.tc : Thread Cert.ProjSsmKernelIdeal.nD Cert.ProjSsmKernelIdeal.τ).loc Cert.ProjSsmKernelIdeal.main_v7_2)),
      θ_run (Cert.ProjSsmKernelIdeal.defs (F := Ideal)) (onTc (τ := Cert.ProjSsmKernelIdeal.τ) (Cert.ProjSsmKernelIdeal.main (F := Ideal))) ⟨m, fun _ => 0, g⟩ (fun r => ∀ c : Dev Cert.ProjSsmKernelIdeal.nD,
          r.2.mem ((c.tc : Thread Cert.ProjSsmKernelIdeal.nD Cert.ProjSsmKernelIdeal.τ).loc Cert.ProjSsmKernelIdeal.main_v7_0) = v0 c
          ∧ r.2.mem ((c.tc : Thread Cert.ProjSsmKernelIdeal.nD Cert.ProjSsmKernelIdeal.τ).loc Cert.ProjSsmKernelIdeal.main_v7_1) = v1 c
          ∧ r.2.mem ((c.tc : Thread Cert.ProjSsmKernelIdeal.nD Cert.ProjSsmKernelIdeal.τ).loc Cert.ProjSsmKernelIdeal.main_v7_2) = v2 c
          ∧ r.2.mem ((c.tc : Thread Cert.ProjSsmKernelIdeal.nD Cert.ProjSsmKernelIdeal.τ).loc Cert.ProjSsmKernelIdeal.main_arg0) = m ((c.tc : Thread Cert.ProjSsmKernelIdeal.nD Cert.ProjSsmKernelIdeal.τ).loc Cert.ProjSsmKernelIdeal.main_arg0)
          ∧ r.2.mem ((c.tc : Thread Cert.ProjSsmKernelIdeal.nD Cert.ProjSsmKernelIdeal.τ).loc Cert.ProjSsmKernelIdeal.main_arg1) = m ((c.tc : Thread Cert.ProjSsmKernelIdeal.nD Cert.ProjSsmKernelIdeal.τ).loc Cert.ProjSsmKernelIdeal.main_arg1)
          ∧ r.2.mem ((c.tc : Thread Cert.ProjSsmKernelIdeal.nD Cert.ProjSsmKernelIdeal.τ).loc Cert.ProjSsmKernelIdeal.main_arg2) = m ((c.tc : Thread Cert.ProjSsmKernelIdeal.nD Cert.ProjSsmKernelIdeal.τ).loc Cert.ProjSsmKernelIdeal.main_arg2)
          ∧ r.2.mem ((c.tc : Thread Cert.ProjSsmKernelIdeal.nD Cert.ProjSsmKernelIdeal.τ).loc Cert.ProjSsmKernelIdeal.main_arg3) = m ((c.tc : Thread Cert.ProjSsmKernelIdeal.nD Cert.ProjSsmKernelIdeal.τ).loc Cert.ProjSsmKernelIdeal.main_arg3)
          ∧ r.2.mem ((c.tc : Thread Cert.ProjSsmKernelIdeal.nD Cert.ProjSsmKernelIdeal.τ).loc Cert.ProjSsmKernelIdeal.main_arg4) = m ((c.tc : Thread Cert.ProjSsmKernelIdeal.nD Cert.ProjSsmKernelIdeal.τ).loc Cert.ProjSsmKernelIdeal.main_arg4))
      ∧ θ_run (Cert.ProjSsmReferenceIdeal.defs (F := Ideal)) (onTc (τ := Cert.ProjSsmReferenceIdeal.τ) (Cert.ProjSsmReferenceIdeal.main (F := Ideal))) ⟨m', fun _ => 0, g'⟩ (fun r => ∀ c : Dev Cert.ProjSsmReferenceIdeal.nD,
          r.2.mem ((c.tc : Thread Cert.ProjSsmReferenceIdeal.nD Cert.ProjSsmReferenceIdeal.τ).loc Cert.ProjSsmReferenceIdeal.main_v28) = v0 c
          ∧ r.2.mem ((c.tc : Thread Cert.ProjSsmReferenceIdeal.nD Cert.ProjSsmReferenceIdeal.τ).loc Cert.ProjSsmReferenceIdeal.main_v29) = v1 c
          ∧ r.2.mem ((c.tc : Thread Cert.ProjSsmReferenceIdeal.nD Cert.ProjSsmReferenceIdeal.τ).loc Cert.ProjSsmReferenceIdeal.main_v30) = v2 c
          ∧ r.2.mem ((c.tc : Thread Cert.ProjSsmReferenceIdeal.nD Cert.ProjSsmReferenceIdeal.τ).loc Cert.ProjSsmReferenceIdeal.main_arg0) = m' ((c.tc : Thread Cert.ProjSsmReferenceIdeal.nD Cert.ProjSsmReferenceIdeal.τ).loc Cert.ProjSsmReferenceIdeal.main_arg0)
          ∧ r.2.mem ((c.tc : Thread Cert.ProjSsmReferenceIdeal.nD Cert.ProjSsmReferenceIdeal.τ).loc Cert.ProjSsmReferenceIdeal.main_arg1) = m' ((c.tc : Thread Cert.ProjSsmReferenceIdeal.nD Cert.ProjSsmReferenceIdeal.τ).loc Cert.ProjSsmReferenceIdeal.main_arg1)
          ∧ r.2.mem ((c.tc : Thread Cert.ProjSsmReferenceIdeal.nD Cert.ProjSsmReferenceIdeal.τ).loc Cert.ProjSsmReferenceIdeal.main_arg2) = m' ((c.tc : Thread Cert.ProjSsmReferenceIdeal.nD Cert.ProjSsmReferenceIdeal.τ).loc Cert.ProjSsmReferenceIdeal.main_arg2)
          ∧ r.2.mem ((c.tc : Thread Cert.ProjSsmReferenceIdeal.nD Cert.ProjSsmReferenceIdeal.τ).loc Cert.ProjSsmReferenceIdeal.main_arg3) = m' ((c.tc : Thread Cert.ProjSsmReferenceIdeal.nD Cert.ProjSsmReferenceIdeal.τ).loc Cert.ProjSsmReferenceIdeal.main_arg3)
          ∧ r.2.mem ((c.tc : Thread Cert.ProjSsmReferenceIdeal.nD Cert.ProjSsmReferenceIdeal.τ).loc Cert.ProjSsmReferenceIdeal.main_arg4) = m' ((c.tc : Thread Cert.ProjSsmReferenceIdeal.nD Cert.ProjSsmReferenceIdeal.τ).loc Cert.ProjSsmReferenceIdeal.main_arg4))

def preserves_ProjNsaKernel_ProjNsaKernelIdeal : Prop :=
  True

def algebraic_ProjNsaKernelIdeal_ProjNsaReferenceIdeal [hProjNsaKernelIdeal : Cert.ProjNsaKernelIdeal.Facts] [hProjNsaReferenceIdeal : Cert.ProjNsaReferenceIdeal.Facts] : Prop :=
  ∀ (m : (ℓ : Loc Cert.ProjNsaKernelIdeal.nD Cert.ProjNsaKernelIdeal.τ Cert.ProjNsaKernelIdeal.sig) → Buf (Elt Ideal) ℓ) (g : Dev Cert.ProjNsaKernelIdeal.nD → PrngReg)
    (m' : (ℓ : Loc Cert.ProjNsaReferenceIdeal.nD Cert.ProjNsaReferenceIdeal.τ Cert.ProjNsaReferenceIdeal.sig) → Buf (Elt Ideal) ℓ) (g' : Dev Cert.ProjNsaReferenceIdeal.nD → PrngReg), Pre_ProjNsaKernelIdeal m →
    (∀ c : Dev Cert.ProjNsaKernelIdeal.nD,
      m' ((c.tc : Thread Cert.ProjNsaReferenceIdeal.nD Cert.ProjNsaReferenceIdeal.τ).loc Cert.ProjNsaReferenceIdeal.main_arg0) = m ((c.tc : Thread Cert.ProjNsaKernelIdeal.nD Cert.ProjNsaKernelIdeal.τ).loc Cert.ProjNsaKernelIdeal.main_arg0)
      ∧ m' ((c.tc : Thread Cert.ProjNsaReferenceIdeal.nD Cert.ProjNsaReferenceIdeal.τ).loc Cert.ProjNsaReferenceIdeal.main_arg1) = m ((c.tc : Thread Cert.ProjNsaKernelIdeal.nD Cert.ProjNsaKernelIdeal.τ).loc Cert.ProjNsaKernelIdeal.main_arg1)
      ∧ m' ((c.tc : Thread Cert.ProjNsaReferenceIdeal.nD Cert.ProjNsaReferenceIdeal.τ).loc Cert.ProjNsaReferenceIdeal.main_arg2) = m ((c.tc : Thread Cert.ProjNsaKernelIdeal.nD Cert.ProjNsaKernelIdeal.τ).loc Cert.ProjNsaKernelIdeal.main_arg2)
      ∧ m' ((c.tc : Thread Cert.ProjNsaReferenceIdeal.nD Cert.ProjNsaReferenceIdeal.τ).loc Cert.ProjNsaReferenceIdeal.main_arg3) = m ((c.tc : Thread Cert.ProjNsaKernelIdeal.nD Cert.ProjNsaKernelIdeal.τ).loc Cert.ProjNsaKernelIdeal.main_arg3)
      ∧ m' ((c.tc : Thread Cert.ProjNsaReferenceIdeal.nD Cert.ProjNsaReferenceIdeal.τ).loc Cert.ProjNsaReferenceIdeal.main_arg4) = m ((c.tc : Thread Cert.ProjNsaKernelIdeal.nD Cert.ProjNsaKernelIdeal.τ).loc Cert.ProjNsaKernelIdeal.main_arg4)) →
    ∃ (v0 : (c : Dev Cert.ProjNsaKernelIdeal.nD) → Buf (Elt Ideal) ((c.tc : Thread Cert.ProjNsaKernelIdeal.nD Cert.ProjNsaKernelIdeal.τ).loc Cert.ProjNsaKernelIdeal.main_v13_0)) (v1 : (c : Dev Cert.ProjNsaKernelIdeal.nD) → Buf (Elt Ideal) ((c.tc : Thread Cert.ProjNsaKernelIdeal.nD Cert.ProjNsaKernelIdeal.τ).loc Cert.ProjNsaKernelIdeal.main_v13_1)) (v2 : (c : Dev Cert.ProjNsaKernelIdeal.nD) → Buf (Elt Ideal) ((c.tc : Thread Cert.ProjNsaKernelIdeal.nD Cert.ProjNsaKernelIdeal.τ).loc Cert.ProjNsaKernelIdeal.main_v13_2)) (v3 : (c : Dev Cert.ProjNsaKernelIdeal.nD) → Buf (Elt Ideal) ((c.tc : Thread Cert.ProjNsaKernelIdeal.nD Cert.ProjNsaKernelIdeal.τ).loc Cert.ProjNsaKernelIdeal.main_v13_3)) (v4 : (c : Dev Cert.ProjNsaKernelIdeal.nD) → Buf (Elt Ideal) ((c.tc : Thread Cert.ProjNsaKernelIdeal.nD Cert.ProjNsaKernelIdeal.τ).loc Cert.ProjNsaKernelIdeal.main_v13_5)),
      θ_run (Cert.ProjNsaKernelIdeal.defs (F := Ideal)) (onTc (τ := Cert.ProjNsaKernelIdeal.τ) (Cert.ProjNsaKernelIdeal.main (F := Ideal))) ⟨m, fun _ => 0, g⟩ (fun r => ∀ c : Dev Cert.ProjNsaKernelIdeal.nD,
          r.2.mem ((c.tc : Thread Cert.ProjNsaKernelIdeal.nD Cert.ProjNsaKernelIdeal.τ).loc Cert.ProjNsaKernelIdeal.main_v13_0) = v0 c
          ∧ r.2.mem ((c.tc : Thread Cert.ProjNsaKernelIdeal.nD Cert.ProjNsaKernelIdeal.τ).loc Cert.ProjNsaKernelIdeal.main_v13_1) = v1 c
          ∧ r.2.mem ((c.tc : Thread Cert.ProjNsaKernelIdeal.nD Cert.ProjNsaKernelIdeal.τ).loc Cert.ProjNsaKernelIdeal.main_v13_2) = v2 c
          ∧ r.2.mem ((c.tc : Thread Cert.ProjNsaKernelIdeal.nD Cert.ProjNsaKernelIdeal.τ).loc Cert.ProjNsaKernelIdeal.main_v13_3) = v3 c
          ∧ r.2.mem ((c.tc : Thread Cert.ProjNsaKernelIdeal.nD Cert.ProjNsaKernelIdeal.τ).loc Cert.ProjNsaKernelIdeal.main_v13_5) = v4 c
          ∧ r.2.mem ((c.tc : Thread Cert.ProjNsaKernelIdeal.nD Cert.ProjNsaKernelIdeal.τ).loc Cert.ProjNsaKernelIdeal.main_arg0) = m ((c.tc : Thread Cert.ProjNsaKernelIdeal.nD Cert.ProjNsaKernelIdeal.τ).loc Cert.ProjNsaKernelIdeal.main_arg0)
          ∧ r.2.mem ((c.tc : Thread Cert.ProjNsaKernelIdeal.nD Cert.ProjNsaKernelIdeal.τ).loc Cert.ProjNsaKernelIdeal.main_arg1) = m ((c.tc : Thread Cert.ProjNsaKernelIdeal.nD Cert.ProjNsaKernelIdeal.τ).loc Cert.ProjNsaKernelIdeal.main_arg1)
          ∧ r.2.mem ((c.tc : Thread Cert.ProjNsaKernelIdeal.nD Cert.ProjNsaKernelIdeal.τ).loc Cert.ProjNsaKernelIdeal.main_arg2) = m ((c.tc : Thread Cert.ProjNsaKernelIdeal.nD Cert.ProjNsaKernelIdeal.τ).loc Cert.ProjNsaKernelIdeal.main_arg2)
          ∧ r.2.mem ((c.tc : Thread Cert.ProjNsaKernelIdeal.nD Cert.ProjNsaKernelIdeal.τ).loc Cert.ProjNsaKernelIdeal.main_arg3) = m ((c.tc : Thread Cert.ProjNsaKernelIdeal.nD Cert.ProjNsaKernelIdeal.τ).loc Cert.ProjNsaKernelIdeal.main_arg3)
          ∧ r.2.mem ((c.tc : Thread Cert.ProjNsaKernelIdeal.nD Cert.ProjNsaKernelIdeal.τ).loc Cert.ProjNsaKernelIdeal.main_arg4) = m ((c.tc : Thread Cert.ProjNsaKernelIdeal.nD Cert.ProjNsaKernelIdeal.τ).loc Cert.ProjNsaKernelIdeal.main_arg4))
      ∧ θ_run (Cert.ProjNsaReferenceIdeal.defs (F := Ideal)) (onTc (τ := Cert.ProjNsaReferenceIdeal.τ) (Cert.ProjNsaReferenceIdeal.main (F := Ideal))) ⟨m', fun _ => 0, g'⟩ (fun r => ∀ c : Dev Cert.ProjNsaReferenceIdeal.nD,
          r.2.mem ((c.tc : Thread Cert.ProjNsaReferenceIdeal.nD Cert.ProjNsaReferenceIdeal.τ).loc Cert.ProjNsaReferenceIdeal.main_v32) = v0 c
          ∧ r.2.mem ((c.tc : Thread Cert.ProjNsaReferenceIdeal.nD Cert.ProjNsaReferenceIdeal.τ).loc Cert.ProjNsaReferenceIdeal.main_v36) = v1 c
          ∧ r.2.mem ((c.tc : Thread Cert.ProjNsaReferenceIdeal.nD Cert.ProjNsaReferenceIdeal.τ).loc Cert.ProjNsaReferenceIdeal.main_v40) = v2 c
          ∧ r.2.mem ((c.tc : Thread Cert.ProjNsaReferenceIdeal.nD Cert.ProjNsaReferenceIdeal.τ).loc Cert.ProjNsaReferenceIdeal.main_v44) = v3 c
          ∧ r.2.mem ((c.tc : Thread Cert.ProjNsaReferenceIdeal.nD Cert.ProjNsaReferenceIdeal.τ).loc Cert.ProjNsaReferenceIdeal.main_v45) = v4 c
          ∧ r.2.mem ((c.tc : Thread Cert.ProjNsaReferenceIdeal.nD Cert.ProjNsaReferenceIdeal.τ).loc Cert.ProjNsaReferenceIdeal.main_arg0) = m' ((c.tc : Thread Cert.ProjNsaReferenceIdeal.nD Cert.ProjNsaReferenceIdeal.τ).loc Cert.ProjNsaReferenceIdeal.main_arg0)
          ∧ r.2.mem ((c.tc : Thread Cert.ProjNsaReferenceIdeal.nD Cert.ProjNsaReferenceIdeal.τ).loc Cert.ProjNsaReferenceIdeal.main_arg1) = m' ((c.tc : Thread Cert.ProjNsaReferenceIdeal.nD Cert.ProjNsaReferenceIdeal.τ).loc Cert.ProjNsaReferenceIdeal.main_arg1)
          ∧ r.2.mem ((c.tc : Thread Cert.ProjNsaReferenceIdeal.nD Cert.ProjNsaReferenceIdeal.τ).loc Cert.ProjNsaReferenceIdeal.main_arg2) = m' ((c.tc : Thread Cert.ProjNsaReferenceIdeal.nD Cert.ProjNsaReferenceIdeal.τ).loc Cert.ProjNsaReferenceIdeal.main_arg2)
          ∧ r.2.mem ((c.tc : Thread Cert.ProjNsaReferenceIdeal.nD Cert.ProjNsaReferenceIdeal.τ).loc Cert.ProjNsaReferenceIdeal.main_arg3) = m' ((c.tc : Thread Cert.ProjNsaReferenceIdeal.nD Cert.ProjNsaReferenceIdeal.τ).loc Cert.ProjNsaReferenceIdeal.main_arg3)
          ∧ r.2.mem ((c.tc : Thread Cert.ProjNsaReferenceIdeal.nD Cert.ProjNsaReferenceIdeal.τ).loc Cert.ProjNsaReferenceIdeal.main_arg4) = m' ((c.tc : Thread Cert.ProjNsaReferenceIdeal.nD Cert.ProjNsaReferenceIdeal.τ).loc Cert.ProjNsaReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hProjRwKernel : Cert.ProjRwKernel.Facts) (hProjRwKernelIdeal : Cert.ProjRwKernelIdeal.Facts) (hProjRwReferenceIdeal : Cert.ProjRwReferenceIdeal.Facts) (hProjSsmKernel : Cert.ProjSsmKernel.Facts) (hProjSsmKernelIdeal : Cert.ProjSsmKernelIdeal.Facts) (hProjSsmReferenceIdeal : Cert.ProjSsmReferenceIdeal.Facts) (hProjNsaKernel : Cert.ProjNsaKernel.Facts) (hProjNsaKernelIdeal : Cert.ProjNsaKernelIdeal.Facts) (hProjNsaReferenceIdeal : Cert.ProjNsaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ProjRwKernel (hProjRwKernel := hProjRwKernel)
    ∧ quiescent_ProjRwKernelIdeal (hProjRwKernelIdeal := hProjRwKernelIdeal)
    ∧ quiescent_ProjRwReferenceIdeal (hProjRwReferenceIdeal := hProjRwReferenceIdeal)
    ∧ quiescent_ProjSsmKernel (hProjSsmKernel := hProjSsmKernel)
    ∧ quiescent_ProjSsmKernelIdeal (hProjSsmKernelIdeal := hProjSsmKernelIdeal)
    ∧ quiescent_ProjSsmReferenceIdeal (hProjSsmReferenceIdeal := hProjSsmReferenceIdeal)
    ∧ quiescent_ProjNsaKernel (hProjNsaKernel := hProjNsaKernel)
    ∧ quiescent_ProjNsaKernelIdeal (hProjNsaKernelIdeal := hProjNsaKernelIdeal)
    ∧ quiescent_ProjNsaReferenceIdeal (hProjNsaReferenceIdeal := hProjNsaReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ProjRwKernel_ProjRwKernelIdeal
    ∧ algebraic_ProjRwKernelIdeal_ProjRwReferenceIdeal (hProjRwKernelIdeal := hProjRwKernelIdeal) (hProjRwReferenceIdeal := hProjRwReferenceIdeal)
    ∧ preserves_ProjSsmKernel_ProjSsmKernelIdeal
    ∧ algebraic_ProjSsmKernelIdeal_ProjSsmReferenceIdeal (hProjSsmKernelIdeal := hProjSsmKernelIdeal) (hProjSsmReferenceIdeal := hProjSsmReferenceIdeal)
    ∧ preserves_ProjNsaKernel_ProjNsaKernelIdeal
    ∧ algebraic_ProjNsaKernelIdeal_ProjNsaReferenceIdeal (hProjNsaKernelIdeal := hProjNsaKernelIdeal) (hProjNsaReferenceIdeal := hProjNsaReferenceIdeal)
-- ==== Kernel.lean ====
abbrev S4x4096x2048 : Shape := ⟨3, ![4, 4096, 2048]⟩
abbrev S4x4096x3072 : Shape := ⟨3, ![4, 4096, 3072]⟩
abbrev S4x4096x128 : Shape := ⟨3, ![4, 4096, 128]⟩
abbrev S4x3x3072 : Shape := ⟨3, ![4, 3, 3072]⟩
abbrev S4x32x64x128 : Shape := ⟨4, ![4, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128 : Shape := ⟨1, ![128]⟩
abbrev S128x1 : Shape := ⟨2, ![128, 1]⟩
abbrev S1x2048 : Shape := ⟨2, ![1, 2048]⟩
abbrev S_ : Shape := ⟨0, ![]⟩
abbrev S128x2048 : Shape := ⟨2, ![128, 2048]⟩
abbrev S4x4x512x128 : Shape := ⟨4, ![4, 4, 512, 128]⟩
abbrev S1x3072 : Shape := ⟨2, ![1, 3072]⟩
abbrev S1x128 : Shape := ⟨2, ![1, 128]⟩
abbrev S32x64 : Shape := ⟨2, ![32, 64]⟩
abbrev S1x128x2048 : Shape := ⟨3, ![1, 128, 2048]⟩
abbrev S1x128x3072 : Shape := ⟨3, ![1, 128, 3072]⟩
abbrev S1x128x128 : Shape := ⟨3, ![1, 128, 128]⟩
abbrev S1x3x3072 : Shape := ⟨3, ![1, 3, 3072]⟩
abbrev S1x4x512x128 : Shape := ⟨4, ![1, 4, 512, 128]⟩
abbrev S3x3072 : Shape := ⟨2, ![3, 3072]⟩
abbrev S4x512x128 : Shape := ⟨3, ![4, 512, 128]⟩
abbrev S128x3072 : Shape := ⟨2, ![128, 3072]⟩
abbrev S131x3072 : Shape := ⟨2, ![131, 3072]⟩
abbrev S128x512 : Shape := ⟨2, ![128, 512]⟩
abbrev S128x128 : Shape := ⟨2, ![128, 128]⟩
abbrev S384x128 : Shape := ⟨2, ![384, 128]⟩
abbrev S384x2048 : Shape := ⟨2, ![384, 2048]⟩
abbrev S512x128 : Shape := ⟨2, ![512, 128]⟩
abbrev S1x512x128 : Shape := ⟨3, ![1, 512, 128]⟩
abbrev S128x64 : Shape := ⟨2, ![128, 64]⟩
abbrev S512 : Shape := ⟨1, ![512]⟩
abbrev S512x1 : Shape := ⟨2, ![512, 1]⟩

abbrev nBuf : Space → Nat
  | .hbm => 54
  | .vmem => 25
  | .smem => 0
  | _ => 0

abbrev bufTy : (tb : Table) → Fin (tcTables nBuf tb) → BufTy
  | .hbm, ⟨0, _⟩ => ⟨S4x4096x2048, .f32⟩
  | .hbm, ⟨1, _⟩ => ⟨S4x4096x3072, .f32⟩
  | .hbm, ⟨2, _⟩ => ⟨S4x4096x128, .f32⟩
  | .hbm, ⟨3, _⟩ => ⟨S4x3x3072, .f32⟩
  | .hbm, ⟨4, _⟩ => ⟨S4x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S128, .i32⟩
  | .hbm, ⟨12, _⟩ => ⟨S128x1, .i32⟩
  | .hbm, ⟨13, _⟩ => ⟨S2048, .i32⟩
  | .hbm, ⟨14, _⟩ => ⟨S1x2048, .i32⟩
  | .hbm, ⟨15, _⟩ => ⟨S_, .i32⟩
  | .hbm, ⟨16, _⟩ => ⟨S_, .i32⟩
  | .hbm, ⟨17, _⟩ => ⟨S1x2048, .i32⟩
  | .hbm, ⟨18, _⟩ => ⟨S1x2048, .i32⟩
  | .hbm, ⟨19, _⟩ => ⟨S1x2048, .i32⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S1x2048, .i32⟩
  | .hbm, ⟨24, _⟩ => ⟨S1x2048, .i32⟩
  | .hbm, ⟨25, _⟩ => ⟨S_, .i32⟩
  | .hbm, ⟨26, _⟩ => ⟨S1x2048, .i32⟩
  | .hbm, ⟨27, _⟩ => ⟨S1x2048, .i1⟩
  | .hbm, ⟨28, _⟩ => ⟨S1x2048, .i1⟩
  | .hbm, ⟨29, _⟩ => ⟨S_, .i32⟩
  | .hbm, ⟨30, _⟩ => ⟨S1x2048, .i32⟩
  | .hbm, ⟨31, _⟩ => ⟨S1x2048, .i32⟩
  | .hbm, ⟨32, _⟩ => ⟨S1x2048, .i32⟩
  | .hbm, ⟨33, _⟩ => ⟨S128x2048, .i32⟩
  | .hbm, ⟨34, _⟩ => ⟨S128x2048, .i32⟩
  | .hbm, ⟨35, _⟩ => ⟨S128x2048, .i1⟩
  | .hbm, ⟨36, _⟩ => ⟨S128x2048, .f32⟩
  | .hbm, ⟨37, _⟩ => ⟨S4x4x512x128, .f32⟩
  | .hbm, ⟨38, _⟩ => ⟨S1x3072, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S32x64, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S4x4096x2048, .f32⟩
  | .hbm, ⟨52, _⟩ => ⟨S4x3x3072, .f32⟩
  | .hbm, ⟨53, _⟩ => ⟨S4x4x512x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x3072, .f32⟩
  | .local _ .vmem, ⟨3, _⟩ => ⟨S1x128x3072, .f32⟩
  | .local _ .vmem, ⟨4, _⟩ => ⟨S1x128x128, .f32⟩
  | .local _ .vmem, ⟨5, _⟩ => ⟨S1x128x128, .f32⟩
  | .local _ .vmem, ⟨6, _⟩ => ⟨S1x3x3072, .f32⟩
  | .local _ .vmem, ⟨7, _⟩ => ⟨S1x3x3072, .f32⟩
  | .local _ .vmem, ⟨8, _⟩ => ⟨S1x4x512x128, .f32⟩
  | .local _ .vmem, ⟨9, _⟩ => ⟨S1x4x512x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x3x3072, .f32⟩
  | .local _ .vmem, ⟨20, _⟩ => ⟨S1x3x3072, .f32⟩
  | .local _ .vmem, ⟨21, _⟩ => ⟨S1x4x512x128, .f32⟩
  | .local _ .vmem, ⟨22, _⟩ => ⟨S1x4x512x128, .f32⟩
  | .local _ .vmem, ⟨23, _⟩ => ⟨S3x3072, .f32⟩
  | .local _ .vmem, ⟨24, _⟩ => ⟨S4x512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_call1_v0 : Ref sig .tc := ⟨.hbm, 40, rfl⟩
abbrev main_v11 : Ref sig .tc := ⟨.hbm, 41, rfl⟩
abbrev main_v12 : Ref sig .tc := ⟨.hbm, 42, rfl⟩
abbrev main_c_1 : Ref sig .tc := ⟨.hbm, 43, rfl⟩
abbrev main_call2_v0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19_0 : Ref sig .tc := ⟨.hbm, 51, rfl⟩
abbrev main_v19_1 : Ref sig .tc := ⟨.hbm, 52, rfl⟩
abbrev main_v19_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v651 : BitVec 1 := Scalar.cmpi .eq arg1 c31_i32
  let v652 : BitVec 32 := Scalar.extui v651
  let c0_i32_155 : BitVec 32 := 0#32
  let v653 : BitVec 1 := Scalar.cmpi .ne v652 c0_i32_155
  v653

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4x4096x2048 : Shape := ⟨3, ![4, 4096, 2048]⟩
abbrev S4x4096x3072 : Shape := ⟨3, ![4, 4096, 3072]⟩
abbrev S4x4096x128 : Shape := ⟨3, ![4, 4096, 128]⟩
abbrev S4x3x3072 : Shape := ⟨3, ![4, 3, 3072]⟩
abbrev S4x32x64x128 : Shape := ⟨4, ![4, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S4x4099x3072 : Shape := ⟨3, ![4, 4099, 3072]⟩
abbrev S1x3072 : Shape := ⟨2, ![1, 3072]⟩
abbrev S1x1x3072 : Shape := ⟨3, ![1, 1, 3072]⟩
abbrev S_ : Shape := ⟨0, ![]⟩
abbrev S4x4096x512 : Shape := ⟨3, ![4, 4096, 512]⟩
abbrev S4x4096x4x8x64 : Shape := ⟨5, ![4, 4096, 4, 8, 64]⟩
abbrev S4x4096x4x128 : Shape := ⟨4, ![4, 4096, 4, 128]⟩
abbrev S4x4096x32 : Shape := ⟨3, ![4, 4096, 32]⟩
abbrev S1x1x32 : Shape := ⟨3, ![1, 1, 32]⟩
abbrev S4x4096x4x8 : Shape := ⟨4, ![4, 4096, 4, 8]⟩
abbrev S4x8 : Shape := ⟨2, ![4, 8]⟩
abbrev S4x4x8x64x128 : Shape := ⟨5, ![4, 4, 8, 64, 128]⟩
abbrev S4x4096x4x8x1 : Shape := ⟨5, ![4, 4096, 4, 8, 1]⟩
abbrev S4x32x128x4x8x64 : Shape := ⟨6, ![4, 32, 128, 4, 8, 64]⟩
abbrev S1x1x4x8 : Shape := ⟨4, ![1, 1, 4, 8]⟩
abbrev S4x32x128x4x8 : Shape := ⟨5, ![4, 32, 128, 4, 8]⟩
abbrev S4x32x128x4x128 : Shape := ⟨5, ![4, 32, 128, 4, 128]⟩
abbrev S4x32x128x1x4x8 : Shape := ⟨6, ![4, 32, 128, 1, 4, 8]⟩
abbrev S4x32x1x128x4x8 : Shape := ⟨6, ![4, 32, 1, 128, 4, 8]⟩
abbrev S4x32x128x128x4x8 : Shape := ⟨6, ![4, 32, 128, 128, 4, 8]⟩
abbrev S128x128 : Shape := ⟨2, ![128, 128]⟩
abbrev S128x128x1x1 : Shape := ⟨4, ![128, 128, 1, 1]⟩
abbrev S4x32x4x128x128 : Shape := ⟨5, ![4, 32, 4, 128, 128]⟩
abbrev S4x32x128x128x4 : Shape := ⟨5, ![4, 32, 128, 128, 4]⟩
abbrev S4x32x128x128x4x1 : Shape := ⟨6, ![4, 32, 128, 128, 4, 1]⟩
abbrev S4x32x4x8x64x128 : Shape := ⟨6, ![4, 32, 4, 8, 64, 128]⟩
abbrev S4x32x1x4x8 : Shape := ⟨5, ![4, 32, 1, 4, 8]⟩
abbrev S4x32x128x4x8x1 : Shape := ⟨6, ![4, 32, 128, 4, 8, 1]⟩
abbrev S4x32x4x8 : Shape := ⟨4, ![4, 32, 4, 8]⟩
abbrev S32x4x4x8x64x128 : Shape := ⟨6, ![32, 4, 4, 8, 64, 128]⟩
abbrev S32x4x4x8 : Shape := ⟨4, ![32, 4, 4, 8]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S4x4x8x1x1 : Shape := ⟨5, ![4, 4, 8, 1, 1]⟩
abbrev S4x8x1 : Shape := ⟨3, ![4, 8, 1]⟩
abbrev S1x1x4x8x1 : Shape := ⟨5, ![1, 1, 4, 8, 1]⟩
abbrev S4x4096 : Shape := ⟨2, ![4, 4096]⟩
abbrev S4x4096x1 : Shape := ⟨3, ![4, 4096, 1]⟩
abbrev S1x1x2048 : Shape := ⟨3, ![1, 1, 2048]⟩
abbrev S4x4x512x128 : Shape := ⟨4, ![4, 4, 512, 128]⟩

abbrev nBuf : Space → Nat
  | .hbm => 218
  | .vmem => 0
  | .smem => 0
  | _ => 0

abbrev hbmTy0_0 (i : Nat) : BufTy := match i % 128 with
  | 0 => ⟨S4x4096x2048, .f32⟩
  | 1 => ⟨S4x4096x3072, .f32⟩
  | 2 => ⟨S4x4096x128, .f32⟩
  | 3 => ⟨S4x3x3072, .f32⟩
  | 4 => ⟨S4x32x64x128, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S4x4099x3072, .f32⟩
  | 12 => ⟨S4x4096x3072, .f32⟩
  | 13 => ⟨S1x3072, .f32⟩
  | 14 => ⟨S3072, .f32⟩
  | 15 => ⟨S1x1x3072, .f32⟩
  | 16 => ⟨S4x4096x3072, .f32⟩
  | 17 => ⟨S4x4096x3072, .f32⟩
  | 18 => ⟨S_, .f32⟩
  | 19 => ⟨S4x4096x3072, .f32⟩
  | 20 => ⟨S4x4096x3072, .f32⟩
  | 21 => ⟨S4x4096x3072, .f32⟩
  | 22 => ⟨S1x3072, .f32⟩
  | 23 => ⟨S3072, .f32⟩
  | 24 => ⟨S1x1x3072, .f32⟩
  | 25 => ⟨S4x4096x3072, .f32⟩
  | 26 => ⟨S4x4096x3072, .f32⟩
  | 27 => ⟨S4x4096x3072, .f32⟩
  | 28 => ⟨S4x4096x3072, .f32⟩
  | 29 => ⟨S1x3072, .f32⟩
  | 30 => ⟨S3072, .f32⟩
  | 31 => ⟨S1x1x3072, .f32⟩
  | 32 => ⟨S4x4096x3072, .f32⟩
  | 33 => ⟨S4x4096x3072, .f32⟩
  | 34 => ⟨S4x4096x3072, .f32⟩
  | 35 => ⟨S4x4096x3072, .f32⟩
  | 36 => ⟨S1x3072, .f32⟩
  | 37 => ⟨S3072, .f32⟩
  | 38 => ⟨S1x1x3072, .f32⟩
  | 39 => ⟨S4x4096x3072, .f32⟩
  | 40 => ⟨S4x4096x3072, .f32⟩
  | 41 => ⟨S4x4096x3072, .f32⟩
  | 42 => ⟨S1x1x3072, .f32⟩
  | 43 => ⟨S4x4096x3072, .f32⟩
  | 44 => ⟨S4x4096x3072, .f32⟩
  | 45 => ⟨S4x4096x3072, .f32⟩
  | 46 => ⟨S4x4096x3072, .f32⟩
  | 47 => ⟨S_, .f32⟩
  | 48 => ⟨S4x4096x3072, .f32⟩
  | 49 => ⟨S4x4096x3072, .f32⟩
  | 50 => ⟨S_, .f32⟩
  | 51 => ⟨S4x4096x3072, .f32⟩
  | 52 => ⟨S4x4096x3072, .f32⟩
  | 53 => ⟨S4x4096x3072, .f32⟩
  | 54 => ⟨S4x4096x2048, .f32⟩
  | 55 => ⟨S4x4096x512, .f32⟩
  | 56 => ⟨S4x4096x512, .f32⟩
  | 57 => ⟨S4x4096x4x8x64, .f32⟩
  | 58 => ⟨S4x4096x4x128, .f32⟩
  | 59 => ⟨S4x4096x4x128, .f32⟩
  | 60 => ⟨S4x4096x32, .f32⟩
  | 61 => ⟨S1x1x32, .f32⟩
  | 62 => ⟨S4x4096x32, .f32⟩
  | 63 => ⟨S4x4096x32, .f32⟩
  | 64 => ⟨S_, .f32⟩
  | 65 => ⟨S4x4096x32, .f32⟩
  | 66 => ⟨S4x4096x32, .f32⟩
  | 67 => ⟨S4x4096x32, .f32⟩
  | 68 => ⟨S4x4096x32, .f32⟩
  | 69 => ⟨S4x4096x32, .i1⟩
  | 70 => ⟨S4x4096x32, .f32⟩
  | 71 => ⟨S4x4096x32, .f32⟩
  | 72 => ⟨S4x4096x32, .f32⟩
  | 73 => ⟨S4x4096x32, .f32⟩
  | 74 => ⟨S4x4096x32, .f32⟩
  | 75 => ⟨S4x4096x32, .f32⟩
  | 76 => ⟨S4x4096x32, .f32⟩
  | 77 => ⟨S4x4096x32, .f32⟩
  | 78 => ⟨S4x4096x4x8, .f32⟩
  | 79 => ⟨S32, .f32⟩
  | 80 => ⟨S4x8, .f32⟩
  | 81 => ⟨S4x8, .f32⟩
  | 82 => ⟨S4x4x8x64x128, .f32⟩
  | 83 => ⟨S4x4096x4x8x1, .f32⟩
  | 84 => ⟨S4x4096x4x8x64, .f32⟩
  | 85 => ⟨S4x4096x4x8x64, .f32⟩
  | 86 => ⟨S4x32x128x4x8x64, .f32⟩
  | 87 => ⟨S1x1x4x8, .f32⟩
  | 88 => ⟨S4x4096x4x8, .f32⟩
  | 89 => ⟨S4x4096x4x8, .f32⟩
  | 90 => ⟨S4x32x128x4x8, .f32⟩
  | 91 => ⟨S_, .f32⟩
  | 92 => ⟨S_, .f32⟩
  | 93 => ⟨S4x32x128x4x8, .f32⟩
  | 94 => ⟨S4x32x128x4x128, .f32⟩
  | 95 => ⟨S4x32x128x4x128, .f32⟩
  | 96 => ⟨S4x32x128x1x4x8, .f32⟩
  | 97 => ⟨S4x32x1x128x4x8, .f32⟩
  | 98 => ⟨S4x32x128x128x4x8, .f32⟩
  | 99 => ⟨S4x32x128x128x4x8, .f32⟩
  | 100 => ⟨S4x32x128x128x4x8, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S128x128x1x1, .i1⟩
  | 113 => ⟨S_, .f32⟩
  | 114 => ⟨S_, .f32⟩
  | 115 => ⟨S4x32x128x128x4x8, .i1⟩
  | 116 => ⟨S4x32x128x128x4x8, .f32⟩
  | 117 => ⟨S4x32x128x128x4x8, .f32⟩
  | 118 => ⟨S4x32x128x128x4x8, .f32⟩
  | 119 => ⟨S4x32x4x128x128, .f32⟩
  | 120 => ⟨S4x32x128x128x4, .f32⟩
  | 121 => ⟨S4x32x128x128x4x1, .f32⟩
  | 122 => ⟨S4x32x128x128x4x8, .f32⟩
  | 123 => ⟨S4x32x128x128x4x8, .f32⟩
  | 124 => ⟨S4x32x4x8x64x128, .f32⟩
  | 125 => ⟨S4x32x128x4x8x64, .f32⟩
  | 126 => ⟨S4x32x1x4x8, .f32⟩
  | 127 => ⟨S4x32x128x4x8, .f32⟩
  | _ => ⟨S4x4096x2048, .f32⟩

abbrev hbmTy0_1 (i : Nat) : BufTy := match i % 128 with
  | 0 => ⟨S4x32x128x4x8, .f32⟩
  | 1 => ⟨S4x32x128x4x8, .f32⟩
  | 2 => ⟨S4x32x128x4x8x1, .f32⟩
  | 3 => ⟨S4x32x128x4x8x64, .f32⟩
  | 4 => ⟨S4x32x128x4x8x64, .f32⟩
  | 5 => ⟨S4x32x4x8x64x128, .f32⟩
  | 6 => ⟨S4x32x1x4x8, .f32⟩
  | 7 => ⟨S4x32x4x8, .f32⟩
  | 8 => ⟨S4x32x4x8, .f32⟩
  | 9 => ⟨S32x4x4x8x64x128, .f32⟩
  | 10 => ⟨S32x4x4x8, .f32⟩
  | 11 => ⟨S_, .f32⟩
  | 12 => ⟨S32x4x4x8x64x128, .f32⟩
  | 13 => ⟨S_, .i32⟩
  | 14 => ⟨S32x4x4x8x64x128, .f32⟩
  | 15 => ⟨S32x4x4x8, .f32⟩
  | 16 => ⟨S_, .i32⟩
  | 17 => ⟨S4x4x8x64x128, .f32⟩
  | 18 => ⟨S32x4x4x8x64x128, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x4x4x8x64x128, .f32⟩
  | 27 => ⟨S4x4x8x64x128, .f32⟩
  | 28 => ⟨S_, .i32⟩
  | 29 => ⟨S_, .i32⟩
  | 30 => ⟨S_, .i32⟩
  | 31 => ⟨S1x4x4x8, .f32⟩
  | 32 => ⟨S4x4x8, .f32⟩
  | 33 => ⟨S4x4x8x1x1, .f32⟩
  | 34 => ⟨S4x4x8x64x128, .f32⟩
  | 35 => ⟨S4x4x8x64x128, .f32⟩
  | 36 => ⟨S4x4x8x64x128, .f32⟩
  | 37 => ⟨S1x4x4x8x64x128, .f32⟩
  | 38 => ⟨S_, .i32⟩
  | 39 => ⟨S_, .i32⟩
  | 40 => ⟨S_, .i32⟩
  | 41 => ⟨S_, .i32⟩
  | 42 => ⟨S_, .i32⟩
  | 43 => ⟨S32x4x4x8x64x128, .f32⟩
  | 44 => ⟨S_, .i32⟩
  | 45 => ⟨S_, .i32⟩
  | 46 => ⟨S4x32x4x8x64x128, .f32⟩
  | 47 => ⟨S4x32x4x8x64x128, .f32⟩
  | 48 => ⟨S4x32x128x4x8x64, .f32⟩
  | 49 => ⟨S4x32x128x4x8, .f32⟩
  | 50 => ⟨S4x32x128x4x8x1, .f32⟩
  | 51 => ⟨S4x32x128x4x8x64, .f32⟩
  | 52 => ⟨S4x32x128x4x8x64, .f32⟩
  | 53 => ⟨S4x32x128x4x8x64, .f32⟩
  | 54 => ⟨S4x4096x4x8x64, .f32⟩
  | 55 => ⟨S4x8, .f32⟩
  | 56 => ⟨S4x8x1, .f32⟩
  | 57 => ⟨S1x1x4x8x1, .f32⟩
  | 58 => ⟨S4x4096x4x8x64, .f32⟩
  | 59 => ⟨S4x4096x4x8x64, .f32⟩
  | 60 => ⟨S4x4096x4x8x64, .f32⟩
  | 61 => ⟨S4x4096x2048, .f32⟩
  | 62 => ⟨S4x4096x2048, .f32⟩
  | 63 => ⟨S4x4096x2048, .f32⟩
  | 64 => ⟨S_, .f32⟩
  | 65 => ⟨S4x4096x2048, .f32⟩
  | 66 => ⟨S4x4096x2048, .f32⟩
  | 67 => ⟨S_, .f32⟩
  | 68 => ⟨S4x4096x2048, .f32⟩
  | 69 => ⟨S4x4096x2048, .f32⟩
  | 70 => ⟨S4x4096x2048, .f32⟩
  | 71 => ⟨S4x4096x2048, .f32⟩
  | 72 => ⟨S4x4096x2048, .f32⟩
  | 73 => ⟨S_, .f32⟩
  | 74 => ⟨S4x4096, .f32⟩
  | 75 => ⟨S4x4096x1, .f32⟩
  | 76 => ⟨S_, .f32⟩
  | 77 => ⟨S4x4096x1, .f32⟩
  | 78 => ⟨S4x4096x1, .f32⟩
  | 79 => ⟨S_, .f32⟩
  | 80 => ⟨S4x4096x1, .f32⟩
  | 81 => ⟨S4x4096x1, .f32⟩
  | 82 => ⟨S4x4096x1, .f32⟩
  | 83 => ⟨S4x4096x2048, .f32⟩
  | 84 => ⟨S4x4096x2048, .f32⟩
  | 85 => ⟨S1x1x2048, .f32⟩
  | 86 => ⟨S4x4096x2048, .f32⟩
  | 87 => ⟨S4x4096x2048, .f32⟩
  | 88 => ⟨S4x3x3072, .f32⟩
  | 89 => ⟨S4x4x512x128, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call2_call0_cst : Ref sig .tc := ⟨.hbm, 91, rfl⟩
abbrev main_call2_call0_v0 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c : Ref sig .tc := ⟨.hbm, 101, rfl⟩
abbrev main_v66 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_0 : Ref sig .tc := ⟨.hbm, 109, rfl⟩
abbrev main_call3_v5 : Ref sig .tc := ⟨.hbm, 110, rfl⟩
abbrev main_v67 : Ref sig .tc := ⟨.hbm, 111, rfl⟩
abbrev main_v68 : Ref sig .tc := ⟨.hbm, 112, rfl⟩
abbrev main_cst_0 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_1 : Ref sig .tc := ⟨.hbm, 139, rfl⟩
abbrev main_v91 : Ref sig .tc := ⟨.hbm, 140, rfl⟩
abbrev main_c_2 : Ref sig .tc := ⟨.hbm, 141, rfl⟩
abbrev main_v92_0 : Ref sig .tc := ⟨.hbm, 142, rfl⟩
abbrev main_v92_1 : Ref sig .tc := ⟨.hbm, 143, rfl⟩
abbrev main_v92_2 : Ref sig .tc := ⟨.hbm, 144, rfl⟩
abbrev main_v92_3 : Ref sig .tc := ⟨.hbm, 145, rfl⟩
abbrev main_v92_4 : Ref sig .tc := ⟨.hbm, 146, rfl⟩
abbrev main_while0c_c_10 : Ref sig .tc := ⟨.hbm, 147, rfl⟩
abbrev main_while0c_v126 : Ref sig .tc := ⟨.hbm, 148, rfl⟩
abbrev main_while0b_call5_c : Ref sig .tc := ⟨.hbm, 149, rfl⟩
abbrev main_while0b_call5_c_0 : Ref sig .tc := ⟨.hbm, 150, rfl⟩
abbrev main_while0b_call5_c_1 : Ref sig .tc := ⟨.hbm, 151, rfl⟩
abbrev main_while0b_call5_c_2 : Ref sig .tc := ⟨.hbm, 152, rfl⟩
abbrev main_while0b_call5_c_3 : Ref sig .tc := ⟨.hbm, 153, rfl⟩
abbrev main_while0b_call5_v0 : Ref sig .tc := ⟨.hbm, 154, rfl⟩
abbrev main_while0b_v126 : Ref sig .tc := ⟨.hbm, 155, rfl⟩
abbrev main_while0b_call6_c : Ref sig .tc := ⟨.hbm, 156, rfl⟩
abbrev main_while0b_call6_c_0 : Ref sig .tc := ⟨.hbm, 157, rfl⟩
abbrev main_while0b_call6_c_1 : Ref sig .tc := ⟨.hbm, 158, rfl⟩
abbrev main_while0b_call6_v0 : Ref sig .tc := ⟨.hbm, 159, rfl⟩
abbrev main_while0b_v127 : Ref sig .tc := ⟨.hbm, 160, rfl⟩
abbrev main_while0b_v128 : Ref sig .tc := ⟨.hbm, 161, rfl⟩
abbrev main_while0b_v129 : Ref sig .tc := ⟨.hbm, 162, rfl⟩
abbrev main_while0b_v130 : Ref sig .tc := ⟨.hbm, 163, rfl⟩
abbrev main_while0b_v131 : Ref sig .tc := ⟨.hbm, 164, rfl⟩
abbrev main_while0b_call7_v0 : Ref sig .tc := ⟨.hbm, 165, rfl⟩
abbrev main_while0b_call7_c : Ref sig .tc := ⟨.hbm, 166, rfl⟩
abbrev main_while0b_call7_c_0 : Ref sig .tc := ⟨.hbm, 167, rfl⟩
abbrev main_while0b_call7_c_1 : Ref sig .tc := ⟨.hbm, 168, rfl⟩
abbrev main_while0b_call7_c_2 : Ref sig .tc := ⟨.hbm, 169, rfl⟩
abbrev main_while0b_call7_c_3 : Ref sig .tc := ⟨.hbm, 170, rfl⟩
abbrev main_while0b_v132 : Ref sig .tc := ⟨.hbm, 171, rfl⟩
abbrev main_while0b_c_10 : Ref sig .tc := ⟨.hbm, 172, rfl⟩
abbrev main_while0b_v133 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_3 : Ref sig .tc := ⟨.hbm, 201, rfl⟩
abbrev main_v112 : Ref sig .tc := ⟨.hbm, 202, rfl⟩
abbrev main_v113 : Ref sig .tc := ⟨.hbm, 203, rfl⟩
abbrev main_cst_4 : Ref sig .tc := ⟨.hbm, 204, rfl⟩
abbrev main_v114 : Ref sig .tc := ⟨.hbm, 205, rfl⟩
abbrev main_v115 : Ref sig .tc := ⟨.hbm, 206, rfl⟩
abbrev main_cst_5 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩

abbrev nD : Nat := 1
abbrev τ : Topo := Topo.v7x

variable {F : FTy → Type} [FloatOps F]

abbrev main_while0_count : Scf.Loop 32 := ⟨0#32, 32#32, 1#32⟩
-- ==== FfnKernel.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S16384x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x5632, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S_, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== MergeKernel.lean ====
abbrev S4x4096x1024 : Shape := ⟨3, ![4, 4096, 1024]⟩
abbrev S4x1x1024 : Shape := ⟨3, ![4, 1, 1024]⟩
abbrev S4x4096x2048 : Shape := ⟨3, ![4, 4096, 2048]⟩
abbrev S4x4096x3072 : Shape := ⟨3, ![4, 4096, 3072]⟩
abbrev S1024x1024 : Shape := ⟨2, ![1024, 1024]⟩
abbrev S2048x1024 : Shape := ⟨2, ![2048, 1024]⟩
abbrev S16384x1024 : Shape := ⟨2, ![16384, 1024]⟩
abbrev S16384x2048 : Shape := ⟨2, ![16384, 2048]⟩
abbrev S16384x3072 : Shape := ⟨2, ![16384, 3072]⟩
abbrev S512x1024 : Shape := ⟨2, ![512, 1024]⟩
abbrev S1x1x1024 : Shape := ⟨3, ![1, 1, 1024]⟩
abbrev S512x2048 : Shape := ⟨2, ![512, 2048]⟩
abbrev S512x3072 : Shape := ⟨2, ![512, 3072]⟩
abbrev S1x1024 : Shape := ⟨2, ![1, 1024]⟩

abbrev nBuf : Space → Nat
  | .hbm => 20
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x4096x1024, .f32⟩
  | .hbm, ⟨3, _⟩ => ⟨S4x4096x2048, .f32⟩
  | .hbm, ⟨4, _⟩ => ⟨S4x4096x1024, .f32⟩
  | .hbm, ⟨5, _⟩ => ⟨S4x4096x3072, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S16384x1024, .f32⟩
  | .hbm, ⟨14, _⟩ => ⟨S16384x3072, .f32⟩
  | .hbm, ⟨15, _⟩ => ⟨S1024x1024, .bf16⟩
  | .hbm, ⟨16, _⟩ => ⟨S2048x1024, .bf16⟩
  | .hbm, ⟨17, _⟩ => ⟨S1024x1024, .bf16⟩
  | .hbm, ⟨18, _⟩ => ⟨S1024x1024, .bf16⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S512x3072, .f32⟩
  | .local _ .vmem, ⟨11, _⟩ => ⟨S512x3072, .f32⟩
  | .local _ .vmem, ⟨12, _⟩ => ⟨S1024x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x4096x1024 : Shape := ⟨3, ![4, 4096, 1024]⟩
abbrev S4x1x1024 : Shape := ⟨3, ![4, 1, 1024]⟩
abbrev S4x4096x2048 : Shape := ⟨3, ![4, 4096, 2048]⟩
abbrev S4x4096x3072 : Shape := ⟨3, ![4, 4096, 3072]⟩
abbrev S1024x1024 : Shape := ⟨2, ![1024, 1024]⟩
abbrev S2048x1024 : Shape := ⟨2, ![2048, 1024]⟩
abbrev S_ : Shape := ⟨0, ![]⟩
abbrev S4x4096x3x1024 : Shape := ⟨4, ![4, 4096, 3, 1024]⟩
abbrev S4x4096x1x1024 : Shape := ⟨4, ![4, 4096, 1, 1024]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x4096x1024, .f32⟩
  | .hbm, ⟨3, _⟩ => ⟨S4x4096x2048, .f32⟩
  | .hbm, ⟨4, _⟩ => ⟨S4x4096x1024, .f32⟩
  | .hbm, ⟨5, _⟩ => ⟨S4x4096x3072, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S4x4096x3072, .f32⟩
  | .hbm, ⟨11, _⟩ => ⟨S4x4096x3072, .f32⟩
  | .hbm, ⟨12, _⟩ => ⟨S_, .f32⟩
  | .hbm, ⟨13, _⟩ => ⟨S4x4096x3072, .f32⟩
  | .hbm, ⟨14, _⟩ => ⟨S4x4096x3072, .f32⟩
  | .hbm, ⟨15, _⟩ => ⟨S_, .f32⟩
  | .hbm, ⟨16, _⟩ => ⟨S4x4096x3072, .f32⟩
  | .hbm, ⟨17, _⟩ => ⟨S4x4096x3072, .f32⟩
  | .hbm, ⟨18, _⟩ => ⟨S4x4096x3x1024, .f32⟩
  | .hbm, ⟨19, _⟩ => ⟨S4x4096x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== ProjRwKernel.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S1024x3328 : Shape := ⟨2, ![1024, 3328]⟩
abbrev S16384x1024 : Shape := ⟨2, ![16384, 1024]⟩
abbrev S1x1024 : Shape := ⟨2, ![1, 1024]⟩
abbrev S16384x3328 : Shape := ⟨2, ![16384, 3328]⟩
abbrev S512x1024 : Shape := ⟨2, ![512, 1024]⟩
abbrev S1x1x1024 : Shape := ⟨3, ![1, 1, 1024]⟩
abbrev S512x3328 : Shape := ⟨2, ![512, 3328]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S1024x3328, .f32⟩
  | .hbm, ⟨6, _⟩ => ⟨S1024x3328, .bf16⟩
  | .hbm, ⟨7, _⟩ => ⟨S16384x1024, .f32⟩
  | .hbm, ⟨8, _⟩ => ⟨S1x1024, .f32⟩
  | .hbm, ⟨9, _⟩ => ⟨S16384x3328, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3328, .bf16⟩
  | .local _ .vmem, ⟨8, _⟩ => ⟨S512x3328, .f32⟩
  | .local _ .vmem, ⟨9, _⟩ => ⟨S512x3328, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRwReferenceIdeal.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x14160 : Shape := ⟨3, ![4, 4096, 14160]⟩
abbrev S4x4096x3328 : Shape := ⟨3, ![4, 4096, 3328]⟩
abbrev S4x4096x5152 : Shape := ⟨3, ![4, 4096, 5152]⟩
abbrev S4x4096x2608 : Shape := ⟨3, ![4, 4096, 2608]⟩
abbrev S4x4096x3072 : Shape := ⟨3, ![4, 4096, 3072]⟩
abbrev S16384x3328 : Shape := ⟨2, ![16384, 3328]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x14160, .f32⟩
  | .hbm, ⟨29, _⟩ => ⟨S4x4096x3328, .f32⟩
  | .hbm, ⟨30, _⟩ => ⟨S4x4096x5152, .f32⟩
  | .hbm, ⟨31, _⟩ => ⟨S4x4096x2608, .f32⟩
  | .hbm, ⟨32, _⟩ => ⟨S4x4096x3072, .f32⟩
  | .hbm, ⟨33, _⟩ => ⟨S16384x3328, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ProjSsmKernel.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S1024x5120 : Shape := ⟨2, ![1024, 5120]⟩
abbrev S1024x32 : Shape := ⟨2, ![1024, 32]⟩
abbrev S_ : Shape := ⟨0, ![]⟩
abbrev S1024x128 : Shape := ⟨2, ![1024, 128]⟩
abbrev S1024x5248 : Shape := ⟨2, ![1024, 5248]⟩
abbrev S16384x1024 : Shape := ⟨2, ![16384, 1024]⟩
abbrev S1x1024 : Shape := ⟨2, ![1, 1024]⟩
abbrev S16384x2048 : Shape := ⟨2, ![16384, 2048]⟩
abbrev S16384x3072 : Shape := ⟨2, ![16384, 3072]⟩
abbrev S16384x128 : Shape := ⟨2, ![16384, 128]⟩
abbrev S512x1024 : Shape := ⟨2, ![512, 1024]⟩
abbrev S1x1x1024 : Shape := ⟨3, ![1, 1, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1024x3072 : Shape := ⟨2, ![1024, 3072]⟩

abbrev nBuf : Space → Nat
  | .hbm => 17
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S1024x5120, .f32⟩
  | .hbm, ⟨6, _⟩ => ⟨S1024x32, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x5248, .f32⟩
  | .hbm, ⟨11, _⟩ => ⟨S1024x5248, .bf16⟩
  | .hbm, ⟨12, _⟩ => ⟨S16384x1024, .f32⟩
  | .hbm, ⟨13, _⟩ => ⟨S1x1024, .f32⟩
  | .hbm, ⟨14, _⟩ => ⟨S16384x2048, .f32⟩
  | .hbm, ⟨15, _⟩ => ⟨S16384x3072, .f32⟩
  | .hbm, ⟨16, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5248, .bf16⟩
  | .local _ .vmem, ⟨8, _⟩ => ⟨S512x2048, .f32⟩
  | .local _ .vmem, ⟨9, _⟩ => ⟨S512x2048, .f32⟩
  | .local _ .vmem, ⟨10, _⟩ => ⟨S512x3072, .f32⟩
  | .local _ .vmem, ⟨11, _⟩ => ⟨S512x3072, .f32⟩
  | .local _ .vmem, ⟨12, _⟩ => ⟨S512x128, .f32⟩
  | .local _ .vmem, ⟨13, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjSsmReferenceIdeal.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x14160 : Shape := ⟨3, ![4, 4096, 14160]⟩
abbrev S4x4096x3328 : Shape := ⟨3, ![4, 4096, 3328]⟩
abbrev S4x4096x5152 : Shape := ⟨3, ![4, 4096, 5152]⟩
abbrev S4x4096x2608 : Shape := ⟨3, ![4, 4096, 2608]⟩
abbrev S4x4096x3072 : Shape := ⟨3, ![4, 4096, 3072]⟩
abbrev S4x4096x2048 : Shape := ⟨3, ![4, 4096, 2048]⟩
abbrev S4x4096x32 : Shape := ⟨3, ![4, 4096, 32]⟩
abbrev S4x4096x128 : Shape := ⟨3, ![4, 4096, 128]⟩
abbrev S16384x2048 : Shape := ⟨2, ![16384, 2048]⟩
abbrev S16384x3072 : Shape := ⟨2, ![16384, 3072]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x14160, .f32⟩
  | .hbm, ⟨29, _⟩ => ⟨S4x4096x3328, .f32⟩
  | .hbm, ⟨30, _⟩ => ⟨S4x4096x5152, .f32⟩
  | .hbm, ⟨31, _⟩ => ⟨S4x4096x2608, .f32⟩
  | .hbm, ⟨32, _⟩ => ⟨S4x4096x3072, .f32⟩
  | .hbm, ⟨33, _⟩ => ⟨S4x4096x2048, .f32⟩
  | .hbm, ⟨34, _⟩ => ⟨S4x4096x3072, .f32⟩
  | .hbm, ⟨35, _⟩ => ⟨S4x4096x32, .f32⟩
  | .hbm, ⟨36, _⟩ => ⟨S_, .i32⟩
  | .hbm, ⟨37, _⟩ => ⟨S_, .f32⟩
  | .hbm, ⟨38, _⟩ => ⟨S4x4096x128, .f32⟩
  | .hbm, ⟨39, _⟩ => ⟨S16384x2048, .f32⟩
  | .hbm, ⟨40, _⟩ => ⟨S16384x3072, .f32⟩
  | .hbm, ⟨41, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== ProjNsaKernel.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S1024x48 : Shape := ⟨2, ![1024, 48]⟩
abbrev S1024x3x4x4 : Shape := ⟨4, ![1024, 3, 4, 4]⟩
abbrev S1024x4x3x4 : Shape := ⟨4, ![1024, 4, 3, 4]⟩
abbrev S1024x4x12 : Shape := ⟨3, ![1024, 4, 12]⟩
abbrev S_ : Shape := ⟨0, ![]⟩
abbrev S1024x4x16 : Shape := ⟨3, ![1024, 4, 16]⟩
abbrev S1024x2560 : Shape := ⟨2, ![1024, 2560]⟩
abbrev S1024x64 : Shape := ⟨2, ![1024, 64]⟩
abbrev S1024x128 : Shape := ⟨2, ![1024, 128]⟩
abbrev S1024x3072 : Shape := ⟨2, ![1024, 3072]⟩
abbrev S1024x5760 : Shape := ⟨2, ![1024, 5760]⟩
abbrev S16384x1024 : Shape := ⟨2, ![16384, 1024]⟩
abbrev S1x1024 : Shape := ⟨2, ![1, 1024]⟩
abbrev S16384x512 : Shape := ⟨2, ![16384, 512]⟩
abbrev S16384x128 : Shape := ⟨2, ![16384, 128]⟩
abbrev S16384x3072 : Shape := ⟨2, ![16384, 3072]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 28
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S1024x48, .f32⟩
  | .hbm, ⟨6, _⟩ => ⟨S1024x3x4x4, .f32⟩
  | .hbm, ⟨7, _⟩ => ⟨S1024x4x3x4, .f32⟩
  | .hbm, ⟨8, _⟩ => ⟨S1024x4x12, .f32⟩
  | .hbm, ⟨9, _⟩ => ⟨S_, .i32⟩
  | .hbm, ⟨10, _⟩ => ⟨S_, .f32⟩
  | .hbm, ⟨11, _⟩ => ⟨S1024x4x16, .f32⟩
  | .hbm, ⟨12, _⟩ => ⟨S1024x2560, .f32⟩
  | .hbm, ⟨13, _⟩ => ⟨S1024x64, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x3072, .f32⟩
  | .hbm, ⟨18, _⟩ => ⟨S1024x5760, .f32⟩
  | .hbm, ⟨19, _⟩ => ⟨S1024x5760, .bf16⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x128, .f32⟩
  | .hbm, ⟨27, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5760, .bf16⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x3072, .f32⟩
  | .local _ .vmem, ⟨19, _⟩ => ⟨S512x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjNsaReferenceIdeal.lean ====
abbrev S4x4096x1024 : Shape := ⟨3, ![4, 4096, 1024]⟩
abbrev S4x1x1024 : Shape := ⟨3, ![4, 1, 1024]⟩
abbrev S1024 : Shape := ⟨1, ![1024]⟩
abbrev S1024x14160 : Shape := ⟨2, ![1024, 14160]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x14160 : Shape := ⟨3, ![4, 4096, 14160]⟩
abbrev S4x4096x3328 : Shape := ⟨3, ![4, 4096, 3328]⟩
abbrev S4x4096x5152 : Shape := ⟨3, ![4, 4096, 5152]⟩
abbrev S4x4096x2608 : Shape := ⟨3, ![4, 4096, 2608]⟩
abbrev S4x4096x3072 : Shape := ⟨3, ![4, 4096, 3072]⟩
abbrev S4x4096x256 : Shape := ⟨3, ![4, 4096, 256]⟩
abbrev S4x4096x48 : Shape := ⟨3, ![4, 4096, 48]⟩
abbrev S16384x1024 : Shape := ⟨2, ![16384, 1024]⟩
abbrev S4x4096x1x256 : Shape := ⟨4, ![4, 4096, 1, 256]⟩
abbrev S4x4096x2x256 : Shape := ⟨4, ![4, 4096, 2, 256]⟩
abbrev S16384x512 : Shape := ⟨2, ![16384, 512]⟩
abbrev S16384x3072 : Shape := ⟨2, ![16384, 3072]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x14160, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x14160, .f32⟩
  | .hbm, ⟨29, _⟩ => ⟨S4x4096x3328, .f32⟩
  | .hbm, ⟨30, _⟩ => ⟨S4x4096x5152, .f32⟩
  | .hbm, ⟨31, _⟩ => ⟨S4x4096x2608, .f32⟩
  | .hbm, ⟨32, _⟩ => ⟨S4x4096x3072, .f32⟩
  | .hbm, ⟨33, _⟩ => ⟨S4x4096x1024, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S4x4096x48, .f32⟩
  | .hbm, ⟨41, _⟩ => ⟨S16384x1024, .f32⟩
  | .hbm, ⟨42, _⟩ => ⟨S4x4096x1x256, .f32⟩
  | .hbm, ⟨43, _⟩ => ⟨S4x4096x1x256, .f32⟩
  | .hbm, ⟨44, _⟩ => ⟨S4x4096x2x256, .f32⟩
  | .hbm, ⟨45, _⟩ => ⟨S16384x512, .f32⟩
  | .hbm, ⟨46, _⟩ => ⟨S4x4096x1x256, .f32⟩
  | .hbm, ⟨47, _⟩ => ⟨S4x4096x1x256, .f32⟩
  | .hbm, ⟨48, _⟩ => ⟨S4x4096x2x256, .f32⟩
  | .hbm, ⟨49, _⟩ => ⟨S16384x512, .f32⟩
  | .hbm, ⟨50, _⟩ => ⟨S4x4096x1x256, .f32⟩
  | .hbm, ⟨51, _⟩ => ⟨S4x4096x1x256, .f32⟩
  | .hbm, ⟨52, _⟩ => ⟨S4x4096x2x256, .f32⟩
  | .hbm, ⟨53, _⟩ => ⟨S16384x512, .f32⟩
  | .hbm, ⟨54, _⟩ => ⟨S16384x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Proof.RefKeep.lean ====
/- Which buffers the reference's loop and tail leave alone, and from it the reference's frame: it writes none of its arguments. -/
module

public import proofs.«01_k».proof.Proof.Gen.ReferenceIdeal.Run
public import Idealize.ShloMosaic.Lib.Quiescent

@[expose] public section

set_option maxRecDepth 4000

noncomputable section

namespace Cert.ReferenceIdeal.Keep

open Idealize.ShloMosaic Idealize.ShloMosaic.TcCoe Idealize.ShloMosaic.StableHlo
open Idealize.SL Idealize.SL.Sem
open Cert.ReferenceIdeal.Gen Cert.ReferenceIdeal.Value

variable {F : FTy → Type} [FloatOps F]

/-- The buffers written by the stretch after the loop that adds the two parts of the scan's output. -/
abbrev tail0_W : List (Ref sig .tc) := [main_v93, main_v94, main_v95, main_v96, main_v97, main_v98, main_v99, main_v100, main_v101, main_v102, main_v103, main_v104, main_v105, main_v106, main_v107, main_v108]
theorem tail0_writes : (hostOps0_11 : List (HloOp τ sig (Elt F))).Forall fun op => op.writes ⊆ (tail0_W.map (Proc.devRef (τ := τ) .tc)).toFinset :=
  StableHlo.forall_writes_sub_of_map rfl
/-- The buffers written by the gate of the output. -/
abbrev tail1_W : List (Ref sig .tc) := [main_call8_v0, main_call8_v1, main_call8_cst, main_call8_v2, main_call8_v3, main_call8_cst_0, main_call8_v4, main_call8_v5, main_v109]
theorem tail1_writes : (hostOps0_12 : List (HloOp τ sig (Elt F))).Forall fun op => op.writes ⊆ (tail1_W.map (Proc.devRef (τ := τ) .tc)).toFinset :=
  StableHlo.forall_writes_sub_of_map rfl
/-- The buffers written by the norm and the two states' layouts. -/
abbrev tail2_W : List (Ref sig .tc) := [main_v110, main_v111, main_cst_3, main_v112, main_v113, main_cst_4, main_v114, main_v115, main_cst_5, main_v116, main_v117, main_v118, main_v119, main_v120, main_v121, main_v122, main_v123, main_v124, main_v125]
theorem tail2_writes : (hostOps0_13 : List (HloOp τ sig (Elt F))).Forall fun op => op.writes ⊆ (tail2_W.map (Proc.devRef (τ := τ) .tc)).toFinset :=
  StableHlo.forall_writes_sub_of_map rfl

/-- All the buffers a trip of the loop writes, its condition's included. -/
abbrev trip_W : List (Ref sig .tc) := condOps_W ++ while0Ops0_W ++ while0Ops0_1_W ++ while0Ops0_2_W ++ while0Ops0_3_W ++ while0Ops0_4_W

/-- All the buffers the stretches before the loop write. -/
abbrev head_W : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W

variable (m : (ℓ : Loc nD τ sig) → Buf (Elt F) ℓ) (c : Dev nD)

/-- A buffer no trip writes reads at the loop's end as at its entry. -/
theorem atK_keep {r : Ref sig .tc} (hr : r ∉ trip_W) (k : ℕ) :
    atK m k c (Proc.devRef .tc r) = entryContents preI m c (Proc.devRef .tc r) := by
  simp only [trip_W, List.mem_append, not_or] at hr
  obtain ⟨⟨⟨⟨⟨h0, h1⟩, h2⟩, h3⟩, h4⟩, h5⟩ := hr
  induction k with
  | zero => rfl
  | succ k ih =>
    rw [show atK m (k + 1) c = afterL bodyI (after condOps (atK m k c)) from rfl]
    simp only [bodyI, afterL_cons, afterL_nil]
    rw [after_of_writes_sub _ _ while0Ops0_4_writes h5, after_of_writes_sub _ _ while0Ops0_3_writes h4, after_of_writes_sub _ _ while0Ops0_2_writes h3,
      after_of_writes_sub _ _ while0Ops0_1_writes h2, after_of_writes_sub _ _ while0Ops0_writes h1, after_of_writes_sub _ _ condOps_writes h0]
    exact ih

/-- A buffer the stretches before the loop do not write holds its launch contents at the loop's entry. -/
theorem entry_keep {r : Ref sig .tc} (hr : r ∉ head_W) :
    entryContents preI m c (Proc.devRef .tc r) = launchContents m c (Proc.devRef .tc r) := by
  simp only [head_W, List.mem_append, not_or] at hr
  obtain ⟨⟨⟨⟨⟨⟨⟨⟨⟨⟨h0, h1⟩, h2⟩, h3⟩, h4⟩, h5⟩, h6⟩, h7⟩, h8⟩, h9⟩, h10⟩ := hr
  simp only [entryContents, preI, afterL_cons, afterL_nil]
  rw [after_of_writes_sub _ _ hostOps0_10_writes h10, after_of_writes_sub _ _ hostOps0_9_writes h9, after_of_writes_sub _ _ hostOps0_8_writes h8,
    after_of_writes_sub _ _ hostOps0_7_writes h7, after_of_writes_sub _ _ hostOps0_6_writes h6, after_of_writes_sub _ _ hostOps0_5_writes h5,
    after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- The contents after the loop's condition has read false: what the tail starts from. -/
abbrev exit : Valuation τ sig (Elt F) := after condOps (atK m 32 c)

theorem final_eq : finalContents condOps preI bodyI postI 32 m c = after hostOps0_13 (after hostOps0_12 (after hostOps0_11 (exit m c))) := rfl

/-- A buffer neither the loop nor its condition writes reads after the loop as at its entry. -/
theorem exit_keep {r : Ref sig .tc} (hr : r ∉ trip_W) : exit m c (Proc.devRef .tc r) = entryContents preI m c (Proc.devRef .tc r) := by
  rw [← atK_keep m c hr 32]
  refine after_of_writes_sub _ _ condOps_writes fun h => hr ?_
  simp only [trip_W, List.mem_append]; exact .inl (.inl (.inl (.inl (.inl h))))

/-- A buffer written nowhere holds its launch contents at the end. -/
theorem final_keep {r : Ref sig .tc} (hh : r ∉ head_W) (ht : r ∉ trip_W) (hp : r ∉ tail0_W ++ tail1_W ++ tail2_W) :
    finalContents condOps preI bodyI postI 32 m c (Proc.devRef .tc r) = m ((c.tc : Thread nD τ).loc r) := by
  simp only [List.mem_append, not_or] at hp
  obtain ⟨⟨h0, h1⟩, h2⟩ := hp
  rw [final_eq, after_of_writes_sub _ _ tail2_writes h2, after_of_writes_sub _ _ tail1_writes h1, after_of_writes_sub _ _ tail0_writes h0,
    exit_keep m c ht, entry_keep m c hh]

variable (ρ : Dev nD → PrngReg)

/-- The reference's frame: every execution ends, with every argument unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run (defs (F := F)) _ _).mono (fun r h => ⟨fun c => ?_, sem_eq_zero_of_no_sems rfl _⟩) (run_fold m ρ)
  refine ⟨?_, ?_, ?_, ?_, ?_, ?_, ?_, ?_, ?_, ?_, ?_⟩ <;>
    exact (h c _ rfl).trans (final_keep m c (by decide +kernel) (by decide +kernel) (by decide +kernel))

end Cert.ReferenceIdeal.Keep

end
-- ==== Proof.Stages.lean ====
/- The kernel's stages per head and per group, as functions of where the head or the group lies: the printed bodies spell
   each of the 32 heads and 4 groups out, and every one of them is an instance of these. -/
module

public import proofs.«01_k».proof.Proof.Gen.KernelIdeal.Skeleton

@[expose] public section

noncomputable section

namespace Cert.KernelIdeal.Stages

open Idealize.ShloMosaic Cert.KernelIdeal Cert.KernelIdeal.Gen

variable {F : FTy → Type} [FloatOps F]

/-- One head: the masked decays times the query-key products, against the head's scaled inputs. -/
def head (h h64 : ℕ) (h1 : S128x128.Slices ![0, h] S128x1) (h2 : S128x128.Slices ![h, 0] S1x128) (h3 : S128x2048.Slices ![0, h64] S128x64)
    (mask : IVec S128x128 1) (a aT cb : FVec F S128x128 .f32) (xdt : FVec F S128x2048 .bf16) : FVec F S128x64 .f32 :=
  matmul dot_S128x128_S128x64_S128x64_1_0_0_1_n_n none
    (truncf .bf16 (mulf cb (exp (select mask
      (subf (broadcastTo S128x128 (extractStridedSlice S128x1 ![0, h] a h1) broadcasts_S128x1_S128x128)
        (broadcastTo S128x128 (extractStridedSlice S1x128 ![h, 0] aT h2) broadcasts_S1x128_S128x128))
      (broadcast S128x128 (Scalar.ofBits .f32 0xFF800000#32))))) bitsLt_bf16_f32)
    (extractStridedSlice S128x64 ![0, h64] xdt h3) (constant S128x64 .f32 0x00000000#32)

/-- One group's rows: its eight heads side by side, plus the entering state's part. -/
def groupY (o : ℕ) (ho : S128x2048.Slices ![0, o] S128x512) (H : Fin 8 → FVec F S128x64 .f32)
    (yoff : FVec F S128x512 .f32) (dec : FVec F S128x2048 .f32) : FVec F S128x512 .f32 :=
  addf (concatenate S128x512 1 [⟨S128x64, H 0⟩, ⟨S128x64, H 1⟩, ⟨S128x64, H 2⟩, ⟨S128x64, H 3⟩, ⟨S128x64, H 4⟩, ⟨S128x64, H 5⟩, ⟨S128x64, H 6⟩, ⟨S128x64, H 7⟩]
      concatenates_S128x64_S128x64_S128x64_S128x64_S128x64_S128x64_S128x64_S128x64_S128x512_d1)
    (mulf yoff (extractStridedSlice S128x512 ![0, o] dec ho))

/-- One group's keys or queries. -/
def grp (o : ℕ) (ho : S128x512.Slices ![0, o] S128x128) (v : FVec F S128x512 .f32) : FVec F S128x128 .bf16 :=
  truncf .bf16 (extractStridedSlice S128x128 ![0, o] v ho) bitsLt_bf16_f32

/-- The query-key products. -/
def prod (b c : FVec F S128x128 .bf16) : FVec F S128x128 .f32 :=
  matmul dot_S128x128_S128x128_S128x128_1_1_0_0_n_n none c b (constant S128x128 .f32 0x00000000#32)

/-- The queries against the entering state. -/
def off (c : FVec F S128x128 .bf16) (s : Vec F S1x512x128 .f32) : FVec F S128x512 .f32 :=
  matmul dot_S128x128_S512x128_S128x512_1_1_0_0_n_n none c
    (truncf .bf16 (shapeCast S512x128 s shapeCasts_S1x512x128_S512x128) bitsLt_bf16_f32) (constant S128x512 .f32 0x00000000#32)

/-- The state one group is left with. -/
def groupS (o : ℕ) (ho : S128x2048.Slices ![0, o] S128x512) (k : BitVec 32) (xds : FVec F S128x2048 .bf16) (b : FVec F S128x128 .bf16)
    (e : FVec F S1x128 .f32) (s : Vec F S1x512x128 .f32) : FVec F S1x512x128 .f32 :=
  shapeCast S1x512x128
    (addf (mulf (shapeCast S512x128 s shapeCasts_S1x512x128_S512x128)
        (broadcastTo S512x128 (shapeCast S512x1 (multiReduction .add [1] S512
          (select (cmpi .eq (addi k0_pay23 (broadcast S512x128 k)) (iota .tc S512x128 32 [1] iota_S512x128_d1_w32))
            (broadcastTo S512x128 (shapeCast S1x128 e shapeCasts_S1x128_S1x128) broadcasts_S1x128_S512x128)
            (broadcast S512x128 (Scalar.ofBits .f32 0x00000000#32)))
          0x00000000#32 reduces_S512x128_S512 (.inl rfl) rfl) shapeCasts_S512_S512x1) broadcasts_S512x1_S512x128))
      (matmul dot_S128x512_S128x128_S512x128_0_0_1_1_n_n none (extractStridedSlice S128x512 ![0, o] xds ho) b (constant S512x128 .f32 0x00000000#32)))
    shapeCasts_S512x128_S1x512x128

end Cert.KernelIdeal.Stages

end
-- ==== Proof.Step.lean ====
/- One chunk of the kernel as a function of what it loads: the state and the rows, in the words of `Stages`. -/
module

public import proofs.«01_k».proof.Proof.Stages

@[expose] public section

set_option maxRecDepth 16384

noncomputable section

namespace Cert.KernelIdeal.Stages

open Idealize.ShloMosaic Cert.KernelIdeal Cert.KernelIdeal.Gen

variable {F : FTy → Type} [FloatOps F]

/-! The windows the groups and the heads are cut from. -/

theorem sl_cols {g : ℕ} (hg : g < 4) : S128x2048.Slices ![0, 512 * g] S128x512 :=
  ⟨rfl, fun a => by match a with | ⟨0, _⟩ => show 0 + 128 ≤ 128; omega | ⟨1, _⟩ => show 512 * g + 512 ≤ 2048; omega⟩
theorem sl_grp {g : ℕ} (hg : g < 4) : S128x512.Slices ![0, 128 * g] S128x128 :=
  ⟨rfl, fun a => by match a with | ⟨0, _⟩ => show 0 + 128 ≤ 128; omega | ⟨1, _⟩ => show 128 * g + 128 ≤ 512; omega⟩
theorem sl_col {h : ℕ} (hh : h < 128) : S128x128.Slices ![0, h] S128x1 :=
  ⟨rfl, fun a => by match a with | ⟨0, _⟩ => show 0 + 128 ≤ 128; omega | ⟨1, _⟩ => show h + 1 ≤ 128; omega⟩
theorem sl_row {h : ℕ} (hh : h < 128) : S128x128.Slices ![h, 0] S1x128 :=
  ⟨rfl, fun a => by match a with | ⟨0, _⟩ => show h + 1 ≤ 128; omega | ⟨1, _⟩ => show 0 + 128 ≤ 128; omega⟩
theorem sl_head {o : ℕ} (ho : o + 64 ≤ 2048) : S128x2048.Slices ![0, o] S128x64 :=
  ⟨rfl, fun a => by match a with | ⟨0, _⟩ => show 0 + 128 ≤ 128; omega | ⟨1, _⟩ => show o + 64 ≤ 2048; omega⟩

/-- Group `g`'s rows. -/
def rowsOf (g : ℕ) (hg : g < 4) (a aT : FVec F S128x128 .f32) (xdt : FVec F S128x2048 .bf16) (dec : FVec F S128x2048 .f32)
    (bs cs : FVec F S128x512 .f32) (s : Vec F S1x512x128 .f32) : FVec F S128x512 .f32 :=
  groupY (512 * g) (sl_cols hg)
    (fun r => head (8 * g + r) (512 * g + 64 * r) (sl_col (by omega)) (sl_row (by omega)) (sl_head (by omega)) k0_pay14 a aT
      (prod (grp (128 * g) (sl_grp hg) bs) (grp (128 * g) (sl_grp hg) cs)) xdt)
    (off (grp (128 * g) (sl_grp hg) cs) s) dec

/-- Group `g`'s new state. -/
def newOf (g : ℕ) (hg : g < 4) (xds : FVec F S128x2048 .bf16) (e : FVec F S1x128 .f32) (bs : FVec F S128x512 .f32)
    (s : Vec F S1x512x128 .f32) : FVec F S1x512x128 .f32 :=
  groupS (512 * g) (sl_cols hg) (BitVec.ofNat 32 (8 * g)) xds (grp (128 * g) (sl_grp hg) bs) e s

section
variable (a aT : FVec F S128x128 .f32) (xdt xds : FVec F S128x2048 .bf16) (dec : FVec F S128x2048 .f32) (e : FVec F S1x128 .f32)
  (b c : FVec F S128x512 .f32) (s : Vec F S1x512x128 .f32)

/-! The program's own words for these. -/

theorem row0 : k0_pay37 k0_pay14 a aT xdt dec (k0_pay27 b c) (k0_pay29 c s) (k0_pay32 k0_pay14 xdt (k0_pay27 b c) (k0_pay30 a) (k0_pay31 aT))
      (k0_pay33 k0_pay14 a aT xdt (k0_pay27 b c)) (k0_pay34 k0_pay14 a aT xdt (k0_pay27 b c)) (k0_pay35 k0_pay14 a aT xdt (k0_pay27 b c))
      (k0_pay36 a aT) (Scalar.ofBits .f32 0xFF800000#32) = rowsOf 0 (by omega) a aT xdt dec b c s := rfl

theorem row1 : k0_pay56 k0_pay14 a aT xdt dec (k0_pay43 b c) (k0_pay45 c s) (k0_pay46 b c k0_pay14 a aT xdt)
      (k0_pay49 (k0_pay47 b c k0_pay14 a aT) (k0_pay48 xdt) (constant S128x64 .f32 0x00000000#32))
      (k0_pay50 k0_pay14 a aT xdt (k0_pay43 b c)) (k0_pay51 k0_pay14 a aT xdt (k0_pay43 b c)) (k0_pay52 k0_pay14 a aT xdt (k0_pay43 b c))
      (k0_pay53 k0_pay14 a aT xdt (k0_pay43 b c)) (k0_pay54 aT) (k0_pay55 a) = rowsOf 1 (by omega) a aT xdt dec b c s := rfl

theorem row2 : k0_pay72 dec (k0_pay62 (k0_pay59 c) s) (k0_pay63 k0_pay14 a aT xdt (k0_pay60 b c)) (k0_pay64 k0_pay14 a aT xdt (k0_pay60 b c))
      (k0_pay65 k0_pay14 a aT xdt (k0_pay60 b c)) (k0_pay67 xdt (k0_pay66 k0_pay14 a aT (k0_pay60 b c)))
      (k0_pay68 k0_pay14 a aT xdt (k0_pay60 b c)) (k0_pay69 k0_pay14 a aT xdt (k0_pay60 b c)) (k0_pay70 k0_pay14 a aT xdt (k0_pay60 b c))
      (k0_pay71 k0_pay14 a aT xdt (k0_pay60 b c)) = rowsOf 2 (by omega) a aT xdt dec b c s := rfl

theorem row3 : k0_pay88 k0_pay14 a aT xdt dec (k0_pay76 b c) (k0_pay78 c s) (k0_pay79 b c k0_pay14 a aT xdt)
      (k0_pay82 k0_pay14 xdt (k0_pay76 b c) (k0_pay80 aT) (k0_pay81 a)) (k0_pay83 k0_pay14 a aT xdt (k0_pay76 b c))
      (k0_pay84 k0_pay14 a aT xdt (k0_pay76 b c)) (k0_pay85 k0_pay14 a aT xdt (k0_pay76 b c)) (k0_pay86 a aT) k0_pay87
      = rowsOf 3 (by omega) a aT xdt dec b c s := rfl

theorem new0 : k0_pay40 (iota .tc S512x128 32 [1] iota_S512x128_d1_w32) e (k0_pay28 s) (k0_pay38 xds (k0_pay25 b)) (k0_pay39 k0_pay23)
    = newOf 0 (by omega) xds e b s := rfl

theorem new1 : k0_pay57 xds k0_pay23 (iota .tc S512x128 32 [1] iota_S512x128_d1_w32) e (k0_pay41 b) (k0_pay44 s) = newOf 1 (by omega) xds e b s := rfl

theorem new2 : k0_pay73 xds k0_pay23 (iota .tc S512x128 32 [1] iota_S512x128_d1_w32) e (k0_pay58 b) (k0_pay61 s) = newOf 2 (by omega) xds e b s := rfl

theorem new3 : k0_pay90 (k0_pay89 xds k0_pay23 (iota .tc S512x128 32 [1] iota_S512x128_d1_w32) e (k0_pay74 b) (k0_pay77 s)) = newOf 3 (by omega) xds e b s := rfl

theorem pay91_congr {x : FVec F S128x2048 .f32} {y0 y0' y1 y1' y2 y2' y3 y3' : FVec F S128x512 .f32} {d : Vec F S1x2048 .f32}
    {z : Vec F S1x128x2048 .f32} {g : Vec F S1x2048 .f32} (h0 : y0 = y0') (h1 : y1 = y1') (h2 : y2 = y2') (h3 : y3 = y3') :
    k0_pay91 x y0 y1 y2 y3 d z g = k0_pay91 x y0' y1' y2' y3' d z g := by subst h0 h1 h2 h3; rfl

end

/-- What one chunk loads, the carried state apart. -/
structure Ld (F : FTy → Type) where
  tail : Vec F S3x3072 .f32
  xb : Vec F S1x128x3072 .f32
  cb : Vec F S1x3072 .f32
  w0 : Vec F S1x3072 .f32
  w1 : Vec F S1x3072 .f32
  w2 : Vec F S1x3072 .f32
  w3 : Vec F S1x3072 .f32
  dt : Vec F S1x128x128 .f32
  dtb : Vec F S1x128 .f32
  alog : Vec F S1x128 .f32
  hx : Vec F S128x2048 .f32
  dd : Vec F S1x2048 .f32
  z : Vec F S1x128x2048 .f32
  g : Vec F S1x2048 .f32

namespace Ld

variable (b : Ld F)

/-- The convolution, and its activation's three parts. -/
def conv : FVec F S128x3072 .f32 := k0_pay8 b.tail b.xb b.cb b.w0 b.w1 b.w2 b.w3
def xs : FVec F S128x2048 .f32 := k0_pay10 b.conv
def bs : FVec F S128x512 .f32 := k0_pay11 b.conv
def cs : FVec F S128x512 .f32 := k0_pay12 b.conv
/-- The decays, whole and at the last row, and the three per-head factors stacked. -/
def a : FVec F S128x128 .f32 := k0_pay15 b.dt b.dtb b.alog
def aT : FVec F S128x128 .f32 := k0_pay17 b.dt b.dtb b.alog
def e : FVec F S1x128 .f32 := k0_pay24 (k0_pay16 b.dt b.dtb b.alog)
def ph : FVec F S384x128 .f32 := k0_pay18 b.dt b.dtb b.alog
def xdt : FVec F S128x2048 .bf16 := k0_pay20 b.xs b.ph b.hx
def xds : FVec F S128x2048 .bf16 := k0_pay21 b.xs b.ph b.hx
def dec : FVec F S128x2048 .f32 := k0_pay22 b.ph b.hx

/-- Group `g`'s new state and its rows, from the state that enters. -/
def newS (g : ℕ) (hg : g < 4) (s : Vec F S1x512x128 .f32) : FVec F S1x512x128 .f32 := newOf g hg b.xds b.e b.bs s
def rows (g : ℕ) (hg : g < 4) (s : Vec F S1x512x128 .f32) : FVec F S128x512 .f32 := rowsOf g hg b.a b.aT b.xdt b.dec b.bs b.cs s

/-- The chunk's result, from the four groups' states. -/
def y (s0 s1 s2 s3 : Vec F S1x512x128 .f32) : FVec F S1x128x2048 .f32 :=
  k0_pay91 b.xs (b.rows 0 (by omega) s0) (b.rows 1 (by omega) s1) (b.rows 2 (by omega) s2) (b.rows 3 (by omega) s3) b.dd b.z b.g

end Ld

end Cert.KernelIdeal.Stages

end
-- ==== Proof.Open.lean ====
/- Each grid point's results, in the words of one chunk: the middle chunks, the first (which starts from the entering tail and state), the last
   (which also writes the two final states). -/
module

public import proofs.«01_k».proof.Proof.Step
public import proofs.«01_k».proof.Proof.Gen.KernelIdeal.Frame
public import Idealize.ShloMosaic.Lib.Pipeline.Value
public import Idealize.ShloMosaic.Lib.Pipeline.ValueKit.Acc
public import Idealize.ShloMosaic.Lib.Pipeline.ReadBack

@[expose] public section

set_option maxRecDepth 16384
set_option maxHeartbeats 1000000

noncomputable section

namespace Cert.KernelIdeal.Stages

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- Group `g`'s plane of the state. -/
theorem inb_g {g : ℕ} (hg : g < 4) : ∀ a, (![g, 0, 0] : Fin 3 → Nat) a + S1x512x128.size a ≤ S4x512x128.size a := fun a => by
  match a with
  | ⟨0, _⟩ => show g + 1 ≤ 4; omega
  | ⟨1, _⟩ => show 0 + 512 ≤ 512; omega
  | ⟨2, _⟩ => show 0 + 128 ≤ 128; omega
abbrev plane (g : ℕ) (hg : g < 4) : Rect S4x512x128 := Rect.unit ![g, 0, 0] S1x512x128.size (inb_g hg)

/-- What a point loads, given the tail that enters. -/
def ldAt (c : Dev nD) (t : Fin cfg0.N) (tail : Vec F S3x3072 .f32) : Ld F where
  tail := tail
  xb := iblk m c 1 t
  cb := iblk m c 6 t
  w0 := View.ld (iblk m c 5 t) (Rect.unit ![0, 0] S1x3072.size inb_S4x3072_S1x3072_0_0)
  w1 := View.ld (iblk m c 5 t) (Rect.unit ![1, 0] S1x3072.size inb_S4x3072_S1x3072_1_0)
  w2 := View.ld (iblk m c 5 t) (Rect.unit ![2, 0] S1x3072.size inb_S4x3072_S1x3072_2_0)
  w3 := View.ld (iblk m c 5 t) (Rect.unit ![3, 0] S1x3072.size inb_S4x3072_S1x3072_3_0)
  dt := iblk m c 2 t
  dtb := iblk m c 7 t
  alog := iblk m c 8 t
  hx := iblk m c 11 t
  dd := iblk m c 9 t
  z := iblk m c 0 t
  g := iblk m c 10 t

/-- The state's four stores over what was written before. -/
def stores (b : Ld F) (s : Vec F S4x512x128 .f32) (L : List (View.Piece (Elt F) S4x512x128 .f32)) : List (View.Piece (Elt F) S4x512x128 .f32) :=
  ⟨plane 3 (by omega), b.newS 3 (by omega) (View.ld s (plane 3 (by omega)))⟩ :: ⟨plane 2 (by omega), b.newS 2 (by omega) (View.ld s (plane 2 (by omega)))⟩ ::
    ⟨plane 1 (by omega), b.newS 1 (by omega) (View.ld s (plane 1 (by omega)))⟩ :: ⟨plane 0 (by omega), b.newS 0 (by omega) (View.ld s (plane 0 (by omega)))⟩ :: L

/-- The whole buffer, read back after stores. -/
theorem readCov_all {sig : RefSig} {κ : Kind} {sp : Space} {S : Shape} {e : EltTy} (v : View sig κ sp S e) (L : List (View.Piece (Elt F) S e))
    {off : Fin S.rank → Nat} (inb : ∀ a, off a + S.size a ≤ S.size a) (h : ∀ a, off a = 0) :
    v.readCov L (Rect.unit off (no_index S.size) inb).toLoadRect = View.canon L := by
  rw [View.readCov_eq_canon']
  exact View.ld_unit_lit inb (View.canon L) h

theorem canon4_congr {L : List (View.Piece (Elt F) S4x512x128 .f32)} {x3 y3 x2 y2 x1 y1 x0 y0 : FVec F S1x512x128 .f32}
    (h3 : x3 = y3) (h2 : x2 = y2) (h1 : x1 = y1) (h0 : x0 = y0) :
    View.canon (⟨plane 3 (by omega), x3⟩ :: ⟨plane 2 (by omega), x2⟩ :: ⟨plane 1 (by omega), x1⟩ :: ⟨plane 0 (by omega), x0⟩ :: L)
      = View.canon (⟨plane 3 (by omega), y3⟩ :: ⟨plane 2 (by omega), y2⟩ :: ⟨plane 1 (by omega), y1⟩ :: ⟨plane 0 (by omega), y0⟩ :: L) := by
  subst h0 h1 h2 h3; rfl

theorem yA (c : Dev nD) (t : Fin cfg0.N) (h0 : t.val % 32 = 0) (h1 : ¬t.val % 32 = 31) (tl : Vec F S3x3072 .f32) (s : Vec F S4x512x128 .f32)
    (htl : tl = k0_pay3 (iblk m c 3 t)) (hs : s = k0_pay4 (iblk m c 4 t)) :
    (outsAt0 m c t.val t.isLt).1 = (ldAt m c t tl).y (View.ld s (plane 0 (by omega))) (View.ld s (plane 1 (by omega))) (View.ld s (plane 2 (by omega))) (View.ld s (plane 3 (by omega))) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_A m c t h0 h1]
  dsimp only
  unfold out0_A_12
  rw [View.read_writes_eq_canon _ _ _ (fun y => cover0_A_12 (y := y) ..)]
  unfold kernelRun0_A
  dsimp only
  sl_unfold_words
  simp (disch := decide) only [↓View.readCov_skip]
  simp (disch := decide) only [View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  rw [← htl, ← hs]
  exact pay91_congr (row0 ..) (row1 ..) (row2 ..) (row3 ..)

theorem tA (c : Dev nD) (t : Fin cfg0.N) (h0 : t.val % 32 = 0) (h1 : ¬t.val % 32 = 31) (tl : Vec F S3x3072 .f32) (s : Vec F S4x512x128 .f32)
    (htl : tl = k0_pay3 (iblk m c 3 t)) (hs : s = k0_pay4 (iblk m c 4 t)) :
    (outsAt0 m c t.val t.isLt).2.2.2.1 = k0_pay7 tl (iblk m c 1 t) := by
  rw [outsAt0_A m c t h0 h1]
  dsimp only
  unfold sout0_A_0
  rw [View.read_writes_eq_canon _ _ _ (fun y => scover0_A_0 (y := y) ..)]
  unfold kernelRun0_A
  dsimp only
  sl_unfold_words
  simp (disch := decide) only [↓View.readCov_skip]
  simp (disch := decide) only [View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  rw [← htl]

theorem sA (c : Dev nD) (t : Fin cfg0.N) (h0 : t.val % 32 = 0) (h1 : ¬t.val % 32 = 31) (tl : Vec F S3x3072 .f32) (s : Vec F S4x512x128 .f32)
    (htl : tl = k0_pay3 (iblk m c 3 t)) (hs : s = k0_pay4 (iblk m c 4 t)) :
    (outsAt0 m c t.val t.isLt).2.2.2.2 = View.canon (stores (ldAt m c t tl) s [⟨Rect.unit ![0, 0, 0] S4x512x128.size inb_S4x512x128_S4x512x128_0_0_0, s⟩]) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_A m c t h0 h1]
  dsimp only
  unfold sout0_A_1
  rw [View.read_writes_eq_canon _ _ _ (fun y => scover0_A_1 (y := y) ..)]
  unfold kernelRun0_A
  dsimp only
  sl_unfold_words
  simp (disch := decide) only [↓View.readCov_skip]
  simp (disch := decide) only [View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  rw [← htl, ← hs]
  exact canon4_congr (new3 ..) (new2 ..) (new1 ..) (new0 ..)

theorem yB (c : Dev nD) (t : Fin cfg0.N) (h0 : ¬t.val % 32 = 0) (h1 : ¬t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).1 = (ldAt m c t tl).y (View.ld s (plane 0 (by omega))) (View.ld s (plane 1 (by omega))) (View.ld s (plane 2 (by omega))) (View.ld s (plane 3 (by omega))) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_B m c t h0 h1, ← htl, ← hs]
  dsimp only
  unfold out0_B_12
  rw [View.read_writes_eq_canon _ _ _ (fun y => cover0_B_12 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  exact pay91_congr (row0 ..) (row1 ..) (row2 ..) (row3 ..)

theorem tB (c : Dev nD) (t : Fin cfg0.N) (h0 : ¬t.val % 32 = 0) (h1 : ¬t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.2.2.1 = k0_pay7 tl (iblk m c 1 t) := by
  rw [outsAt0_B m c t h0 h1, ← htl, ← hs]
  dsimp only
  unfold sout0_B_0
  rw [View.read_writes_eq_canon _ _ _ (fun y => scover0_B_0 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']

theorem sB (c : Dev nD) (t : Fin cfg0.N) (h0 : ¬t.val % 32 = 0) (h1 : ¬t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.2.2.2 = View.canon (stores (ldAt m c t tl) s []) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_B m c t h0 h1, ← htl, ← hs]
  dsimp only
  unfold sout0_B_1
  rw [View.read_writes_eq_canon _ _ _ (fun y => scover0_B_1 (y := y) ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  exact canon4_congr (new3 ..) (new2 ..) (new1 ..) (new0 ..)

theorem yC (c : Dev nD) (t : Fin cfg0.N) (h0 : ¬t.val % 32 = 0) (h1 : t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).1 = (ldAt m c t tl).y (View.ld s (plane 0 (by omega))) (View.ld s (plane 1 (by omega))) (View.ld s (plane 2 (by omega))) (View.ld s (plane 3 (by omega))) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_C m c t h0 h1, ← htl, ← hs]
  dsimp only
  unfold out0_C_12
  rw [View.read_writes_eq_canon _ _ _ (fun y => cover0_C_12 (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  exact pay91_congr (row0 ..) (row1 ..) (row2 ..) (row3 ..)

theorem tC (c : Dev nD) (t : Fin cfg0.N) (h0 : ¬t.val % 32 = 0) (h1 : t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.2.2.1 = k0_pay7 tl (iblk m c 1 t) := by
  rw [outsAt0_C m c t h0 h1, ← htl, ← hs]
  dsimp only
  unfold sout0_C_0
  rw [View.read_writes_eq_canon _ _ _ (fun y => scover0_C_0 (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']

theorem sC (c : Dev nD) (t : Fin cfg0.N) (h0 : ¬t.val % 32 = 0) (h1 : t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.2.2.2 = View.canon (stores (ldAt m c t tl) s []) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_C m c t h0 h1, ← htl, ← hs]
  dsimp only
  unfold sout0_C_1
  rw [View.read_writes_eq_canon _ _ _ (fun y => scover0_C_1 (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']
  exact canon4_congr (new3 ..) (new2 ..) (new1 ..) (new0 ..)

theorem cC (c : Dev nD) (t : Fin cfg0.N) (h0 : ¬t.val % 32 = 0) (h1 : t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.1 = k0_pay1 (k0_pay6 tl (iblk m c 1 t)) := by
  rw [outsAt0_C m c t h0 h1, ← htl, ← hs]
  dsimp only
  unfold out0_C_13
  rw [View.read_writes_eq_canon _ _ _ (fun y => cover0_C_13 (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit']

theorem fC (c : Dev nD) (t : Fin cfg0.N) (h0 : ¬t.val % 32 = 0) (h1 : t.val % 32 = 31) (tl : Vec F S3x3072 .f32) (s : Vec F S4x512x128 .f32)
    (htl : tl = (outsAt0 m c (t.val - 1) (by have := t.isLt; omega)).2.2.2.1) (hs : s = (outsAt0 m c (t.val - 1) (by have := t.isLt; omega)).2.2.2.2) :
    (outsAt0 m c t.val t.isLt).2.2.1 = k0_pay2 (View.canon (stores (ldAt m c t tl) s [])) := by
  dsimp only [stores, Ld.y, Ld.rows, Ld.newS, Ld.xds, Ld.xdt, Ld.dec, Ld.e, Ld.ph, Ld.a, Ld.aT, Ld.xs, Ld.bs, Ld.cs, Ld.conv, ldAt]
  rw [outsAt0_C m c t h0 h1, ← htl, ← hs]
  dsimp only
  unfold out0_C_14
  rw [View.read_writes_eq_canon _ _ _ (fun y => cover0_C_14 (y := y) ..)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (Memref.isWhole_whole _).read_unread]
  simp (disch := decide) only [View.ld_unit_lit', View.canon_cons_unit_lit', readCov_all]
  exact congrArg k0_pay2 (canon4_congr (new3 ..) (new2 ..) (new1 ..) (new0 ..))

end Cert.KernelIdeal.Stages

end
-- ==== Proof.Spec.lean ====
/- What the state-space mixer computes over the extended reals, for one sequence of the batch: plain functions of
   natural coordinates, which both programs are shown to leave in their result arrays. A channel `j < 2048` belongs to head
   `j / 64` and to group `j / 512`; row `t = 128 c + l` is row `l` of chunk `c`. -/
module

public import Idealize.ShloMosaic.PureOps.Ideal
public import Idealize.ShloMosaic.Lib.Pointwise.Index

@[expose] public section

noncomputable section

namespace Cert.Spec

open Idealize.ShloMosaic

/-- One sequence's inputs, and the layer's weights. -/
structure Dat where
  z : ℕ → ℕ → EReal
  xb : ℕ → ℕ → EReal
  dt : ℕ → ℕ → EReal
  tail : ℕ → ℕ → EReal
  s0 : ℕ → ℕ → EReal
  w : ℕ → ℕ → EReal
  cb : ℕ → EReal
  dtb : ℕ → EReal
  alog : ℕ → EReal
  d : ℕ → EReal
  g : ℕ → EReal

variable (D : Dat)

/-- The sequence with the three rows that precede it in front. -/
def ext (t j : ℕ) : EReal := if t < 3 then D.tail t j else D.xb (t - 3) j

/-- The causal convolution of four taps. -/
def conv (t j : ℕ) : EReal :=
  D.cb j + ((((0 + ext D t j * D.w 0 j) + ext D (t + 1) j * D.w 1 j) + ext D (t + 2) j * D.w 2 j) + ext D (t + 3) j * D.w 3 j)

/-- The convolution's activation. -/
def act (t j : ℕ) : EReal := conv D t j * Ideal.logistic (conv D t j)

/-- `log (1 + eˣ)`, as it is printed. -/
def softplus (x : EReal) : EReal := max x 0 + Ideal.log1p (Ideal.exp (-(max x (-x))))

/-- The step size of head `h` at row `t`. -/
def dtp (t h : ℕ) : EReal := softplus (D.dt t h + D.dtb h)

/-- The log decay of head `h` at row `t`. -/
def dA (t h : ℕ) : EReal := dtp D t h * -(Ideal.exp (D.alog h))

/-- The log decay from the chunk's start up to and including row `l`. -/
def acs (c l h : ℕ) : EReal := ∑ k : Fin 128, if (k : ℕ) ≤ l then dA D (128 * c + k) h else 0

/-- The input of channel `j`, times its head's step size. -/
def xdt (t j : ℕ) : EReal := act D t j * dtp D t (j / 64)

/-- Group `g`'s key and query vectors. -/
def bm (t g n : ℕ) : EReal := act D t (2048 + 128 * g + n)
def cm (t g n : ℕ) : EReal := act D t (2560 + 128 * g + n)

/-- The product of the query at row `l` and the key at row `s`. -/
def cbm (c g l s : ℕ) : EReal := ∑ n : Fin 128, cm D (128 * c + l) g n * bm D (128 * c + s) g n

/-- The decay from row `s` to row `l`, zero ahead of the diagonal. -/
def decay (c h l s : ℕ) : EReal := Ideal.exp (if s ≤ l then acs D c l h - acs D c s h else ⊥)

/-- What the chunk's own rows contribute. -/
def ydiag (c l j : ℕ) : EReal := ∑ s : Fin 128, cbm D c (j / 512) l s * decay D c (j / 64) l s * xdt D (128 * c + s) j

/-- What the chunk adds to the state. -/
def states (c j n : ℕ) : EReal :=
  ∑ l : Fin 128, act D (128 * c + l) j * (dtp D (128 * c + l) (j / 64) * Ideal.exp (acs D c 127 (j / 64) - acs D c l (j / 64)))
    * bm D (128 * c + l) (j / 512) n

/-- The state a chunk is entered with. -/
def st : ℕ → ℕ → ℕ → EReal
  | 0, j, n => D.s0 j n
  | c + 1, j, n => st c j n * Ideal.exp (acs D c 127 (j / 64)) + states D c j n

/-- What the entering state contributes. -/
def yoff (c l j : ℕ) : EReal := (∑ n : Fin 128, cm D (128 * c + l) (j / 512) n * st D c j n) * Ideal.exp (acs D c l (j / 64))

/-- The mixed row with its skip connection, then gated. -/
def y1 (c l j : ℕ) : EReal :=
  ((ydiag D c l j + yoff D c l j) + D.d (j / 64) * act D (128 * c + l) j)
    * (D.z (128 * c + l) j * Ideal.logistic (D.z (128 * c + l) j))

/-- The result: the gated row over its root mean square. -/
def out (c l j : ℕ) : EReal :=
  y1 D c l j * Ideal.rsqrt (Ideal.div (∑ k : Fin 2048, y1 D c l k * y1 D c l k) (Ideal.ofBits .f32 0x45000000#32)
    + Ideal.ofBits .f32 0x358637BD#32) * D.g j

/-! The quantities of one batch, from the arrays: a read out of range counts as zero. -/

/-- An array's element at natural coordinates. -/
def tot1 {n : ℕ} (X : (⟨1, ![n]⟩ : Shape).Idx → EReal) (i : ℕ) : EReal := if h : i < n then X (ix1 ⟨i, h⟩) else 0
def tot2 {n₀ n₁ : ℕ} (X : (⟨2, ![n₀, n₁]⟩ : Shape).Idx → EReal) (i j : ℕ) : EReal :=
  if h : i < n₀ ∧ j < n₁ then X (ix2 ⟨i, h.1⟩ ⟨j, h.2⟩) else 0
def tot3 {n₀ n₁ n₂ : ℕ} (X : (⟨3, ![n₀, n₁, n₂]⟩ : Shape).Idx → EReal) (i j k : ℕ) : EReal :=
  if h : i < n₀ ∧ j < n₁ ∧ k < n₂ then X (ix3 ⟨i, h.1⟩ ⟨j, h.2.1⟩ ⟨k, h.2.2⟩) else 0
def tot4 {n₀ n₁ n₂ n₃ : ℕ} (X : (⟨4, ![n₀, n₁, n₂, n₃]⟩ : Shape).Idx → EReal) (i j k l : ℕ) : EReal :=
  if h : i < n₀ ∧ j < n₁ ∧ k < n₂ ∧ l < n₃ then X (ix4 ⟨i, h.1⟩ ⟨j, h.2.1⟩ ⟨k, h.2.2.1⟩ ⟨l, h.2.2.2⟩) else 0

theorem tot1_of {n : ℕ} {X : (⟨1, ![n]⟩ : Shape).Idx → EReal} {i : ℕ} (h : i < n) : tot1 X i = X (ix1 ⟨i, h⟩) := dif_pos h
theorem tot2_of {n₀ n₁ : ℕ} {X : (⟨2, ![n₀, n₁]⟩ : Shape).Idx → EReal} {i j : ℕ} (hi : i < n₀) (hj : j < n₁) :
    tot2 X i j = X (ix2 ⟨i, hi⟩ ⟨j, hj⟩) := dif_pos ⟨hi, hj⟩
theorem tot3_of {n₀ n₁ n₂ : ℕ} {X : (⟨3, ![n₀, n₁, n₂]⟩ : Shape).Idx → EReal} {i j k : ℕ} (hi : i < n₀) (hj : j < n₁) (hk : k < n₂) :
    tot3 X i j k = X (ix3 ⟨i, hi⟩ ⟨j, hj⟩ ⟨k, hk⟩) := dif_pos ⟨hi, hj, hk⟩
theorem tot4_of {n₀ n₁ n₂ n₃ : ℕ} {X : (⟨4, ![n₀, n₁, n₂, n₃]⟩ : Shape).Idx → EReal} {i j k l : ℕ} (hi : i < n₀) (hj : j < n₁) (hk : k < n₂) (hl : l < n₃) :
    tot4 X i j k l = X (ix4 ⟨i, hi⟩ ⟨j, hj⟩ ⟨k, hk⟩ ⟨l, hl⟩) := dif_pos ⟨hi, hj, hk, hl⟩

/-- One batch's quantities. -/
def datOf (z : (⟨3, ![4, 4096, 2048]⟩ : Shape).Idx → EReal) (xb : (⟨3, ![4, 4096, 3072]⟩ : Shape).Idx → EReal)
    (dt : (⟨3, ![4, 4096, 128]⟩ : Shape).Idx → EReal) (tail : (⟨3, ![4, 3, 3072]⟩ : Shape).Idx → EReal)
    (s0 : (⟨4, ![4, 32, 64, 128]⟩ : Shape).Idx → EReal) (w : (⟨2, ![4, 3072]⟩ : Shape).Idx → EReal) (cb : (⟨1, ![3072]⟩ : Shape).Idx → EReal)
    (dtb alog d : (⟨1, ![32]⟩ : Shape).Idx → EReal) (g : (⟨1, ![2048]⟩ : Shape).Idx → EReal) (b : ℕ) : Dat where
  z t j := tot3 z b t j
  xb t j := tot3 xb b t j
  dt t h := tot3 dt b t h
  tail t j := tot3 tail b t j
  s0 j n := tot4 s0 b (j / 64) (j % 64) n
  w i j := tot2 w i j
  cb j := tot1 cb j
  dtb h := tot1 dtb h
  alog h := tot1 alog h
  d h := tot1 d h
  g j := tot1 g j

end Cert.Spec

end
-- ==== Proof.Blocks.lean ====
/- What each grid point loads, in terms of the launch memory: the blocks of the arguments and of the small arrays prepared on the host. -/
module

public import proofs.«01_k».proof.Proof.Open
public import proofs.«01_k».proof.Proof.Spec
public import Idealize.ShloMosaic.Lib.Claim
public import Idealize.ShloMosaic.Lib.Pipeline.ValueKit.Point
public import Idealize.ShloMosaic.Lib.Pointwise

@[expose] public section

set_option maxRecDepth 16384

noncomputable section

namespace Cert.KernelIdeal.Stages

open Idealize.ShloMosaic Idealize.ShloMosaic.TcCoe Idealize.SL.Sem Cert.KernelIdeal Cert.KernelIdeal.Gen Cert.Spec

variable (m : (ℓ : Loc nD τ sig) → Buf (Elt Ideal) ℓ)

/-- A batch's quantities, from the launch memory. -/
def datK (c : Dev nD) (b : ℕ) : Dat :=
  datOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b

/-- The block each window holds at a point. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, 0, 0] ∧ win0_4.index t = ![t.val / 32, 0, 0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] := (by decide +kernel : ∀ t : Fin grid0.N, _)

variable (c : Dev nD) (t : Fin cfg0.N)

theorem lt128 : t.val < 128 := lt_of_lt_of_eq t.isLt N_0

theorem blk0 (l : Fin 128) (j : Fin 2048) : iblk m c 0 t (ix3 0 l j) = (datK m c (t.val / 32)).z (128 * (t.val % 32) + l) j := by
  have := lt128 t
  simp only [datK, datOf]
  rw [tot3_of (by omega) (by omega) (by omega)]
  blk_ext [iblk, V_main_arg0, idx t]

theorem blk1 (l : Fin 128) (j : Fin 3072) : iblk m c 1 t (ix3 0 l j) = (datK m c (t.val / 32)).xb (128 * (t.val % 32) + l) j := by
  have := lt128 t
  simp only [datK, datOf]
  rw [tot3_of (by omega) (by omega) (by omega)]
  blk_ext [iblk, V_main_arg1, idx t]

theorem blk2 (l : Fin 128) (j : Fin 128) : iblk m c 2 t (ix3 0 l j) = (datK m c (t.val / 32)).dt (128 * (t.val % 32) + l) j := by
  have := lt128 t
  simp only [datK, datOf]
  rw [tot3_of (by omega) (by omega) (by omega)]
  blk_ext [iblk, V_main_arg2, idx t]

theorem blk3 (k : Fin 3) (j : Fin 3072) : iblk m c 3 t (ix3 0 k j) = (datK m c (t.val / 32)).tail k j := by
  have := lt128 t
  simp only [datK, datOf]
  rw [tot3_of (by omega) (by omega) (by omega)]
  blk_ext [iblk, V_main_arg3, idx t]

theorem blk5 (k : Fin 4) (j : Fin 3072) : iblk m c 5 t (ix2 k j) = (datK m c (t.val / 32)).w k j := by
  simp only [datK, datOf]
  rw [tot2_of (by omega) (by omega)]
  blk_ext [iblk, V_main_arg5, idx t]

/-! The arrays the host prepares. -/

theorem ent4 (b g : Fin 4) (q : Fin 512) (n : Fin 128) : (V m c main_v9 : FVec Ideal S4x4x512x128 .f32) (ix4 b g q n)
    = (m ((c : Thread nD τ).loc main_arg4) : FVec Ideal S4x32x64x128 .f32) (ix4 b ⟨g * 8 + q / 64, by omega⟩ ⟨q % 64, by omega⟩ n) := by
  dsimp only [V, hostOps0, hostOps0_1, hostOps0_2, hostOps0_3, hostOps0_4, hostOps0_5, hostOps0_6, List.flatten_cons, List.flatten_nil, List.append_nil, List.cons_append, List.nil_append]
  entry_read
  pointwise

theorem ent6 (j : Fin 3072) : (V m c main_v10 : FVec Ideal S1x3072 .f32) (ix2 0 j) = (m ((c : Thread nD τ).loc main_arg6) : FVec Ideal S3072 .f32) (ix1 j) := by
  dsimp only [V, hostOps0, hostOps0_1, hostOps0_2, hostOps0_3, hostOps0_4, hostOps0_5, hostOps0_6, List.flatten_cons, List.flatten_nil, List.append_nil, List.cons_append, List.nil_append]
  entry_read
  pointwise

theorem ent7 (h : Fin 128) : (V m c main_v12 : FVec Ideal S1x128 .f32) (ix2 0 h) = tot1 (m ((c : Thread nD τ).loc main_arg7) : FVec Ideal S32 .f32) h := by
  dsimp only [V, hostOps0, hostOps0_1, hostOps0_2, hostOps0_3, hostOps0_4, hostOps0_5, hostOps0_6, List.flatten_cons, List.flatten_nil, List.append_nil, List.cons_append, List.nil_append]
  entry_read
  simp only [StableHlo.TRef.ofBuf_toBuf]
  simp only [StableHlo.TRef.ofBuf, StableHlo.TRef.toBuf, cast_eq]
  pointwise
  unfold tot1
  congr 1
  funext _
  exact show (((0#32 : BitVec 32).toInt : ℝ) : EReal) = 0 by simp

theorem ent8 (h : Fin 128) : (V m c main_v14 : FVec Ideal S1x128 .f32) (ix2 0 h) = tot1 (m ((c : Thread nD τ).loc main_arg8) : FVec Ideal S32 .f32) h := by
  dsimp only [V, hostOps0, hostOps0_1, hostOps0_2, hostOps0_3, hostOps0_4, hostOps0_5, hostOps0_6, List.flatten_cons, List.flatten_nil, List.append_nil, List.cons_append, List.nil_append]
  entry_read
  simp only [StableHlo.TRef.ofBuf_toBuf]
  simp only [StableHlo.TRef.ofBuf, StableHlo.TRef.toBuf, cast_eq]
  pointwise
  unfold tot1
  congr 1
  funext _
  exact show (((0#32 : BitVec 32).toInt : ℝ) : EReal) = 0 by simp

theorem ent9 (j : Fin 2048) : (V m c main_v17 : FVec Ideal S1x2048 .f32) (ix2 0 j) = (m ((c : Thread nD τ).loc main_arg9) : FVec Ideal S32 .f32) (ix1 ⟨j / 64, by omega⟩) := by
  dsimp only [V, hostOps0, hostOps0_1, hostOps0_2, hostOps0_3, hostOps0_4, hostOps0_5, hostOps0_6, List.flatten_cons, List.flatten_nil, List.append_nil, List.cons_append, List.nil_append]
  entry_read
  pointwise

theorem ent10 (j : Fin 2048) : (V m c main_v18 : FVec Ideal S1x2048 .f32) (ix2 0 j) = (m ((c : Thread nD τ).loc main_arg10) : FVec Ideal S2048 .f32) (ix1 j) := by
  dsimp only [V, hostOps0, hostOps0_1, hostOps0_2, hostOps0_3, hostOps0_4, hostOps0_5, hostOps0_6, List.flatten_cons, List.flatten_nil, List.append_nil, List.cons_append, List.nil_append]
  entry_read
  pointwise

/-- The head number of each channel, in words. -/
theorem head_word : ∀ j : Fin 2048, Scalar.select
          (IntOp.andi
            (IntOp.cmpi CmpIPredicate.ne
              (if BitVec.ofNat 32 ↑j = 0 then 0 else if (BitVec.ofNat 32 ↑j).msb = true then -1 else 1 : BitVec 32)
              (if 64#32 = 0 then 0 else if (64#32).msb = true then -1 else 1 : BitVec 32))
            (IntOp.cmpi CmpIPredicate.ne (IntOp.remsi ArithUnit.host (BitVec.ofNat 32 ↑j) 64#32) 0#32))
          (IntOp.subi (IntOp.divsi ArithUnit.host (BitVec.ofNat 32 ↑j) 64#32) 1#32)
          (IntOp.divsi ArithUnit.host (BitVec.ofNat 32 ↑j) 64#32) = BitVec.ofNat 32 (j / 64) := by decide +kernel

theorem eq_word : ∀ (h : Fin 128) (x : Fin 32), IntOp.cmpi .eq (BitVec.ofNat 32 h) (BitVec.ofNat 32 x) = BitVec.ofBool (decide ((h : ℕ) = x)) := by
  decide +kernel

theorem ent11 (h : Fin 128) (j : Fin 2048) : (V m c main_v8 : FVec Ideal S128x2048 .f32) (ix2 h j) = if (h : ℕ) = j / 64 then (1 : EReal) else 0 := by
  dsimp only [V, hostOps0, hostOps0_1, hostOps0_2, hostOps0_3, hostOps0_4, hostOps0_5, hostOps0_6, List.flatten_cons, List.flatten_nil, List.append_nil, List.cons_append, List.nil_append]
  entry_read
  simp only [StableHlo.TRef.ofBuf_toBuf]
  simp only [StableHlo.TRef.ofBuf, StableHlo.TRef.toBuf, cast_eq]
  pointwise
  refine (congrArg (fun x => (FloatOps.uitofp .f32 (IntOp.cmpi .eq (BitVec.ofNat 32 h) x) : Ideal .f32)) (head_word j)).trans ?_
  rw [eq_word h ⟨j / 64, by omega⟩]
  show (((BitVec.ofBool (decide ((h : ℕ) = j / 64))).toNat : ℝ) : EReal) = _
  by_cases e : (h : ℕ) = j / 64 <;> simp [e]

theorem blk4 (g : Fin 4) (q : Fin 512) (n : Fin 128) : iblk m c 4 t (ix4 0 g q n) = (datK m c (t.val / 32)).s0 (512 * g + q) n := by
  have := lt128 t
  rw [show iblk m c 4 t (ix4 0 g q n) = V m c main_v9 (ix4 ⟨t.val / 32, by omega⟩ g q n) by blk_ext [iblk, idx t]]
  rw [ent4]
  simp only [datK, datOf]
  rw [tot4_of (by omega) (by omega) (by omega) (by omega)]
  congr 2 <;> exact Fin.ext (by dsimp only; omega)

theorem blk6 (j : Fin 3072) : iblk m c 6 t (ix2 0 j) = (datK m c (t.val / 32)).cb j := by
  rw [show iblk m c 6 t (ix2 0 j) = V m c main_v10 (ix2 0 j) by blk_ext [iblk, idx t], ent6]
  simp only [datK, datOf]
  rw [tot1_of (by omega)]

theorem blk7 (h : Fin 128) : iblk m c 7 t (ix2 0 h) = (datK m c (t.val / 32)).dtb h := by
  rw [show iblk m c 7 t (ix2 0 h) = V m c main_v12 (ix2 0 h) by blk_ext [iblk, idx t], ent7]
  rfl

theorem blk8 (h : Fin 128) : iblk m c 8 t (ix2 0 h) = (datK m c (t.val / 32)).alog h := by
  rw [show iblk m c 8 t (ix2 0 h) = V m c main_v14 (ix2 0 h) by blk_ext [iblk, idx t], ent8]
  rfl

theorem blk9 (j : Fin 2048) : iblk m c 9 t (ix2 0 j) = (datK m c (t.val / 32)).d (j / 64) := by
  rw [show iblk m c 9 t (ix2 0 j) = V m c main_v17 (ix2 0 j) by blk_ext [iblk, idx t], ent9]
  simp only [datK, datOf]
  rw [tot1_of (by omega)]

theorem blk10 (j : Fin 2048) : iblk m c 10 t (ix2 0 j) = (datK m c (t.val / 32)).g j := by
  rw [show iblk m c 10 t (ix2 0 j) = V m c main_v18 (ix2 0 j) by blk_ext [iblk, idx t], ent10]
  simp only [datK, datOf]
  rw [tot1_of (by omega)]

theorem blk11 (h : Fin 128) (j : Fin 2048) : iblk m c 11 t (ix2 h j) = (if (h : ℕ) = j / 64 then 1 else 0 : EReal) := by
  rw [show iblk m c 11 t (ix2 h j) = V m c main_v8 (ix2 h j) by blk_ext [iblk, idx t], ent11]

end Cert.KernelIdeal.Stages

end
-- ==== Proof.Heads.lean ====
/- The per-head and per-group stages of the kernel, read at an index over the extended reals. -/
module

public import proofs.«01_k».proof.Proof.Spec
public import proofs.«01_k».proof.Proof.Stages
public import Idealize.ShloMosaic.Lib.Pointwise

@[expose] public section

set_option maxRecDepth 16384

noncomputable section

namespace Cert.KernelIdeal.Stages

open Idealize.ShloMosaic Cert.KernelIdeal Cert.KernelIdeal.Gen

/-- The pattern of minus infinity denotes the least extended real. -/
theorem ofBits_bot : Ideal.ofBits .f32 0xFF800000#32 = (⊥ : EReal) := by simp [Ideal.ofBits, Ideal.ieee]

/-- The signed comparison of two small words is that of the naturals. -/
theorem sle_small (s l : ℕ) (hs : s < 128) (hl : l < 128) :
    IntOp.cmpi .sle (BitVec.ofNat 32 s) (BitVec.ofNat 32 l) = BitVec.ofBool (decide (s ≤ l)) := by
  have h : ∀ s l : Fin 128, IntOp.cmpi .sle (BitVec.ofNat 32 s) (BitVec.ofNat 32 l) = BitVec.ofBool (decide ((s : ℕ) ≤ l)) := by decide +kernel
  exact h ⟨s, hs⟩ ⟨l, hl⟩

/-- The causal mask selects by comparing the two coordinates. -/
theorem mask_at (l s : Fin 128) (x y : EReal) : Scalar.select (k0_pay14 (ix2 l s)) x y = if (s : ℕ) ≤ l then x else y := by
  pointwise [k0_pay14]
  rw [sle_small s l s.isLt l.isLt]
  by_cases h : (s : ℕ) ≤ l
  · rw [if_pos h, decide_eq_true h]; rfl
  · rw [if_neg h, decide_eq_false h]; rfl

theorem head_at (h h64 : ℕ) (hh : h < 128) (h64' : h64 + 64 ≤ 2048) (h1 h2 h3) (a aT cb : FVec Ideal S128x128 .f32)
    (xdt : FVec Ideal S128x2048 .bf16) (A : ℕ → ℕ → EReal)
    (ha : ∀ l k : Fin 128, a (ix2 l k) = A l k) (haT : ∀ l k : Fin 128, aT (ix2 k l) = A l k) (l : Fin 128) (p : Fin 64) :
    head h h64 h1 h2 h3 k0_pay14 a aT cb xdt (ix2 l p)
      = ∑ s : Fin 128, cb (ix2 l s) * Ideal.exp (if (s : ℕ) ≤ l then A l h - A s h else ⊥) * xdt (ix2 s ⟨h64 + p, by omega⟩) := by
  pointwise [head]
  simp only [mask_at, ha, haT, ofBits_bot]

/-- A group's row at an index: which head the column belongs to, and where in the head it lies. -/
theorem groupY_at (o : ℕ) (ho) (h512 : o + 512 ≤ 2048) (H : Fin 8 → FVec Ideal S128x64 .f32) (yoff : FVec Ideal S128x512 .f32)
    (dec : FVec Ideal S128x2048 .f32) (Y : ℕ → ℕ → EReal) (hY : ∀ (r : Fin 8) (l : Fin 128) (p : Fin 64), H r (ix2 l p) = Y l (64 * r + p))
    (l : Fin 128) (q : Fin 512) :
    groupY o ho H yoff dec (ix2 l q) = Y l q + yoff (ix2 l q) * dec (ix2 l ⟨o + q, by omega⟩) := by
  pointwise [groupY]
  refine congrArg (· + _) ?_
  have hr : (q : ℕ) / 64 < 8 := by omega
  have key : ∀ r : Fin 8, (q : ℕ) / 64 = r → ∀ c (hc : c < 64), c = (q : ℕ) - 64 * (r : ℕ) → H r (ix2 l ⟨c, hc⟩) = Y l q := fun r e c hc e' => by
    rw [hY]; congr 1; show 64 * (r : ℕ) + c = q; omega
  split
  · exact key 0 (by show (q : ℕ) / 64 = 0; omega) _ _ (by show _ = (q : ℕ) - 64 * 0; omega)
  split
  · exact key 1 (by show (q : ℕ) / 64 = 1; omega) _ _ (by show _ = (q : ℕ) - 64 * 1; omega)
  split
  · exact key 2 (by show (q : ℕ) / 64 = 2; omega) _ _ (by show _ = (q : ℕ) - 64 * 2; omega)
  split
  · exact key 3 (by show (q : ℕ) / 64 = 3; omega) _ _ (by show _ = (q : ℕ) - 64 * 3; omega)
  split
  · exact key 4 (by show (q : ℕ) / 64 = 4; omega) _ _ (by show _ = (q : ℕ) - 64 * 4; omega)
  split
  · exact key 5 (by show (q : ℕ) / 64 = 5; omega) _ _ (by show _ = (q : ℕ) - 64 * 5; omega)
  split
  · exact key 6 (by show (q : ℕ) / 64 = 6; omega) _ _ (by show _ = (q : ℕ) - 64 * 6; omega)
  · exact key 7 (by show (q : ℕ) / 64 = 7; omega) _ _ (by show _ = (q : ℕ) - 64 * 7; omega)

theorem grp_at (o : ℕ) (ho) (h' : o + 128 ≤ 512) (v : FVec Ideal S128x512 .f32) (l n : Fin 128) :
    grp o ho v (ix2 l n) = v (ix2 l ⟨o + n, by omega⟩) := by pointwise [grp]

theorem prod_at (b c : FVec Ideal S128x128 .bf16) (l s : Fin 128) :
    prod b c (ix2 l s) = ∑ n : Fin 128, c (ix2 l n) * b (ix2 s n) := by pointwise [prod]

theorem off_at (c : FVec Ideal S128x128 .bf16) (s : Vec Ideal S1x512x128 .f32) (l : Fin 128) (q : Fin 512) :
    off c s (ix2 l q) = ∑ n : Fin 128, c (ix2 l n) * s (ix3 0 q n) := by pointwise [off]

/-- A state row's head, as the word the kernel computes by a floor division. -/
theorem pay23_at (q : Fin 512) (k : Fin 128) : k0_pay23 (ix2 q k) = BitVec.ofNat 32 (q / 64) := by
  pointwise [k0_pay23]
  revert q
  decide +kernel

/-- Two small words are equal when the naturals are. -/
theorem eq_small (a x : ℕ) (ha : a < 32) (hx : x < 128) :
    IntOp.cmpi .eq (BitVec.ofNat 32 a) (BitVec.ofNat 32 x) = BitVec.ofBool (decide (x = a)) := by
  have h : ∀ (a : Fin 32) (x : Fin 128), IntOp.cmpi .eq (BitVec.ofNat 32 a) (BitVec.ofNat 32 x) = BitVec.ofBool (decide ((x : ℕ) = a)) := by decide +kernel
  exact h ⟨a, ha⟩ ⟨x, hx⟩

theorem groupS_at (o : ℕ) (ho) (h512 : o + 512 ≤ 2048) (k : ℕ) (hk : k ≤ 24) (xds : FVec Ideal S128x2048 .bf16) (b : FVec Ideal S128x128 .bf16)
    (e : FVec Ideal S1x128 .f32) (s : Vec Ideal S1x512x128 .f32) (u : Fin 1) (q : Fin 512) (n : Fin 128) :
    groupS o ho (BitVec.ofNat 32 k) xds b e s (ix3 u q n)
      = s (ix3 0 q n) * e (ix2 0 ⟨k + q / 64, by omega⟩) + ∑ l : Fin 128, xds (ix2 l ⟨o + q, by omega⟩) * b (ix2 l n) := by
  pointwise [groupS, pay23_at]
  refine congrArg (· + _) (congrArg (_ * ·) ?_)
  have e1 : IntOp.addi (BitVec.ofNat 32 ((q : ℕ) / 64)) (BitVec.ofNat 32 k) = BitVec.ofNat 32 (k + q / 64) := by
    rw [Nat.add_comm]; exact (BitVec.ofNat_add _ _).symm
  rw [e1, Finset.sum_eq_single (⟨k + q / 64, by omega⟩ : Fin 128)]
  · rw [eq_small _ _ (by omega) (by show k + (q : ℕ) / 64 < 128; omega), decide_eq_true rfl]; rfl
  · intro x _ hx
    rw [eq_small _ _ (by omega) x.isLt, decide_eq_false (fun e => hx (Fin.ext e))]; rfl
  · intro h; exact absurd (Finset.mem_univ _) h

end Cert.KernelIdeal.Stages

end
-- ==== Proof.Chunk.lean ====
/- The kernel's chunk over the extended reals: each stage, from blocks that hold one sequence's chunk, is the specification's. -/
module

public import proofs.«01_k».proof.Proof.Heads

@[expose] public section

set_option maxRecDepth 16384

noncomputable section

namespace Cert.KernelIdeal.Stages

open Idealize.ShloMosaic Cert.KernelIdeal Cert.KernelIdeal.Gen Cert.Spec

variable (D : Dat) (c : ℕ)

section Conv

variable {v3 : Vec Ideal S3x3072 .f32} {v4 : Vec Ideal S1x128x3072 .f32}
  (h3 : ∀ (k : Fin 3) (j : Fin 3072), v3 (ix2 k j) = ext D (128 * c + k) j)
  (h4 : ∀ (l : Fin 128) (j : Fin 3072), v4 (ix3 0 l j) = D.xb (128 * c + l) j)

include h3 h4

/-- The tail and the chunk, joined. -/
theorem pay5_at (r : Fin 131) (j : Fin 3072) : k0_pay5 v3 v4 (ix2 r j) = ext D (128 * c + r) j := by
  pointwise [k0_pay5]
  split
  · rename_i h
    exact h3 ⟨r, h⟩ j
  · rename_i h
    have h' : ¬ (r : ℕ) < 3 := h
    refine (h4 ⟨(r : ℕ) - 3, by omega⟩ j).trans ?_
    rw [ext, if_neg (by omega)]
    congr 1
    show 128 * c + ((r : ℕ) - 3) = 128 * c + r - 3
    omega

/-- The tail the next chunk is entered with. -/
theorem pay7_at (k : Fin 3) (j : Fin 3072) : k0_pay7 v3 v4 (ix2 k j) = ext D (128 * (c + 1) + k) j := by
  pointwise [k0_pay7, k0_pay6]
  rw [pay5_at D c h3 h4]
  congr 1
  show 128 * c + (128 + (k : ℕ)) = _
  omega

variable {cb w0 w1 w2 w3 : Vec Ideal S1x3072 .f32}
  (hcb : ∀ j : Fin 3072, cb (ix2 0 j) = D.cb j) (hw0 : ∀ j : Fin 3072, w0 (ix2 0 j) = D.w 0 j) (hw1 : ∀ j : Fin 3072, w1 (ix2 0 j) = D.w 1 j)
  (hw2 : ∀ j : Fin 3072, w2 (ix2 0 j) = D.w 2 j) (hw3 : ∀ j : Fin 3072, w3 (ix2 0 j) = D.w 3 j)

include hcb hw0 hw1 hw2 hw3

theorem pay8_at (l : Fin 128) (j : Fin 3072) : k0_pay8 v3 v4 cb w0 w1 w2 w3 (ix2 l j) = conv D (128 * c + l) j := by
  pointwise [k0_pay8]
  simp only [pay5_at D c h3 h4, hcb, hw0, hw1, hw2, hw3]
  rw [conv, zero_add, show 128 * c + (1 + (l : ℕ)) = 128 * c + l + 1 by omega, show 128 * c + (2 + (l : ℕ)) = 128 * c + l + 2 by omega,
    show 128 * c + (3 + (l : ℕ)) = 128 * c + l + 3 by omega]

end Conv

section Act

variable {v35 : FVec Ideal S128x3072 .f32} (hv : ∀ (l : Fin 128) (j : Fin 3072), v35 (ix2 l j) = conv D (128 * c + l) j)
include hv

theorem pay9_at (l : Fin 128) (j : Fin 3072) : k0_pay9 v35 (ix2 l j) = act D (128 * c + l) j := by
  pointwise [k0_pay9]
  rw [hv]; rfl

theorem pay10_at (l : Fin 128) (j : Fin 2048) : k0_pay10 v35 (ix2 l j) = act D (128 * c + l) j := by
  pointwise [k0_pay10]
  rw [pay9_at D c hv]

theorem pay11_at (l : Fin 128) (q : Fin 512) : k0_pay11 v35 (ix2 l q) = act D (128 * c + l) (2048 + q) := by
  pointwise [k0_pay11]
  rw [pay9_at D c hv]

theorem pay12_at (l : Fin 128) (q : Fin 512) : k0_pay12 v35 (ix2 l q) = act D (128 * c + l) (2560 + q) := by
  pointwise [k0_pay12]
  rw [pay9_at D c hv]

end Act

/-- The causal mask as a number: one at or below the diagonal, zero above. -/
theorem mask_word (l k : Fin 128) : FloatOps.sitofp (F := Ideal) .f32 (BitVec.setWidth 32 (k0_pay14 (ix2 l k))) = if (k : ℕ) ≤ l then (1 : EReal) else 0 := by
  have e : k0_pay14 (ix2 l k) = BitVec.ofBool (decide ((k : ℕ) ≤ l)) := by
    pointwise [k0_pay14]
    exact sle_small k l k.isLt l.isLt
  rw [e]
  by_cases h : (k : ℕ) ≤ l
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    norm_num

section Steps

variable {v41 : Vec Ideal S1x128x128 .f32} {v43 v61 : Vec Ideal S1x128 .f32}
  (h41 : ∀ l h : Fin 128, v41 (ix3 0 l h) = D.dt (128 * c + l) h) (h43 : ∀ h : Fin 128, v43 (ix2 0 h) = D.dtb h)
  (h61 : ∀ h : Fin 128, v61 (ix2 0 h) = D.alog h)

section
include h41 h43
theorem pay13_at (l h : Fin 128) : k0_pay13 v41 v43 (ix2 l h) = dtp D (128 * c + l) h := by
  pointwise [k0_pay13]
  rw [h41, h43, if_neg (fun h => h rfl), zero_sub]
  rfl
end

include h41 h43 h61

theorem pay15_at (l h : Fin 128) : k0_pay15 v41 v43 v61 (ix2 l h) = acs D c l h := by
  pointwise [k0_pay15]
  simp only [pay13_at D c h41 h43, h61, zero_sub]
  refine Finset.sum_congr rfl fun k _ => ?_
  rw [mask_word]
  by_cases hk : (k : ℕ) ≤ l
  · rw [if_pos hk, if_pos hk, one_mul]; rfl
  · rw [if_neg hk, if_neg hk, zero_mul]

theorem pay16_at (h : Fin 128) : k0_pay16 v41 v43 v61 (ix2 0 h) = acs D c 127 h := by
  pointwise [k0_pay16]
  rw [pay15_at D c h41 h43 h61]
  rfl

theorem pay17_at (l h : Fin 128) : k0_pay17 v41 v43 v61 (ix2 h l) = acs D c l h := by
  pointwise [k0_pay17]
  rw [pay15_at D c h41 h43 h61]

theorem pay18_at (r : Fin 384) (h : Fin 128) : k0_pay18 v41 v43 v61 (ix2 r h) = if (r : ℕ) < 128 then dtp D (128 * c + r) h else
    if (r : ℕ) < 256 then dtp D (128 * c + (r - 128 : ℕ)) h * Ideal.exp (acs D c 127 h - acs D c (r - 128 : ℕ) h) else
    Ideal.exp (acs D c (r - 256 : ℕ) h) := by
  pointwise [k0_pay18]
  simp only [pay13_at D c h41 h43, pay15_at D c h41 h43 h61, pay16_at D c h41 h43 h61]
  by_cases h1 : (r : ℕ) < 128
  · rw [dif_pos h1, if_pos h1]
  · rw [dif_neg h1, if_neg h1]
    by_cases h2 : (r : ℕ) < 256
    · rw [dif_pos (by omega), if_pos h2]
    · rw [dif_neg (by omega), if_neg h2, Nat.sub_sub]

variable {v82 : Vec Ideal S128x2048 .f32} (h82 : ∀ (h : Fin 128) (j : Fin 2048), v82 (ix2 h j) = if (h : ℕ) = j / 64 then 1 else 0)
include h82

theorem pay19_at (r : Fin 384) (j : Fin 2048) : k0_pay19 (k0_pay18 v41 v43 v61) v82 (ix2 r j) = k0_pay18 v41 v43 v61 (ix2 r ⟨j / 64, by omega⟩) := by
  pointwise [k0_pay19]
  rw [Finset.sum_eq_single (⟨(j : ℕ) / 64, by omega⟩ : Fin 128)]
  · rw [h82, if_pos rfl, mul_one]
  · intro x _ hx
    rw [h82, if_neg (fun e => hx (Fin.ext e)), mul_zero]
  · intro h; exact absurd (Finset.mem_univ _) h

variable {v38 : FVec Ideal S128x2048 .f32} (h38 : ∀ (l : Fin 128) (j : Fin 2048), v38 (ix2 l j) = act D (128 * c + l) j)

theorem pay22_at (l : Fin 128) (j : Fin 2048) : k0_pay22 (k0_pay18 v41 v43 v61) v82 (ix2 l j) = Ideal.exp (acs D c l (j / 64)) := by
  pointwise [k0_pay22]
  rw [pay19_at D c h41 h43 h61 h82, pay18_at D c h41 h43 h61, if_neg (by show ¬ 256 + (l : ℕ) < 128; omega), if_neg (by show ¬ 256 + (l : ℕ) < 256; omega)]
  show Ideal.exp (acs D c (256 + (l : ℕ) - 256) _) = _
  rw [Nat.add_sub_cancel_left]

include h38

theorem pay20_at (l : Fin 128) (j : Fin 2048) : k0_pay20 v38 (k0_pay18 v41 v43 v61) v82 (ix2 l j) = xdt D (128 * c + l) j := by
  pointwise [k0_pay20]
  rw [pay19_at D c h41 h43 h61 h82, pay18_at D c h41 h43 h61, h38, if_pos (show (l : ℕ) < 128 from l.isLt)]
  rfl

theorem pay21_at (l : Fin 128) (j : Fin 2048) : k0_pay21 v38 (k0_pay18 v41 v43 v61) v82 (ix2 l j)
    = act D (128 * c + l) j * (dtp D (128 * c + l) (j / 64) * Ideal.exp (acs D c 127 (j / 64) - acs D c l (j / 64))) := by
  pointwise [k0_pay21]
  rw [pay19_at D c h41 h43 h61 h82, pay18_at D c h41 h43 h61, h38, if_neg (by show ¬ 128 + (l : ℕ) < 128; omega), if_pos (by show 128 + (l : ℕ) < 256; omega)]
  show _ * (dtp D (128 * c + (128 + (l : ℕ) - 128)) _ * Ideal.exp (acs D c 127 _ - acs D c (128 + (l : ℕ) - 128) _)) = _
  rw [Nat.add_sub_cancel_left]

end Steps

section Out

variable {v38 : FVec Ideal S128x2048 .f32} {Y0 Y1 Y2 Y3 : FVec Ideal S128x512 .f32} {vd vg : Vec Ideal S1x2048 .f32} {vz : Vec Ideal S1x128x2048 .f32}
  (h38 : ∀ (l : Fin 128) (j : Fin 2048), v38 (ix2 l j) = act D (128 * c + l) j)
  (hY0 : ∀ (l : Fin 128) (q : Fin 512), Y0 (ix2 l q) = ydiag D c l q + yoff D c l q)
  (hY1 : ∀ (l : Fin 128) (q : Fin 512), Y1 (ix2 l q) = ydiag D c l (512 + q) + yoff D c l (512 + q))
  (hY2 : ∀ (l : Fin 128) (q : Fin 512), Y2 (ix2 l q) = ydiag D c l (1024 + q) + yoff D c l (1024 + q))
  (hY3 : ∀ (l : Fin 128) (q : Fin 512), Y3 (ix2 l q) = ydiag D c l (1536 + q) + yoff D c l (1536 + q))
  (hd : ∀ j : Fin 2048, vd (ix2 0 j) = D.d (j / 64)) (hg : ∀ j : Fin 2048, vg (ix2 0 j) = D.g j)
  (hz : ∀ (l : Fin 128) (j : Fin 2048), vz (ix3 0 l j) = D.z (128 * c + l) j)
include h38 hY0 hY1 hY2 hY3 hd hg hz

theorem pay91_at (l : Fin 128) (j : Fin 2048) : k0_pay91 v38 Y0 Y1 Y2 Y3 vd vz vg (ix3 0 l j) = out D c l j := by
  pointwise [k0_pay91]
  simp only [h38, hd, hg, hz, hY0, hY1, hY2, hY3]
  have key : ∀ x : Fin 2048, (if h : (x : ℕ) < 512 then ydiag D c l x + yoff D c l x
      else if h : (x : ℕ) - 512 < 512 then ydiag D c l (512 + (x - 512)) + yoff D c l (512 + (x - 512))
      else if h : (x : ℕ) - 512 - 512 < 512 then ydiag D c l (1024 + (x - 512 - 512)) + yoff D c l (1024 + (x - 512 - 512))
      else ydiag D c l (1536 + (x - 512 - 512 - 512)) + yoff D c l (1536 + (x - 512 - 512 - 512))) = ydiag D c l x + yoff D c l x := fun x => by
    split
    · rfl
    split
    · rw [show 512 + ((x : ℕ) - 512) = x by omega]
    split
    · rw [show 1024 + ((x : ℕ) - 512 - 512) = x by omega]
    · rw [show 1536 + ((x : ℕ) - 512 - 512 - 512) = x by omega]
  simp only [key]
  rfl

end Out

end Cert.KernelIdeal.Stages

end
-- ==== Proof.Walk.lean ====
/- The sweep over the grid: at every point the entering tail and state are the sequence's, so each point's results are too. -/
module

public import proofs.«01_k».proof.Proof.Blocks
public import proofs.«01_k».proof.Proof.Chunk
public import proofs.«01_k».proof.Proof.Heads

@[expose] public section

set_option maxRecDepth 16384

noncomputable section

namespace Cert.KernelIdeal.Stages

open Idealize.ShloMosaic Idealize.ShloMosaic.TcCoe Idealize.SL.Sem Cert.KernelIdeal Cert.KernelIdeal.Gen Cert.Spec

/-- What is loaded is chunk `c` of the sequence `D`. -/
structure Holds (D : Dat) (c : ℕ) (b : Ld Ideal) : Prop where
  tail : ∀ (k : Fin 3) (j : Fin 3072), b.tail (ix2 k j) = ext D (128 * c + k) j
  xb : ∀ (l : Fin 128) (j : Fin 3072), b.xb (ix3 0 l j) = D.xb (128 * c + l) j
  cb : ∀ j : Fin 3072, b.cb (ix2 0 j) = D.cb j
  w0 : ∀ j : Fin 3072, b.w0 (ix2 0 j) = D.w 0 j
  w1 : ∀ j : Fin 3072, b.w1 (ix2 0 j) = D.w 1 j
  w2 : ∀ j : Fin 3072, b.w2 (ix2 0 j) = D.w 2 j
  w3 : ∀ j : Fin 3072, b.w3 (ix2 0 j) = D.w 3 j
  dt : ∀ l h : Fin 128, b.dt (ix3 0 l h) = D.dt (128 * c + l) h
  dtb : ∀ h : Fin 128, b.dtb (ix2 0 h) = D.dtb h
  alog : ∀ h : Fin 128, b.alog (ix2 0 h) = D.alog h
  hx : ∀ (h : Fin 128) (j : Fin 2048), b.hx (ix2 h j) = (if (h : ℕ) = j / 64 then 1 else 0 : EReal)
  dd : ∀ j : Fin 2048, b.dd (ix2 0 j) = D.d (j / 64)
  z : ∀ (l : Fin 128) (j : Fin 2048), b.z (ix3 0 l j) = D.z (128 * c + l) j
  g : ∀ j : Fin 2048, b.g (ix2 0 j) = D.g j

/-- A plane of the state, loaded. -/
theorem ld_plane (s : Vec Ideal S4x512x128 .f32) (g : ℕ) (hg : g < 4) (q : Fin 512) (n : Fin 128) :
    View.ld s (plane g hg) (ix3 0 q n) = s (ix3 ⟨g, hg⟩ q n) := by
  show s _ = s _
  congr 1
  funext a
  match a with
  | ⟨0, _⟩ => exact Fin.ext (show g + 1 * 0 = g by omega)
  | ⟨1, _⟩ => exact Fin.ext (show 0 + 1 * (q : ℕ) = q by omega)
  | ⟨2, _⟩ => exact Fin.ext (show 0 + 1 * (n : ℕ) = n by omega)

namespace Holds

variable {D : Dat} {c : ℕ} {b : Ld Ideal} (H : Holds D c b)
include H

theorem conv_at (l : Fin 128) (j : Fin 3072) : b.conv (ix2 l j) = conv D (128 * c + l) j :=
  pay8_at D c H.tail H.xb H.cb H.w0 H.w1 H.w2 H.w3 l j

theorem xs_at (l : Fin 128) (j : Fin 2048) : b.xs (ix2 l j) = act D (128 * c + l) j := pay10_at D c H.conv_at l j
theorem bs_at (l : Fin 128) (q : Fin 512) : b.bs (ix2 l q) = act D (128 * c + l) (2048 + q) := pay11_at D c H.conv_at l q
theorem cs_at (l : Fin 128) (q : Fin 512) : b.cs (ix2 l q) = act D (128 * c + l) (2560 + q) := pay12_at D c H.conv_at l q
theorem a_at (l h : Fin 128) : b.a (ix2 l h) = acs D c l h := pay15_at D c H.dt H.dtb H.alog l h
theorem aT_at (l h : Fin 128) : b.aT (ix2 h l) = acs D c l h := pay17_at D c H.dt H.dtb H.alog l h
theorem e_at (h : Fin 128) : b.e (ix2 0 h) = Ideal.exp (acs D c 127 h) := by
  rw [← pay16_at D c H.dt H.dtb H.alog h]
  rfl
theorem xdt_at (l : Fin 128) (j : Fin 2048) : b.xdt (ix2 l j) = xdt D (128 * c + l) j := pay20_at D c H.dt H.dtb H.alog H.hx H.xs_at l j
theorem xds_at (l : Fin 128) (j : Fin 2048) : b.xds (ix2 l j)
    = act D (128 * c + l) j * (dtp D (128 * c + l) (j / 64) * Ideal.exp (acs D c 127 (j / 64) - acs D c l (j / 64))) :=
  pay21_at D c H.dt H.dtb H.alog H.hx H.xs_at l j
theorem dec_at (l : Fin 128) (j : Fin 2048) : b.dec (ix2 l j) = Ideal.exp (acs D c l (j / 64)) := pay22_at D c H.dt H.dtb H.alog H.hx l j

/-- A group's keys and queries. -/
theorem gb_at (g : ℕ) (hg : g < 4) (l n : Fin 128) : grp (128 * g) (sl_grp hg) b.bs (ix2 l n) = bm D (128 * c + l) g n := by
  rw [grp_at _ _ (by omega), H.bs_at, bm]
  congr 1
  show 2048 + (128 * g + (n : ℕ)) = _
  omega
theorem gc_at (g : ℕ) (hg : g < 4) (l n : Fin 128) : grp (128 * g) (sl_grp hg) b.cs (ix2 l n) = cm D (128 * c + l) g n := by
  rw [grp_at _ _ (by omega), H.cs_at, cm]
  congr 1
  show 2560 + (128 * g + (n : ℕ)) = _
  omega

variable {s : Vec Ideal S1x512x128 .f32}

/-- The state a group is left with. -/
theorem newS_at (g : ℕ) (hg : g < 4) (hs : ∀ (q : Fin 512) (n : Fin 128), s (ix3 0 q n) = st D c (512 * g + q) n) (u : Fin 1) (q : Fin 512) (n : Fin 128) :
    b.newS g hg s (ix3 u q n) = st D (c + 1) (512 * g + q) n := by
  unfold Ld.newS newOf
  rw [groupS_at _ _ (by omega) _ (by omega), hs, H.e_at]
  rw [st, states]
  have e1 : (512 * g + (q : ℕ)) / 64 = 8 * g + q / 64 := by omega
  have e2 : (512 * g + (q : ℕ)) / 512 = g := by omega
  refine congrArg₂ (· + ·) (by rw [e1]) (Finset.sum_congr rfl fun l _ => ?_)
  rw [H.xds_at, H.gb_at g hg]
  dsimp only
  rw [e2]

/-- A group's rows. -/
theorem rows_at (g : ℕ) (hg : g < 4) (hs : ∀ (q : Fin 512) (n : Fin 128), s (ix3 0 q n) = st D c (512 * g + q) n) (l : Fin 128) (q : Fin 512) :
    b.rows g hg s (ix2 l q) = ydiag D c l (512 * g + q) + yoff D c l (512 * g + q) := by
  unfold Ld.rows rowsOf
  rw [groupY_at _ _ (by omega) _ _ _ (fun l q => ydiag D c l (512 * g + q))]
  · refine congrArg (_ + ·) ?_
    rw [yoff, off_at, H.dec_at]
    have e2 : (512 * g + (q : ℕ)) / 512 = g := by omega
    refine congrArg (· * _) (Finset.sum_congr rfl fun n _ => ?_)
    rw [H.gc_at g hg, hs, e2]
  · intro r l p
    rw [head_at _ _ (by omega) (by omega) _ _ _ _ _ _ _ (fun l h => acs D c l h) H.a_at H.aT_at, ydiag]
    have e1 : (512 * g + (64 * (r : ℕ) + p)) / 64 = 8 * g + r := by omega
    have e2 : (512 * g + (64 * (r : ℕ) + p)) / 512 = g := by omega
    refine Finset.sum_congr rfl fun k _ => ?_
    rw [prod_at, H.xdt_at, cbm, decay, e1, e2]
    refine congrArg₂ (· * ·) (congrArg (· * _) (Finset.sum_congr rfl fun n _ => ?_)) ?_
    · rw [H.gc_at g hg, H.gb_at g hg]
    · congr 1
      show 512 * g + 64 * (r : ℕ) + p = _
      omega

/-- The chunk's result. -/
theorem y_at {s0 s1 s2 s3 : Vec Ideal S1x512x128 .f32} (h0 : ∀ (q : Fin 512) (n : Fin 128), s0 (ix3 0 q n) = st D c (512 * 0 + q) n)
    (h1 : ∀ (q : Fin 512) (n : Fin 128), s1 (ix3 0 q n) = st D c (512 * 1 + q) n) (h2 : ∀ (q : Fin 512) (n : Fin 128), s2 (ix3 0 q n) = st D c (512 * 2 + q) n)
    (h3 : ∀ (q : Fin 512) (n : Fin 128), s3 (ix3 0 q n) = st D c (512 * 3 + q) n) (l : Fin 128) (j : Fin 2048) :
    b.y s0 s1 s2 s3 (ix3 0 l j) = out D c l j :=
  pay91_at D c H.xs_at (fun l q => by simpa only [Nat.mul_zero, Nat.zero_add] using H.rows_at 0 (by omega) h0 l q)
    (fun l q => by simpa only [Nat.mul_one] using H.rows_at 1 (by omega) h1 l q) (fun l q => by simpa only using H.rows_at 2 (by omega) h2 l q)
    (fun l q => by simpa only using H.rows_at 3 (by omega) h3 l q) H.dd H.g H.z l j

/-- The state after the four stores. -/
theorem stores_at {s : Vec Ideal S4x512x128 .f32} (hs : ∀ (g : Fin 4) (q : Fin 512) (n : Fin 128), s (ix3 g q n) = st D c (512 * g + q) n)
    (L : List (View.Piece (Elt Ideal) S4x512x128 .f32)) (g : Fin 4) (q : Fin 512) (n : Fin 128) :
    View.canon (stores b s L) (ix3 g q n) = st D (c + 1) (512 * g + q) n := by
  have hp : ∀ (g : ℕ) (hg : g < 4) (x : S1x512x128.Idx), b.newS g hg (View.ld s (plane g hg)) x
      = st D (c + 1) (512 * ((plane g hg).emb x 0).val + ((plane g hg).emb x 1).val) ((plane g hg).emb x 2).val := by
    intro g hg x
    obtain ⟨u, q, n, rfl⟩ : ∃ (u : Fin 1) (q : Fin 512) (n : Fin 128), x = ix3 u q n := ⟨x 0, x 1, x 2, eq_ix3 x⟩
    rw [H.newS_at g hg (fun q n => (ld_plane s g hg q n).trans (hs ⟨g, hg⟩ q n)) u q n]
    · have hu : (u : ℕ) = 0 := by omega
      show _ = st D (c + 1) (512 * (g + 1 * (u : ℕ)) + (0 + 1 * (q : ℕ))) (0 + 1 * (n : ℕ))
      rw [hu]; congr 1 <;> omega
  let G : S4x512x128.Idx → Elt Ideal .f32 := fun y => st D (c + 1) (512 * (y 0).val + (y 1).val) (y 2).val
  refine View.canon_append_of_piecesOf G L
    (stores b s []) ⟨hp 3 (by omega), hp 2 (by omega), hp 1 (by omega), hp 0 (by omega), trivial⟩ (ix3 g q n) ?_
  have hm : ∀ (k : ℕ) (hk : k < 4), (g : ℕ) = k → ix3 g q n ∈ (plane k hk).set := by
    intro k hk e
    refine Rect.mem_set_unit.mpr fun a => ?_
    match a with
    | ⟨0, _⟩ => exact ⟨(show k ≤ (g : ℕ) by omega), (show (g : ℕ) < k + 1 by omega)⟩
    | ⟨1, _⟩ => exact ⟨Nat.zero_le _, (show (q : ℕ) < 0 + 512 by omega)⟩
    | ⟨2, _⟩ => exact ⟨Nat.zero_le _, (show (n : ℕ) < 0 + 128 by omega)⟩
  rcases (by omega : (g : ℕ) = 3 ∨ (g : ℕ) = 2 ∨ (g : ℕ) = 1 ∨ (g : ℕ) = 0) with e | e | e | e
  · exact ⟨_, List.mem_cons_self, hm 3 (by omega) e⟩
  · exact ⟨_, List.mem_cons_of_mem _ List.mem_cons_self, hm 2 (by omega) e⟩
  · exact ⟨_, List.mem_cons_of_mem _ (List.mem_cons_of_mem _ List.mem_cons_self), hm 1 (by omega) e⟩
  · exact ⟨_, List.mem_cons_of_mem _ (List.mem_cons_of_mem _ (List.mem_cons_of_mem _ List.mem_cons_self)), hm 0 (by omega) e⟩

end Holds

variable (m : (ℓ : Loc nD τ sig) → Buf (Elt Ideal) ℓ) (c : Dev nD)

/-- A row of the convolution's weights, loaded. -/
theorem ld_w (t : Fin cfg0.N) (k : Fin 4) (inb) (j : Fin 3072) :
    View.ld (iblk m c 5 t) (Rect.unit (s := S4x3072) ![k.val, 0] S1x3072.size inb) (ix2 0 j) = (datK m c (t.val / 32)).w k j := by
  refine Eq.trans ?_ (blk5 m c t k j)
  show iblk m c 5 t _ = iblk m c 5 t _
  congr 1
  funext a
  match a with
  | ⟨0, _⟩ => exact Fin.ext (show (k : ℕ) + 1 * 0 = k by omega)
  | ⟨1, _⟩ => exact Fin.ext (show 0 + 1 * (j : ℕ) = j by omega)

theorem holdsAt (t : Fin cfg0.N) {tl : Vec Ideal S3x3072 .f32}
    (h : ∀ (k : Fin 3) (j : Fin 3072), tl (ix2 k j) = ext (datK m c (t.val / 32)) (128 * (t.val % 32) + k) j) :
    Holds (datK m c (t.val / 32)) (t.val % 32) (ldAt m c t tl) := by
  have b0 := blk0 m c t
  have b1 := blk1 m c t
  have b2 := blk2 m c t
  have b6 := blk6 m c t
  have b7 := blk7 m c t
  have b8 := blk8 m c t
  have b9 := blk9 m c t
  have b10 := blk10 m c t
  have b11 := blk11 m c t
  have w0 := ld_w m c t 0 inb_S4x3072_S1x3072_0_0
  have w1 := ld_w m c t 1 inb_S4x3072_S1x3072_1_0
  have w2 := ld_w m c t 2 inb_S4x3072_S1x3072_2_0
  have w3 := ld_w m c t 3 inb_S4x3072_S1x3072_3_0
  generalize datK m c (t.val / 32) = D at *
  unfold ldAt
  generalize iblk m c 0 t = u0 at *
  generalize iblk m c 1 t = u1 at *
  generalize iblk m c 2 t = u2 at *
  generalize iblk m c 5 t = u5 at *
  generalize iblk m c 6 t = u6 at *
  generalize iblk m c 7 t = u7 at *
  generalize iblk m c 8 t = u8 at *
  generalize iblk m c 9 t = u9 at *
  generalize iblk m c 10 t = u10 at *
  generalize iblk m c 11 t = u11 at *
  exact ⟨h, b1, b6, w0, w1, w2, w3, b2, b7, b8, b11, b9, b0, b10⟩

/-- What a point leaves. -/
structure Left (t : Fin cfg0.N) : Prop where
  y : ∀ (l : Fin 128) (j : Fin 2048), (outsAt0 m c t.val t.isLt).1 (ix3 0 l j) = out (datK m c (t.val / 32)) (t.val % 32) l j
  tail : ∀ (k : Fin 3) (j : Fin 3072), (outsAt0 m c t.val t.isLt).2.2.2.1 (ix2 k j) = ext (datK m c (t.val / 32)) (128 * (t.val % 32 + 1) + k) j
  state : ∀ (g : Fin 4) (q : Fin 512) (n : Fin 128), (outsAt0 m c t.val t.isLt).2.2.2.2 (ix3 g q n) = st (datK m c (t.val / 32)) (t.val % 32 + 1) (512 * g + q) n
  conv : t.val % 32 = 31 → ∀ (k : Fin 3) (j : Fin 3072), (outsAt0 m c t.val t.isLt).2.1 (ix3 0 k j) = ext (datK m c (t.val / 32)) (128 * 32 + k) j
  fin : t.val % 32 = 31 → ∀ (g : Fin 4) (q : Fin 512) (n : Fin 128), (outsAt0 m c t.val t.isLt).2.2.1 (ix4 0 g q n) = st (datK m c (t.val / 32)) 32 (512 * g + q) n

theorem left_of (t : Fin cfg0.N) {tl : Vec Ideal S3x3072 .f32} {s : Vec Ideal S4x512x128 .f32}
    (htl : ∀ (k : Fin 3) (j : Fin 3072), tl (ix2 k j) = ext (datK m c (t.val / 32)) (128 * (t.val % 32) + k) j)
    (hs : ∀ (g : Fin 4) (q : Fin 512) (n : Fin 128), s (ix3 g q n) = st (datK m c (t.val / 32)) (t.val % 32) (512 * g + q) n)
    {L : List (View.Piece (Elt Ideal) S4x512x128 .f32)}
    (e1 : (outsAt0 m c t.val t.isLt).1 = (ldAt m c t tl).y (View.ld s (plane 0 (by omega))) (View.ld s (plane 1 (by omega))) (View.ld s (plane 2 (by omega))) (View.ld s (plane 3 (by omega))))
    (e2 : (outsAt0 m c t.val t.isLt).2.2.2.1 = k0_pay7 tl (iblk m c 1 t))
    (e3 : (outsAt0 m c t.val t.isLt).2.2.2.2 = View.canon (stores (ldAt m c t tl) s L))
    (e4 : t.val % 32 = 31 → (outsAt0 m c t.val t.isLt).2.1 = k0_pay1 (k0_pay6 tl (iblk m c 1 t)) ∧ (outsAt0 m c t.val t.isLt).2.2.1 = k0_pay2 (View.canon (stores (ldAt m c t tl) s []))) :
    Left m c t where
  y l j := by
    rw [e1]
    exact (holdsAt m c t htl).y_at (fun q n => (ld_plane s 0 _ q n).trans (hs 0 q n)) (fun q n => (ld_plane s 1 _ q n).trans (hs 1 q n))
      (fun q n => (ld_plane s 2 _ q n).trans (hs 2 q n)) (fun q n => (ld_plane s 3 _ q n).trans (hs 3 q n)) l j
  tail k j := by
    rw [e2]
    exact pay7_at _ _ htl (blk1 m c t) k j
  state g q n := by
    rw [e3]
    exact (holdsAt m c t htl).stores_at hs L g q n
  conv h k j := by
    rw [(e4 h).1]
    have := pay7_at _ _ htl (blk1 m c t) k j
    rw [h] at this
    rw [← this]
    pointwise [k0_pay1, k0_pay7]
  fin h g q n := by
    rw [(e4 h).2]
    have := (holdsAt m c t htl).stores_at hs [] g q n
    rw [h] at this
    rw [← this]
    pointwise [k0_pay2]

theorem left : ∀ (n : ℕ) (hn : n < cfg0.N), Left m c ⟨n, hn⟩ := by
  intro n
  induction n using Nat.strong_induction_on with
  | _ n ih =>
    intro hn
    by_cases h0 : n % 32 = 0
    · have h1 : ¬ n % 32 = 31 := by omega
      refine left_of m c ⟨n, hn⟩ (tl := k0_pay3 (iblk m c 3 ⟨n, hn⟩)) (s := k0_pay4 (iblk m c 4 ⟨n, hn⟩)) (fun k j => ?_) (fun g q k => ?_)
        (yA m c ⟨n, hn⟩ h0 h1 _ _ rfl rfl) (tA m c ⟨n, hn⟩ h0 h1 _ _ rfl rfl) (sA m c ⟨n, hn⟩ h0 h1 _ _ rfl rfl) (fun h => absurd h h1)
      · rw [show k0_pay3 (iblk m c 3 ⟨n, hn⟩) (ix2 k j) = iblk m c 3 ⟨n, hn⟩ (ix3 0 k j) by pointwise [k0_pay3], blk3]
        show _ = ext _ (128 * (n % 32) + k) j
        rw [h0, ext, if_pos (by omega)]
        congr 1
        omega
      · rw [show k0_pay4 (iblk m c 4 ⟨n, hn⟩) (ix3 g q k) = iblk m c 4 ⟨n, hn⟩ (ix4 0 g q k) by pointwise [k0_pay4], blk4]
        show _ = st _ (n % 32) _ _
        rw [h0, st]
    · have hp := ih (n - 1) (by omega) (by omega)
      have hd : (n - 1) / 32 = n / 32 := by omega
      have hm : (n - 1) % 32 + 1 = n % 32 := by omega
      have ht := hp.tail
      have hs := hp.state
      dsimp only at ht hs
      rw [hd, hm] at ht hs
      by_cases h1 : n % 32 = 31
      · exact left_of m c ⟨n, hn⟩ ht hs (yC m c ⟨n, hn⟩ h0 h1 _ _ rfl rfl) (tC m c ⟨n, hn⟩ h0 h1 _ _ rfl rfl) (sC m c ⟨n, hn⟩ h0 h1 _ _ rfl rfl)
          (fun _ => ⟨cC m c ⟨n, hn⟩ h0 h1 _ _ rfl rfl, fC m c ⟨n, hn⟩ h0 h1 _ _ rfl rfl⟩)
      · exact left_of m c ⟨n, hn⟩ ht hs (yB m c ⟨n, hn⟩ h0 h1 _ _ rfl rfl) (tB m c ⟨n, hn⟩ h0 h1 _ _ rfl rfl) (sB m c ⟨n, hn⟩ h0 h1 _ _ rfl rfl)
          (fun h => absurd h h1)

end Cert.KernelIdeal.Stages

end
-- ==== Proof.Outs.lean ====
/- The kernel's three result arrays, element by element. -/
module

public import proofs.«01_k».proof.Proof.Walk
public import proofs.«01_k».proof.Proof.Gen.KernelIdeal.Value

@[expose] public section

set_option maxRecDepth 16384

noncomputable section

namespace Cert.KernelIdeal.Stages

open Idealize.ShloMosaic Idealize.ShloMosaic.TcCoe Idealize.SL.Sem Cert.KernelIdeal Cert.KernelIdeal.Gen Cert.Spec

variable (m : (ℓ : Loc nD τ sig) → Buf (Elt Ideal) ℓ) (c : Dev nD)

theorem y_entry (b : Fin 4) (t : Fin 4096) (j : Fin 2048) :
    Value.G12 m c (ix3 b t j) = out (datK m c b) (t / 128) (t % 128) j := by
  have hp : Value.pt12Of (ix3 b t j) = 32 * b + t / 128 := by
    show 32 * ((b : ℕ) / 1 - 0) + 1 * ((t : ℕ) / 128 - 0) + 1 * ((j : ℕ) / 2048 - 0) = _
    omega
  have hlt : 32 * (b : ℕ) + t / 128 < cfg0.N := lt_of_lt_of_eq (show _ < 128 by omega) N_0.symm
  have hl : Value.loc12Of (ix3 b t j) = ix3 0 (⟨t % 128, by omega⟩ : Fin 128) j := by
    funext a
    match a with
    | ⟨0, _⟩ => exact Fin.ext (show (b : ℕ) % 1 = 0 by omega)
    | ⟨1, _⟩ => rfl
    | ⟨2, _⟩ => exact Fin.ext (show (j : ℕ) % 2048 = j by omega)
  unfold Value.G12
  rw [dif_pos (by rw [hp]; exact hlt), hl, Value.fold0_congr m c _ _ (32 * (b : ℕ) + t / 128) (by rw [Nat.zero_add]; exact hlt) hp, ← Value.outsAt0_sweep m c _ hlt]
  rw [(left m c _ hlt).y ⟨t % 128, by omega⟩ j]
  dsimp only
  congr 2 <;> omega

theorem conv_entry (b : Fin 4) (k : Fin 3) (j : Fin 3072) :
    Value.G13 m c (ix3 b k j) = ext (datK m c b) (4096 + k) j := by
  have hp : Value.pt13Of (ix3 b k j) = 32 * b + 31 := by
    show 32 * (1 * ((b : ℕ) / 1 - 0) + 1 * ((k : ℕ) / 3 - 0) + 1 * ((j : ℕ) / 3072 - 0)) + 31 = _
    omega
  have hlt : 32 * (b : ℕ) + 31 < cfg0.N := lt_of_lt_of_eq (show _ < 128 by omega) N_0.symm
  have hl : Value.loc13Of (ix3 b k j) = ix3 0 k j := by
    funext a
    match a with
    | ⟨0, _⟩ => exact Fin.ext (show (b : ℕ) % 1 = 0 by omega)
    | ⟨1, _⟩ => exact Fin.ext (show (k : ℕ) % 3 = k by omega)
    | ⟨2, _⟩ => exact Fin.ext (show (j : ℕ) % 3072 = j by omega)
  unfold Value.G13
  rw [dif_pos (by rw [hp]; exact hlt), hl, Value.fold0_congr m c _ _ (32 * (b : ℕ) + 31) (by rw [Nat.zero_add]; exact hlt) hp, ← Value.outsAt0_sweep m c _ hlt]
  rw [(left m c _ hlt).conv (show (32 * (b : ℕ) + 31) % 32 = 31 by omega) k j]
  dsimp only
  congr 2; omega

theorem state_entry (b g : Fin 4) (q : Fin 512) (n : Fin 128) :
    Value.G14 m c (ix4 b g q n) = st (datK m c b) 32 (512 * g + q) n := by
  have hp : Value.pt14Of (ix4 b g q n) = 32 * b + 31 := by
    show 32 * (1 * ((b : ℕ) / 1 - 0) + 1 * ((g : ℕ) / 4 - 0) + 1 * ((q : ℕ) / 512 - 0) + 1 * ((n : ℕ) / 128 - 0)) + 31 = _
    omega
  have hlt : 32 * (b : ℕ) + 31 < cfg0.N := lt_of_lt_of_eq (show _ < 128 by omega) N_0.symm
  have hl : Value.loc14Of (ix4 b g q n) = ix4 0 g q n := by
    funext a
    match a with
    | ⟨0, _⟩ => exact Fin.ext (show (b : ℕ) % 1 = 0 by omega)
    | ⟨1, _⟩ => exact Fin.ext (show (g : ℕ) % 4 = g by omega)
    | ⟨2, _⟩ => exact Fin.ext (show (q : ℕ) % 512 = q by omega)
    | ⟨3, _⟩ => exact Fin.ext (show (n : ℕ) % 128 = n by omega)
  unfold Value.G14
  rw [dif_pos (by rw [hp]; exact hlt), hl, Value.fold0_congr m c _ _ (32 * (b : ℕ) + 31) (by rw [Nat.zero_add]; exact hlt) hp, ← Value.outsAt0_sweep m c _ hlt]
  rw [(left m c _ hlt).fin (show (32 * (b : ℕ) + 31) % 32 = 31 by omega) g q n]
  dsimp only
  congr 2; omega

end Cert.KernelIdeal.Stages

end
-- ==== Proof.Cum.lean ====
/- A running sum along the third of five axes, printed as a window sum padded in front. -/
module

public import proofs.«01_k».proof.Proof.RefKeep
public import Idealize.ShloMosaic.Lib.StableHlo.ReadAt
public import Idealize.ShloMosaic.Lib.Pointwise

@[expose] public section

set_option maxRecDepth 8000

noncomputable section

namespace Cert.ReferenceIdeal.Keep

open Idealize.ShloMosaic

/-- An element of a buffer, named as the extended real it is. -/
abbrev E (x : EReal) : EReal := x

/-- A fold that adds is the sum. -/
theorem foldl_add_eq {n : ℕ} (f : Fin n → EReal) (v : EReal) : (List.finRange n).foldl (fun r k => r + f k) v = v + ∑ k, f k := by
  rw [← List.sum_ofFn, List.ofFn_eq_map]
  generalize List.finRange n = L
  induction L generalizing v with
  | nil => simp
  | cons a L ih => rw [List.foldl_cons, ih, List.map_cons, List.sum_cons, add_assoc]

abbrev Win : Shape := ⟨5, ![1, 1, 128, 1, 1]⟩

theorem win_coord (k : Fin 128) : ∀ a : Fin 5, (Win.rowMajor.symm (k.cast (by decide)) a).val = if a = 2 then k.val else 0 := by
  have h : (k.cast (by decide) : Fin Win.numel) = Win.rowMajor (ix5 0 0 k 0 0) := by
    apply Fin.ext
    rw [Shape.rowMajor_val_five]
    simp [ix5]
  rw [h, Equiv.symm_apply_apply]
  intro a
  fin_cases a <;> rfl

/-- The window's part inside the rows, renumbered from the first row. -/
theorem sum_shift (f : ℕ → EReal) (l : ℕ) (hl : l < 128) :
    ∑ k : Fin 128, (if 127 ≤ l + (k : ℕ) then f (l + k - 127) else 0) = ∑ k : Fin 128, if (k : ℕ) ≤ l then f k else 0 := by
  rw [Fin.sum_univ_eq_sum_range (fun k => if 127 ≤ l + k then f (l + k - 127) else 0) 128,
    Fin.sum_univ_eq_sum_range (fun k => if k ≤ l then f k else 0) 128, ← Finset.sum_filter, ← Finset.sum_filter]
  refine Finset.sum_nbij' (fun k => l + k - 127) (fun k => k + 127 - l) ?_ ?_ ?_ ?_ ?_ <;>
    simp only [Finset.mem_filter, Finset.mem_range] <;> intro a ha
  · omega
  · omega
  · omega
  · omega
  · trivial

theorem cum_at (x : (⟨5, ![4, 32, 128, 4, 8]⟩ : Shape).Idx → EReal) (h) (b : Fin 4) (c : Fin 32) (l : Fin 128) (g : Fin 4) (r : Fin 8) :
    Ideal.hostReduceWindowAdd (s := ⟨5, ![4, 32, 128, 4, 8]⟩) (t := ⟨5, ![4, 32, 128, 4, 8]⟩) ![1, 1, 128, 1, 1] ![1, 1, 1, 1, 1] ![0, 0, 127, 0, 0] ![0, 0, 0, 0, 0] h x 0 (ix5 b c l g r)
      = ∑ k : Fin 128, if (k : ℕ) ≤ l then x (ix5 b c k g r) else 0 := by
  unfold Ideal.hostReduceWindowAdd Host.reduceWindow
  dsimp only
  rw [foldl_add_eq, zero_add]
  have hs := sum_shift (fun k => if hk : k < 128 then x (ix5 b c ⟨k, hk⟩ g r) else 0) l l.isLt
  refine Eq.trans (Eq.trans (Fintype.sum_equiv (finCongr (by decide : Win.numel = 128)) _ _ fun n => ?_) hs) (Finset.sum_congr rfl fun k _ => ?_)
  · obtain ⟨k, rfl⟩ : ∃ k : Fin 128, n = k.cast (by decide) := ⟨n.cast (by decide), rfl⟩
    have hw := win_coord k
    have e0 := hw 0
    have e1 := hw 1
    have e2 := hw 2
    have e3 := hw 3
    have e4 := hw 4
    simp only [Fin.isValue, Fin.reduceEq, if_false, if_true] at e0 e1 e2 e3 e4
    have hk := k.isLt
    have hl := l.isLt
    show _ = if 127 ≤ (l : ℕ) + k then _ else _
    split
    · next hin =>
      have h2 := (hin 2).1
      change 127 ≤ (l : ℕ) * 1 + (Win.rowMajor.symm (k.cast (by decide)) 2).val at h2
      rw [e2] at h2
      rw [if_pos (by omega), dif_pos (by omega)]
      congr 1
      funext a
      apply Fin.ext
      match a with
      | ⟨0, _⟩ => show (b : ℕ) * 1 + (Win.rowMajor.symm (k.cast (by decide)) 0).val - 0 = b; rw [e0]; omega
      | ⟨1, _⟩ => show (c : ℕ) * 1 + (Win.rowMajor.symm (k.cast (by decide)) 1).val - 0 = c; rw [e1]; omega
      | ⟨2, _⟩ => show (l : ℕ) * 1 + (Win.rowMajor.symm (k.cast (by decide)) 2).val - 127 = l + k - 127; rw [e2]; omega
      | ⟨3, _⟩ => show (g : ℕ) * 1 + (Win.rowMajor.symm (k.cast (by decide)) 3).val - 0 = g; rw [e3]; omega
      | ⟨4, _⟩ => show (r : ℕ) * 1 + (Win.rowMajor.symm (k.cast (by decide)) 4).val - 0 = r; rw [e4]; omega
    · next hin =>
      rw [if_neg fun hle => hin fun a => ?_]
      match a with
      | ⟨0, _⟩ => show 0 ≤ (b : ℕ) * 1 + (Win.rowMajor.symm (k.cast (by decide)) 0).val ∧ (b : ℕ) * 1 + (Win.rowMajor.symm (k.cast (by decide)) 0).val - 0 < 4; rw [e0]; omega
      | ⟨1, _⟩ => show 0 ≤ (c : ℕ) * 1 + (Win.rowMajor.symm (k.cast (by decide)) 1).val ∧ (c : ℕ) * 1 + (Win.rowMajor.symm (k.cast (by decide)) 1).val - 0 < 32; rw [e1]; omega
      | ⟨2, _⟩ => show 127 ≤ (l : ℕ) * 1 + (Win.rowMajor.symm (k.cast (by decide)) 2).val ∧ (l : ℕ) * 1 + (Win.rowMajor.symm (k.cast (by decide)) 2).val - 127 < 128; rw [e2]; omega
      | ⟨3, _⟩ => show 0 ≤ (g : ℕ) * 1 + (Win.rowMajor.symm (k.cast (by decide)) 3).val ∧ (g : ℕ) * 1 + (Win.rowMajor.symm (k.cast (by decide)) 3).val - 0 < 4; rw [e3]; omega
      | ⟨4, _⟩ => show 0 ≤ (r : ℕ) * 1 + (Win.rowMajor.symm (k.cast (by decide)) 4).val ∧ (r : ℕ) * 1 + (Win.rowMajor.symm (k.cast (by decide)) 4).val - 0 < 8; rw [e4]; omega
  · split
    · rw [dif_pos k.isLt]
    · rfl

open Idealize.ShloMosaic.TcCoe Idealize.ShloMosaic.StableHlo Idealize.SL Idealize.SL.Sem Cert.ReferenceIdeal.Gen Cert.ReferenceIdeal.Value

/-- The log decays, summed from each chunk's start. -/
theorem r58 (V : Valuation τ sig (Elt Ideal)) (b : Fin 4) (c : Fin 32) (l : Fin 128) (g : Fin 4) (r : Fin 8) :
    (after hostOps0_5 V (Proc.devRef .tc main_v58) (ix5 b c l g r) : EReal)
      = ∑ k : Fin 128, if (k : ℕ) ≤ l then E (V (Proc.devRef .tc main_v57) (ix5 b c k g r)) else 0 := by
  after_reads_simp
  simp -implicitDefEqProofs only [StableHlo.TRef.toBuf, StableHlo.TRef.ofBuf, cast_cast, cast_eq]
  refine Eq.trans ?_ (cum_at (V (Proc.devRef .tc main_v57)) (by decide) b c l g r)
  unfold Host.reduceWindowAdd
  rw [Ideal.hostReduceWindowAdd_def]
  have : (broadcastInDim S_ ![] bcast_S_S_ (constant S_ .f32 0x00000000#32 : FVec Ideal S_ .f32)) (Shape.Idx.first h_S_) = (0 : EReal) := by
    pointwise
  rw [this]

end Cert.ReferenceIdeal.Keep

end
-- ==== Proof.RefA.lean ====
/- The reference's stretches before its loop, each read element by element over the contents it starts from. -/
module

public import proofs.«01_k».proof.Proof.Cum
public import proofs.«01_k».proof.Proof.Spec
public import Idealize.ShloMosaic.Lib.StableHlo.ReadAt
public import Idealize.ShloMosaic.Lib.Pointwise

@[expose] public section

set_option maxRecDepth 8000

noncomputable section

namespace Cert.ReferenceIdeal.Keep

open Idealize.ShloMosaic Idealize.ShloMosaic.TcCoe Idealize.ShloMosaic.StableHlo
open Idealize.SL Idealize.SL.Sem
open Cert.ReferenceIdeal.Gen Cert.ReferenceIdeal.Value Cert.Spec

variable (V : Valuation τ sig (Elt Ideal))

/-! The sequence behind its three preceding rows, and the convolution. -/

theorem r0 (b : Fin 4) (u : Fin 4099) (J : Fin 3072) : (after hostOps0 V (Proc.devRef .tc main_v0) (ix3 b u J) : EReal)
    = if h : (u : ℕ) < 3 then E (V (Proc.devRef .tc main_arg3) (ix3 b ⟨u, h⟩ J)) else E (V (Proc.devRef .tc main_arg1) (ix3 b ⟨u - 3, by omega⟩ J)) := by
  after_reads_at
  all_goals rfl

theorem r32 (b : Fin 4) (t : Fin 4096) (J : Fin 3072) : (after hostOps0 V (Proc.devRef .tc main_v32) (ix3 b t J) : EReal)
    = E (V (Proc.devRef .tc main_arg6) (ix1 J)) + ((if h : (t : ℕ) < 3 then E (V (Proc.devRef .tc main_arg3) (ix3 b ⟨(t : ℕ), h⟩ J)) else E (V (Proc.devRef .tc main_arg1) (ix3 b ⟨(t : ℕ) - 3, by omega⟩ J))) * E (V (Proc.devRef .tc main_arg5) (ix2 0 J)) + (if h : 1 + (t : ℕ) < 3 then E (V (Proc.devRef .tc main_arg3) (ix3 b ⟨1 + (t : ℕ), h⟩ J)) else E (V (Proc.devRef .tc main_arg1) (ix3 b ⟨1 + (t : ℕ) - 3, by omega⟩ J))) * E (V (Proc.devRef .tc main_arg5) (ix2 1 J)) + (if h : 2 + (t : ℕ) < 3 then E (V (Proc.devRef .tc main_arg3) (ix3 b ⟨2 + (t : ℕ), h⟩ J)) else E (V (Proc.devRef .tc main_arg1) (ix3 b ⟨2 + (t : ℕ) - 3, by omega⟩ J))) * E (V (Proc.devRef .tc main_arg5) (ix2 2 J)) + E (V (Proc.devRef .tc main_arg1) (ix3 b t J)) * E (V (Proc.devRef .tc main_arg5) (ix2 3 J))) := by
  after_reads_at
  simp only [upto_zero]

theorem r33 (b : Fin 4) (t : Fin 4096) (J : Fin 3072) : (after hostOps0_1 V (Proc.devRef .tc main_v33) (ix3 b t J) : EReal)
    = E (V (Proc.devRef .tc main_v32) (ix3 b t J)) * Ideal.logistic (E (V (Proc.devRef .tc main_v32) (ix3 b t J))) := by
  after_reads_at
  all_goals rfl

theorem r37 (b : Fin 4) (t : Fin 4096) (g : Fin 4) (r : Fin 8) (p : Fin 64) : (after hostOps0_2 V (Proc.devRef .tc main_v37) (ix5 b t g r p) : EReal)
    = E (V (Proc.devRef .tc main_v33) (ix3 b t ⟨g * 512 + r * 64 + p, by omega⟩)) := by
  after_reads_at
  all_goals rfl

theorem r38 (b : Fin 4) (t : Fin 4096) (g : Fin 4) (n : Fin 128) : (after hostOps0_2 V (Proc.devRef .tc main_v38) (ix4 b t g n) : EReal)
    = E (V (Proc.devRef .tc main_v33) (ix3 b t ⟨2048 + (g * 128 + n), by omega⟩)) := by
  after_reads_at
  all_goals rfl

theorem r39 (b : Fin 4) (t : Fin 4096) (g : Fin 4) (n : Fin 128) : (after hostOps0_2 V (Proc.devRef .tc main_v39) (ix4 b t g n) : EReal)
    = E (V (Proc.devRef .tc main_v33) (ix3 b t ⟨2560 + (g * 128 + n), by omega⟩)) := by
  after_reads_at
  all_goals rfl

theorem r43 (b : Fin 4) (t : Fin 4096) (h : Fin 32) : (after hostOps0_2 V (Proc.devRef .tc main_v43) (ix3 b t h) : EReal)
    = E (V (Proc.devRef .tc main_arg2) (ix3 b t ⟨h, by omega⟩)) + E (V (Proc.devRef .tc main_arg7) (ix1 h)) := by
  after_reads_at
  all_goals rfl

theorem r44 (b : Fin 4) (t : Fin 4096) (h : Fin 32) : (after hostOps0_3 V (Proc.devRef .tc main_v44) (ix3 b t h) : EReal)
    = softplus (E (V (Proc.devRef .tc main_v43) (ix3 b t h))) := by
  after_reads_at
  rw [if_neg (not_not.mpr rfl)]
  rfl

theorem r49 (b : Fin 4) (g : Fin 4) (r : Fin 8) (p : Fin 64) (n : Fin 128) : (after hostOps0_4 V (Proc.devRef .tc main_v49) (ix5 b g r p n) : EReal)
    = E (V (Proc.devRef .tc main_arg4) (ix4 b ⟨g * 8 + r, by omega⟩ p n)) := by
  after_reads_at
  all_goals rfl

theorem r53 (b : Fin 4) (c : Fin 32) (l : Fin 128) (g : Fin 4) (r : Fin 8) (p : Fin 64) : (after hostOps0_4 V (Proc.devRef .tc main_v53) (ix6 b c l g r p) : EReal)
    = E (V (Proc.devRef .tc main_v37) (ix5 b ⟨c * 128 + l, by omega⟩ g r p)) * E (V (Proc.devRef .tc main_v44) (ix3 b ⟨c * 128 + l, by omega⟩ ⟨g * 8 + r, by omega⟩)) := by
  after_reads_at
  all_goals rfl

theorem r57 (b : Fin 4) (c : Fin 32) (l : Fin 128) (g : Fin 4) (r : Fin 8) : (after hostOps0_4 V (Proc.devRef .tc main_v57) (ix5 b c l g r) : EReal)
    = E (V (Proc.devRef .tc main_v44) (ix3 b ⟨c * 128 + l, by omega⟩ ⟨g * 8 + r, by omega⟩)) * -Ideal.exp (E (V (Proc.devRef .tc main_arg8) (ix1 ⟨g * 8 + r, by omega⟩))) := by
  after_reads_at
  all_goals rfl

theorem r59 (b : Fin 4) (c : Fin 32) (l : Fin 128) (g : Fin 4) (n : Fin 128) : (after hostOps0_6 V (Proc.devRef .tc main_v59) (ix5 b c l g n) : EReal)
    = E (V (Proc.devRef .tc main_v38) (ix4 b ⟨c * 128 + l, by omega⟩ g n)) := by
  after_reads_at
  all_goals rfl

theorem r60 (b : Fin 4) (c : Fin 32) (l : Fin 128) (g : Fin 4) (n : Fin 128) : (after hostOps0_6 V (Proc.devRef .tc main_v60) (ix5 b c l g n) : EReal)
    = E (V (Proc.devRef .tc main_v39) (ix4 b ⟨c * 128 + l, by omega⟩ g n)) := by
  after_reads_at
  all_goals rfl

theorem r65 (b : Fin 4) (c : Fin 32) (l : Fin 128) (s : Fin 128) (g : Fin 4) (r : Fin 8) : (after hostOps0_6 V (Proc.devRef .tc main_v65) (ix6 b c l s g r) : EReal)
    = E (V (Proc.devRef .tc main_v58) (ix5 b c l g r)) - E (V (Proc.devRef .tc main_v58) (ix5 b c s g r)) := by
  after_reads_at
  all_goals rfl

theorem r66 (l s : Fin 128) : (after hostOps0_6 V (Proc.devRef .tc main_v66) (ix2 l s) : BitVec 1) = 1#1 := by
  after_reads_at

theorem r67 (l s : Fin 128) : (after hostOps0_7 V (Proc.devRef .tc main_v67) (ix2 l s) : BitVec 1)
    = Scalar.select (IntOp.cmpi CmpIPredicate.sge (IntOp.addi (BitVec.ofNat 32 (l : ℕ)) 0#32) (BitVec.ofNat 32 (s : ℕ)))
      (V (Proc.devRef .tc main_v66) (ix2 l s) : BitVec 1) 0#1 := by
  after_reads_at

theorem r68 (l s : Fin 128) : (after hostOps0_8 V (Proc.devRef .tc main_v68) (ix4 l s 0 0) : BitVec 1) = (V (Proc.devRef .tc main_v67) (ix2 l s) : BitVec 1) := by
  after_reads_at

theorem rneg : (after hostOps0_8 V (Proc.devRef .tc main_cst_0) ix0 : EReal) = E ⊥ := by
  after_reads_at
  rfl

theorem r69 (b : Fin 4) (c : Fin 32) (l s : Fin 128) (g : Fin 4) (r : Fin 8) : (after hostOps0_9 V (Proc.devRef .tc main_v69) (ix6 b c l s g r) : EReal)
    = Scalar.select (V (Proc.devRef .tc main_v68) (ix4 l s 0 0) : BitVec 1) (E (V (Proc.devRef .tc main_v65) (ix6 b c l s g r))) (E (V (Proc.devRef .tc main_cst_0) ix0)) := by
  after_reads_at
  all_goals rfl

theorem r77 (b : Fin 4) (c : Fin 32) (l : Fin 128) (g : Fin 4) (r : Fin 8) (p : Fin 64) : (after hostOps0_10 V (Proc.devRef .tc main_v77) (ix6 b c l g r p) : EReal)
    = ∑ s : Fin 128, E (V (Proc.devRef .tc main_v53) (ix6 b c s g r p)) * ((∑ n : Fin 128, E (V (Proc.devRef .tc main_v59) (ix5 b c s g n)) * E (V (Proc.devRef .tc main_v60) (ix5 b c l g n))) * Ideal.exp (E (V (Proc.devRef .tc main_v69) (ix6 b c l s g r)))) := by
  after_reads_at
  all_goals rfl

theorem r92_0 (c : Fin 32) (b : Fin 4) (g : Fin 4) (r : Fin 8) (p : Fin 64) (n : Fin 128) : (after hostOps0_10 V (Proc.devRef .tc main_v92_0) (ix6 c b g r p n) : EReal)
    = ∑ l : Fin 128, Ideal.exp (E (V (Proc.devRef .tc main_v58) (ix5 b c 127 g r)) - E (V (Proc.devRef .tc main_v58) (ix5 b c l g r))) * E (V (Proc.devRef .tc main_v53) (ix6 b c l g r p)) * E (V (Proc.devRef .tc main_v59) (ix5 b c l g n)) := by
  after_reads_at
  dsimp only [id_eq]
  all_goals pointwise
  all_goals rfl

theorem r92_1 (c : Fin 32) (b : Fin 4) (g : Fin 4) (r : Fin 8) : (after hostOps0_10 V (Proc.devRef .tc main_v92_1) (ix4 c b g r) : EReal)
    = Ideal.exp (E (V (Proc.devRef .tc main_v58) (ix5 b c 127 g r))) := by
  after_reads_at
  dsimp only [id_eq]
  all_goals pointwise
  all_goals rfl

theorem r92_3 (b : Fin 4) (g : Fin 4) (r : Fin 8) (p : Fin 64) (n : Fin 128) : (after hostOps0_10 V (Proc.devRef .tc main_v92_3) (ix5 b g r p n) : EReal)
    = E (V (Proc.devRef .tc main_v49) (ix5 b g r p n)) := by
  after_reads_at
  dsimp only [id_eq]
  all_goals pointwise
  all_goals rfl

theorem r108 (b : Fin 4) (t : Fin 4096) (j : Fin 2048) : (after hostOps0_11 V (Proc.devRef .tc main_v108) (ix3 b t j) : EReal)
    = (E (V (Proc.devRef .tc main_v77) (ix6 b ⟨t / 128, by omega⟩ ⟨t % 128, by omega⟩ ⟨j / 512, by omega⟩ ⟨j / 64 % 8, by omega⟩ ⟨j % 64, by omega⟩)) + (∑ n : Fin 128, E (V (Proc.devRef .tc main_v92_4) (ix6 ⟨t / 128, by omega⟩ b ⟨j / 512, by omega⟩ ⟨j / 64 % 8, by omega⟩ ⟨j % 64, by omega⟩ n)) * E (V (Proc.devRef .tc main_v60) (ix5 b ⟨t / 128, by omega⟩ ⟨t % 128, by omega⟩ ⟨j / 512, by omega⟩ n))) * Ideal.exp (E (V (Proc.devRef .tc main_v58) (ix5 b ⟨t / 128, by omega⟩ ⟨t % 128, by omega⟩ ⟨j / 512, by omega⟩ ⟨j / 64 % 8, by omega⟩)))) + E (V (Proc.devRef .tc main_arg9) (ix1 ⟨j / 512 * 8 + j / 64 % 8, by omega⟩)) * E (V (Proc.devRef .tc main_v37) (ix5 b t ⟨j / 512, by omega⟩ ⟨j / 64 % 8, by omega⟩ ⟨j % 64, by omega⟩)) := by
  after_reads_at
  all_goals rfl

theorem r109 (b : Fin 4) (t : Fin 4096) (j : Fin 2048) : (after hostOps0_12 V (Proc.devRef .tc main_v109) (ix3 b t j) : EReal)
    = E (V (Proc.devRef .tc main_arg0) (ix3 b t j)) * Ideal.logistic (E (V (Proc.devRef .tc main_arg0) (ix3 b t j))) := by
  after_reads_at
  all_goals rfl

theorem r123 (b : Fin 4) (t : Fin 4096) (j : Fin 2048) : (after hostOps0_13 V (Proc.devRef .tc main_v123) (ix3 b t j) : EReal)
    = (E (V (Proc.devRef .tc main_v108) (ix3 b t j)) * E (V (Proc.devRef .tc main_v109) (ix3 b t j))) * Ideal.rsqrt (Ideal.div (∑ k : Fin 2048, (E (V (Proc.devRef .tc main_v108) (ix3 b t k)) * E (V (Proc.devRef .tc main_v109) (ix3 b t k))) * (E (V (Proc.devRef .tc main_v108) (ix3 b t k)) * E (V (Proc.devRef .tc main_v109) (ix3 b t k)))) (Ideal.ofBits .f32 0x45000000#32) + Ideal.ofBits .f32 0x358637BD#32) * E (V (Proc.devRef .tc main_arg10) (ix1 j)) := by
  after_reads_at
  all_goals rfl

theorem r124 (b : Fin 4) (k : Fin 3) (J : Fin 3072) : (after hostOps0_13 V (Proc.devRef .tc main_v124) (ix3 b k J) : EReal)
    = E (V (Proc.devRef .tc main_v0) (ix3 b ⟨4096 + k, by omega⟩ J)) := by
  after_reads_at
  all_goals rfl

theorem r125 (b : Fin 4) (g : Fin 4) (q : Fin 512) (n : Fin 128) : (after hostOps0_13 V (Proc.devRef .tc main_v125) (ix4 b g q n) : EReal)
    = E (V (Proc.devRef .tc main_v92_3) (ix5 b g ⟨q / 64, by omega⟩ ⟨q % 64, by omega⟩ n)) := by
  after_reads_at
  all_goals rfl

end Cert.ReferenceIdeal.Keep

end
-- ==== Proof.RefL.lean ====
/- The reference's loop, element by element: it walks the chunks in order, keeps the state, and collects the state each chunk is entered with. -/
module

public import proofs.«01_k».proof.Proof.Cum
public import proofs.«01_k».proof.Proof.Spec
public import Idealize.ShloMosaic.Lib.DynamicIndex

@[expose] public section

set_option maxRecDepth 8000

noncomputable section

namespace Cert.ReferenceIdeal.Keep

open Idealize.ShloMosaic Idealize.ShloMosaic.TcCoe Idealize.ShloMosaic.StableHlo
open Idealize.SL Idealize.SL.Sem
open Cert.ReferenceIdeal.Gen Cert.ReferenceIdeal.Value Cert.Spec

variable (V : Valuation τ sig (Elt Ideal))

theorem word_int : ∀ k : Fin 32, (BitVec.ofNat 32 (k : ℕ)).toInt = ((k : ℕ) : Int) := by decide

theorem fits4 (k : Fin 32) : S32x4x4x8.Slices ![(k : ℕ), 0, 0, 0] S1x4x4x8 := by
  refine ⟨rfl, fun a => ?_⟩
  match a with
  | ⟨0, _⟩ => exact (show (k : ℕ) + 1 ≤ 32 by omega)
  | ⟨1, _⟩ => exact (show 0 + 4 ≤ 4 by omega)
  | ⟨2, _⟩ => exact (show 0 + 4 ≤ 4 by omega)
  | ⟨3, _⟩ => exact (show 0 + 8 ≤ 8 by omega)

theorem fits6 (k : Fin 32) : S32x4x4x8x64x128.Slices ![(k : ℕ), 0, 0, 0, 0, 0] S1x4x4x8x64x128 := by
  refine ⟨rfl, fun a => ?_⟩
  match a with
  | ⟨0, _⟩ => exact (show (k : ℕ) + 1 ≤ 32 by omega)
  | ⟨1, _⟩ => exact (show 0 + 4 ≤ 4 by omega)
  | ⟨2, _⟩ => exact (show 0 + 4 ≤ 4 by omega)
  | ⟨3, _⟩ => exact (show 0 + 8 ≤ 8 by omega)
  | ⟨4, _⟩ => exact (show 0 + 64 ≤ 64 by omega)
  | ⟨5, _⟩ => exact (show 0 + 128 ≤ 128 by omega)

/-- A trip's new state. -/
theorem l3 (k : Fin 32) (hv : V (Proc.devRef .tc main_v92_2) = fun _ => BitVec.ofNat 32 k) (b g : Fin 4) (r : Fin 8) (p : Fin 64) (n : Fin 128) :
    (afterL bodyI V (Proc.devRef .tc main_v92_3) (ix5 b g r p n) : EReal)
      = E (V (Proc.devRef .tc main_v92_3) (ix5 b g r p n)) * E (V (Proc.devRef .tc main_v92_1) (ix4 k b g r)) + E (V (Proc.devRef .tc main_v92_0) (ix6 k b g r p n)) := by
  rw [trip_main_v92_3, hv]
  dsimp only [id_eq]
  rw [Host.dynamicSlice_eq_extractStridedSlice S1x4x4x8 _ _ _ _ (fits4 k) (fun a => by
      match a with
      | ⟨0, _⟩ => exact word_int k
      | ⟨1, _⟩ => rfl
      | ⟨2, _⟩ => rfl
      | ⟨3, _⟩ => rfl),
    Host.dynamicSlice_eq_extractStridedSlice S1x4x4x8x64x128 _ _ _ _ (fits6 k) (fun a => by
      match a with
      | ⟨0, _⟩ => exact word_int k
      | ⟨1, _⟩ => rfl
      | ⟨2, _⟩ => rfl
      | ⟨3, _⟩ => rfl
      | ⟨4, _⟩ => rfl
      | ⟨5, _⟩ => rfl)]
  pointwise

/-- What a trip collects. -/
theorem l4 (k : Fin 32) (hv : V (Proc.devRef .tc main_v92_2) = fun _ => BitVec.ofNat 32 k) (c : Fin 32) (b g : Fin 4) (r : Fin 8) (p : Fin 64) (n : Fin 128) :
    (afterL bodyI V (Proc.devRef .tc main_v92_4) (ix6 c b g r p n) : EReal)
      = if c = k then E (V (Proc.devRef .tc main_v92_3) (ix5 b g r p n)) else E (V (Proc.devRef .tc main_v92_4) (ix6 c b g r p n)) := by
  rw [trip_main_v92_4, hv]
  dsimp only [id_eq]
  rw [Host.dynamicUpdateSlice_eq_updateSlice _ _ _ _ ![(k : ℕ), 0, 0, 0, 0, 0] (fun a => by
      match a with
      | ⟨0, _⟩ => show (min (max (BitVec.ofNat 32 (k : ℕ)).toInt 0) ((32 - 1 : ℕ) : Int)).toNat = k; rw [word_int]; omega
      | ⟨1, _⟩ => rfl
      | ⟨2, _⟩ => rfl
      | ⟨3, _⟩ => rfl
      | ⟨4, _⟩ => rfl
      | ⟨5, _⟩ => rfl) (fits6 k)]
  pointwise
  by_cases h : c = k
  · subst h
    rw [if_pos rfl, dif_pos fun a => ?_]
    match a with
    | ⟨0, _⟩ => exact (show (c : ℕ) ≤ c ∧ (c : ℕ) < c + 1 by omega)
    | ⟨1, _⟩ => exact (show 0 ≤ (b : ℕ) ∧ (b : ℕ) < 0 + 4 by omega)
    | ⟨2, _⟩ => exact (show 0 ≤ (g : ℕ) ∧ (g : ℕ) < 0 + 4 by omega)
    | ⟨3, _⟩ => exact (show 0 ≤ (r : ℕ) ∧ (r : ℕ) < 0 + 8 by omega)
    | ⟨4, _⟩ => exact (show 0 ≤ (p : ℕ) ∧ (p : ℕ) < 0 + 64 by omega)
    | ⟨5, _⟩ => exact (show 0 ≤ (n : ℕ) ∧ (n : ℕ) < 0 + 128 by omega)
  · rw [if_neg h, dif_neg fun hin => h ?_]
    have hz : 0 < (Proc.devRef (τ := τ) .tc main_v92_4).ty.shape.rank := (by decide : 0 < 6)
    have h0 := hin ⟨0, hz⟩
    change (k : ℕ) ≤ c ∧ (c : ℕ) < k + 1 at h0
    exact Fin.ext (by omega)

variable (m : (ℓ : Loc nD τ sig) → Buf (Elt Ideal) ℓ) (c : Dev nD)

theorem cond_keep {r : Ref sig .tc} (hr : r ∉ condOps_W) : after condOps V (Proc.devRef .tc r) = V (Proc.devRef .tc r) :=
  after_of_writes_sub _ _ condOps_writes hr

theorem ctr_word (k : ℕ) : Scf.iv 0#32 1#32 k = BitVec.ofNat 32 k := by
  simp [Scf.iv]

/-- The loop, against any sequence that follows its recurrence. -/
theorem walk (S : ℕ → Fin 4 → Fin 4 → Fin 8 → Fin 64 → Fin 128 → EReal)
    (h0 : ∀ b g r p n, E (entryContents preI m c (Proc.devRef .tc main_v92_3) (ix5 b g r p n)) = S 0 b g r p n)
    (hS : ∀ (k : Fin 32) b g r p n, S (k + 1) b g r p n
      = S k b g r p n * E (entryContents preI m c (Proc.devRef .tc main_v92_1) (ix4 k b g r)) + E (entryContents preI m c (Proc.devRef .tc main_v92_0) (ix6 k b g r p n))) :
    ∀ k : ℕ, k ≤ 32 → atK m k c (Proc.devRef .tc main_v92_0) = entryContents preI m c (Proc.devRef .tc main_v92_0)
      ∧ atK m k c (Proc.devRef .tc main_v92_1) = entryContents preI m c (Proc.devRef .tc main_v92_1)
      ∧ (∀ b g r p n, E (atK m k c (Proc.devRef .tc main_v92_3) (ix5 b g r p n)) = S k b g r p n)
      ∧ ∀ (i : Fin 32), (i : ℕ) < k → ∀ b g r p n, E (atK m k c (Proc.devRef .tc main_v92_4) (ix6 i b g r p n)) = S i b g r p n := by
  intro k
  induction k with
  | zero => exact fun _ => ⟨rfl, rfl, h0, fun i hi => absurd hi (Nat.not_lt_zero _)⟩
  | succ k ih =>
    intro hk
    obtain ⟨a0, a1, a3, a4⟩ := ih (by omega)
    have e : atK m (k + 1) c = afterL bodyI (after condOps (atK m k c)) := rfl
    have hv : after condOps (atK m k c) (Proc.devRef .tc main_v92_2) = fun _ => BitVec.ofNat 32 ((⟨k, by omega⟩ : Fin 32) : ℕ) := by
      rw [cond_keep _ (by decide), atK_ctr]
      funext _
      exact ctr_word k
    refine ⟨?_, ?_, fun b g r p n => ?_, fun i hi b g r p n => ?_⟩
    · rw [e, trip_main_v92_0, cond_keep _ (by decide), a0]
    · rw [e, trip_main_v92_1, cond_keep _ (by decide), a1]
    · rw [e]
      refine (l3 _ ⟨k, by omega⟩ hv b g r p n).trans ?_
      rw [cond_keep _ (by decide), cond_keep _ (by decide), cond_keep _ (by decide), a0, a1, a3]
      exact (hS ⟨k, by omega⟩ b g r p n).symm
    · rw [e]
      refine (l4 _ ⟨k, by omega⟩ hv i b g r p n).trans ?_
      rw [cond_keep _ (by decide), cond_keep _ (by decide), a3]
      by_cases h : i = ⟨k, by omega⟩
      · rw [if_pos h, h]
      · rw [if_neg h]
        exact a4 i (by have : (i : ℕ) ≠ k := fun q => h (Fin.ext q); omega) b g r p n

end Cert.ReferenceIdeal.Keep

end
-- ==== Proof.RefVal.lean ====
/- The reference's three results, element by element: the same quantities the kernel leaves. -/
module

public import proofs.«01_k».proof.Proof.RefA
public import proofs.«01_k».proof.Proof.RefL

@[expose] public section

set_option maxRecDepth 8000

noncomputable section

namespace Cert.ReferenceIdeal.Keep

open Idealize.ShloMosaic Idealize.ShloMosaic.TcCoe Idealize.ShloMosaic.StableHlo
open Idealize.SL Idealize.SL.Sem
open Cert.ReferenceIdeal.Gen Cert.ReferenceIdeal.Value Cert.Spec

variable (m : (ℓ : Loc nD τ sig) → Buf (Elt Ideal) ℓ) (c : Dev nD)

/-! The contents after each stretch before the loop. -/

abbrev A0 : Valuation τ sig (Elt Ideal) := launchContents m c
abbrev A1 : Valuation τ sig (Elt Ideal) := after hostOps0 (A0 m c)
abbrev A2 : Valuation τ sig (Elt Ideal) := after hostOps0_1 (A1 m c)
abbrev A3 : Valuation τ sig (Elt Ideal) := after hostOps0_2 (A2 m c)
abbrev A4 : Valuation τ sig (Elt Ideal) := after hostOps0_3 (A3 m c)
abbrev A5 : Valuation τ sig (Elt Ideal) := after hostOps0_4 (A4 m c)
abbrev A6 : Valuation τ sig (Elt Ideal) := after hostOps0_5 (A5 m c)
abbrev A7 : Valuation τ sig (Elt Ideal) := after hostOps0_6 (A6 m c)
abbrev A8 : Valuation τ sig (Elt Ideal) := after hostOps0_7 (A7 m c)
abbrev A9 : Valuation τ sig (Elt Ideal) := after hostOps0_8 (A8 m c)
abbrev A10 : Valuation τ sig (Elt Ideal) := after hostOps0_9 (A9 m c)
abbrev A11 : Valuation τ sig (Elt Ideal) := after hostOps0_10 (A10 m c)

theorem entry_eq : entryContents preI m c = A11 m c := rfl

variable {r : Ref sig .tc}
theorem k1 (h : r ∉ hostOps0_W) : A1 m c (Proc.devRef .tc r) = A0 m c (Proc.devRef .tc r) := after_of_writes_sub _ _ hostOps0_writes h
theorem k2 (h : r ∉ hostOps0_1_W) : A2 m c (Proc.devRef .tc r) = A1 m c (Proc.devRef .tc r) := after_of_writes_sub _ _ hostOps0_1_writes h
theorem k3 (h : r ∉ hostOps0_2_W) : A3 m c (Proc.devRef .tc r) = A2 m c (Proc.devRef .tc r) := after_of_writes_sub _ _ hostOps0_2_writes h
theorem k4 (h : r ∉ hostOps0_3_W) : A4 m c (Proc.devRef .tc r) = A3 m c (Proc.devRef .tc r) := after_of_writes_sub _ _ hostOps0_3_writes h
theorem k5 (h : r ∉ hostOps0_4_W) : A5 m c (Proc.devRef .tc r) = A4 m c (Proc.devRef .tc r) := after_of_writes_sub _ _ hostOps0_4_writes h
theorem k6 (h : r ∉ hostOps0_5_W) : A6 m c (Proc.devRef .tc r) = A5 m c (Proc.devRef .tc r) := after_of_writes_sub _ _ hostOps0_5_writes h
theorem k7 (h : r ∉ hostOps0_6_W) : A7 m c (Proc.devRef .tc r) = A6 m c (Proc.devRef .tc r) := after_of_writes_sub _ _ hostOps0_6_writes h
theorem k8 (h : r ∉ hostOps0_7_W) : A8 m c (Proc.devRef .tc r) = A7 m c (Proc.devRef .tc r) := after_of_writes_sub _ _ hostOps0_7_writes h
theorem k9 (h : r ∉ hostOps0_8_W) : A9 m c (Proc.devRef .tc r) = A8 m c (Proc.devRef .tc r) := after_of_writes_sub _ _ hostOps0_8_writes h
theorem k10 (h : r ∉ hostOps0_9_W) : A10 m c (Proc.devRef .tc r) = A9 m c (Proc.devRef .tc r) := after_of_writes_sub _ _ hostOps0_9_writes h
theorem k11 (h : r ∉ hostOps0_10_W) : A11 m c (Proc.devRef .tc r) = A10 m c (Proc.devRef .tc r) := after_of_writes_sub _ _ hostOps0_10_writes h

/-- One batch's quantities, from the reference's arguments. -/
def datR (b : ℕ) : Dat :=
  datOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b

variable (b : Fin 4)

theorem dz (t : Fin 4096) (j : Fin 2048) : E (A0 m c (Proc.devRef .tc main_arg0) (ix3 b t j)) = (datR m c b).z t j := (tot3_of b.isLt t.isLt j.isLt).symm
theorem dxb (t : ℕ) (ht : t < 4096) (j : Fin 3072) : E (A0 m c (Proc.devRef .tc main_arg1) (ix3 b ⟨t, ht⟩ j)) = (datR m c b).xb t j := (tot3_of b.isLt ht j.isLt).symm
theorem ddt (t : Fin 4096) (h : ℕ) (hh : h < 128) : E (A0 m c (Proc.devRef .tc main_arg2) (ix3 b t ⟨h, hh⟩)) = (datR m c b).dt t h := (tot3_of b.isLt t.isLt hh).symm
theorem dtail (k : ℕ) (hk : k < 3) (j : Fin 3072) : E (A0 m c (Proc.devRef .tc main_arg3) (ix3 b ⟨k, hk⟩ j)) = (datR m c b).tail k j := (tot3_of b.isLt hk j.isLt).symm
theorem ds0 (h : ℕ) (hh : h < 32) (p : Fin 64) (n : Fin 128) : E (A0 m c (Proc.devRef .tc main_arg4) (ix4 b ⟨h, hh⟩ p n)) = (datR m c b).s0 (64 * h + p) n := by
  have e1 : (64 * h + (p : ℕ)) / 64 = h := by omega
  have e2 : (64 * h + (p : ℕ)) % 64 = p := by omega
  refine (tot4_of b.isLt hh p.isLt n.isLt).symm.trans ?_
  show _ = tot4 _ _ _ _ _
  rw [e1, e2]
theorem dw (i : Fin 4) (j : Fin 3072) : E (A0 m c (Proc.devRef .tc main_arg5) (ix2 i j)) = (datR m c b).w i j := (tot2_of i.isLt j.isLt).symm
theorem dcb (j : Fin 3072) : E (A0 m c (Proc.devRef .tc main_arg6) (ix1 j)) = (datR m c b).cb j := (tot1_of j.isLt).symm
theorem ddtb (h : Fin 32) : E (A0 m c (Proc.devRef .tc main_arg7) (ix1 h)) = (datR m c b).dtb h := (tot1_of h.isLt).symm
theorem dalog (h : ℕ) (hh : h < 32) : E (A0 m c (Proc.devRef .tc main_arg8) (ix1 ⟨h, hh⟩)) = (datR m c b).alog h := (tot1_of hh).symm
theorem dd (h : ℕ) (hh : h < 32) : E (A0 m c (Proc.devRef .tc main_arg9) (ix1 ⟨h, hh⟩)) = (datR m c b).d h := (tot1_of hh).symm
theorem dg (j : Fin 2048) : E (A0 m c (Proc.devRef .tc main_arg10) (ix1 j)) = (datR m c b).g j := (tot1_of j.isLt).symm

/-- The sequence behind its preceding rows. -/
theorem ext_of (u v : ℕ) (hu : u < 4099) (e : u = v) (j : Fin 3072) :
    (if h : u < 3 then E (A0 m c (Proc.devRef .tc main_arg3) (ix3 b ⟨u, h⟩ j)) else E (A0 m c (Proc.devRef .tc main_arg1) (ix3 b ⟨u - 3, by omega⟩ j)))
      = ext (datR m c b) v j := by
  subst e
  unfold ext
  split
  · exact dtail m c b u _ j
  · exact dxb m c b (u - 3) _ j

theorem v0_at (u : Fin 4099) (j : Fin 3072) : E (A1 m c (Proc.devRef .tc main_v0) (ix3 b u j)) = ext (datR m c b) u j :=
  (r0 _ b u j).trans (ext_of m c b u u u.isLt rfl j)

theorem v32_at (t : Fin 4096) (j : Fin 3072) : E (A1 m c (Proc.devRef .tc main_v32) (ix3 b t j)) = conv (datR m c b) t j := by
  refine (r32 _ b t j).trans ?_
  rw [ext_of m c b t t (by omega) rfl, ext_of m c b (1 + t) (t + 1) (by omega) (by omega), ext_of m c b (2 + t) (t + 2) (by omega) (by omega), dcb m c b,
    dw m c b, dw m c b, dw m c b, dw m c b, conv, zero_add, ext, ext, ext, ext, if_neg (by omega : ¬ (t : ℕ) + 3 < 3)]
  rw [show E (A0 m c (Proc.devRef .tc main_arg1) (ix3 b t j)) = (datR m c b).xb (t + 3 - 3) j from dxb m c b t t.isLt j]
  rfl

theorem v33_at (t : Fin 4096) (j : Fin 3072) : E (A2 m c (Proc.devRef .tc main_v33) (ix3 b t j)) = act (datR m c b) t j := by
  refine (r33 _ b t j).trans ?_
  rw [v32_at m c b, act]

theorem v37_at (t : Fin 4096) (g : Fin 4) (r : Fin 8) (p : Fin 64) :
    E (A3 m c (Proc.devRef .tc main_v37) (ix5 b t g r p)) = act (datR m c b) t (512 * g + 64 * r + p) := by
  refine (r37 _ b t g r p).trans ((v33_at m c b t _).trans ?_)
  congr 1; dsimp only; omega

theorem v38_at (t : Fin 4096) (g : Fin 4) (n : Fin 128) : E (A3 m c (Proc.devRef .tc main_v38) (ix4 b t g n)) = bm (datR m c b) t g n := by
  refine (r38 _ b t g n).trans ((v33_at m c b t _).trans ?_)
  rw [bm]; congr 1; dsimp only; omega

theorem v39_at (t : Fin 4096) (g : Fin 4) (n : Fin 128) : E (A3 m c (Proc.devRef .tc main_v39) (ix4 b t g n)) = cm (datR m c b) t g n := by
  refine (r39 _ b t g n).trans ((v33_at m c b t _).trans ?_)
  rw [cm]; congr 1; dsimp only; omega

theorem v44_at (t : Fin 4096) (h : Fin 32) : E (A4 m c (Proc.devRef .tc main_v44) (ix3 b t h)) = dtp (datR m c b) t h := by
  refine (r44 _ b t h).trans ?_
  rw [dtp]
  congr 1
  refine (r43 _ b t h).trans ?_
  rw [k2 m c (by decide), k2 m c (by decide), k1 m c (by decide), k1 m c (by decide), ddt m c b, ddtb m c b]

theorem v49_at (g : Fin 4) (r : Fin 8) (p : Fin 64) (n : Fin 128) :
    E (A5 m c (Proc.devRef .tc main_v49) (ix5 b g r p n)) = (datR m c b).s0 (512 * g + 64 * r + p) n := by
  refine (r49 _ b g r p n).trans ?_
  rw [k4 m c (by decide), k3 m c (by decide), k2 m c (by decide), k1 m c (by decide), ds0 m c b]
  congr 1; omega

theorem v53_at (q : Fin 32) (l : Fin 128) (g : Fin 4) (r : Fin 8) (p : Fin 64) :
    E (A5 m c (Proc.devRef .tc main_v53) (ix6 b q l g r p)) = xdt (datR m c b) (128 * q + l) (512 * g + 64 * r + p) := by
  refine (r53 _ b q l g r p).trans ?_
  rw [k4 m c (by decide), v37_at m c b, v44_at m c b, xdt]
  dsimp only
  rw [Nat.mul_comm (q : ℕ) 128, show (512 * (g : ℕ) + 64 * r + p) / 64 = g * 8 + r by omega]

theorem v57_at (q : Fin 32) (l : Fin 128) (g : Fin 4) (r : Fin 8) :
    E (A5 m c (Proc.devRef .tc main_v57) (ix5 b q l g r)) = dA (datR m c b) (128 * q + l) (8 * g + r) := by
  refine (r57 _ b q l g r).trans ?_
  rw [v44_at m c b, k4 m c (by decide), k3 m c (by decide), k2 m c (by decide), k1 m c (by decide), dalog m c b, dA]
  dsimp only
  rw [Nat.mul_comm (q : ℕ) 128, Nat.mul_comm (g : ℕ) 8]

theorem v58_at (q : Fin 32) (l : Fin 128) (g : Fin 4) (r : Fin 8) :
    E (A6 m c (Proc.devRef .tc main_v58) (ix5 b q l g r)) = acs (datR m c b) q l (8 * g + r) := by
  refine (r58 _ b q l g r).trans ?_
  rw [acs]
  refine Finset.sum_congr (M := EReal) rfl fun k _ => ?_
  rw [v57_at m c b]

theorem v59_at (q : Fin 32) (l : Fin 128) (g : Fin 4) (n : Fin 128) :
    E (A7 m c (Proc.devRef .tc main_v59) (ix5 b q l g n)) = bm (datR m c b) (128 * q + l) g n := by
  refine (r59 _ b q l g n).trans ?_
  rw [k6 m c (by decide), k5 m c (by decide), k4 m c (by decide), v38_at m c b]
  dsimp only
  rw [Nat.mul_comm (q : ℕ) 128]

theorem v60_at (q : Fin 32) (l : Fin 128) (g : Fin 4) (n : Fin 128) :
    E (A7 m c (Proc.devRef .tc main_v60) (ix5 b q l g n)) = cm (datR m c b) (128 * q + l) g n := by
  refine (r60 _ b q l g n).trans ?_
  rw [k6 m c (by decide), k5 m c (by decide), k4 m c (by decide), v39_at m c b]
  dsimp only
  rw [Nat.mul_comm (q : ℕ) 128]

theorem sge_word (l s : Fin 128) : IntOp.cmpi CmpIPredicate.sge (IntOp.addi (BitVec.ofNat 32 (l : ℕ)) 0#32) (BitVec.ofNat 32 (s : ℕ))
    = BitVec.ofBool (decide ((s : ℕ) ≤ l)) := by
  revert l s
  decide +kernel

theorem v69_at (q : Fin 32) (l s : Fin 128) (g : Fin 4) (r : Fin 8) : E (A10 m c (Proc.devRef .tc main_v69) (ix6 b q l s g r))
    = if (s : ℕ) ≤ l then acs (datR m c b) q l (8 * g + r) - acs (datR m c b) q s (8 * g + r) else ⊥ := by
  refine (r69 _ b q l s g r).trans ?_
  have h65 : E (A9 m c (Proc.devRef .tc main_v65) (ix6 b q l s g r)) = acs (datR m c b) q l (8 * g + r) - acs (datR m c b) q s (8 * g + r) := by
    rw [k9 m c (by decide), k8 m c (by decide)]
    refine (r65 _ b q l s g r).trans ?_
    rw [v58_at m c b, v58_at m c b]
  have h67 : (A9 m c (Proc.devRef .tc main_v68) (ix4 l s 0 0) : BitVec 1) = BitVec.ofBool (decide ((s : ℕ) ≤ l)) := by
    refine (r68 _ l s).trans ((r67 _ l s).trans ?_)
    rw [sge_word]
    refine (congrArg (fun x => Scalar.select _ x 0#1) (r66 _ l s)).trans ?_
    by_cases h : (s : ℕ) ≤ l
    · rw [decide_eq_true h]; rfl
    · rw [decide_eq_false h]; rfl
  rw [h65, show E (A9 m c (Proc.devRef .tc main_cst_0) ix0) = ⊥ from rneg _]
  refine (congrArg (fun x => Scalar.select x _ _) h67).trans ?_
  by_cases h : (s : ℕ) ≤ l
  · rw [if_pos h, decide_eq_true h]; rfl
  · rw [if_neg h, decide_eq_false h]; rfl

/-! At the loop's entry. -/

/-- What the decays, the keys and the inputs are before the last stretch. -/
theorem w58 (q : Fin 32) (l : Fin 128) (g : Fin 4) (r : Fin 8) : E (A10 m c (Proc.devRef .tc main_v58) (ix5 b q l g r)) = acs (datR m c b) q l (8 * g + r) := by
  rw [k10 m c (by decide), k9 m c (by decide), k8 m c (by decide), k7 m c (by decide), v58_at m c b]
theorem w59 (q : Fin 32) (l : Fin 128) (g : Fin 4) (n : Fin 128) : E (A10 m c (Proc.devRef .tc main_v59) (ix5 b q l g n)) = bm (datR m c b) (128 * q + l) g n := by
  rw [k10 m c (by decide), k9 m c (by decide), k8 m c (by decide), v59_at m c b]
theorem w60 (q : Fin 32) (l : Fin 128) (g : Fin 4) (n : Fin 128) : E (A10 m c (Proc.devRef .tc main_v60) (ix5 b q l g n)) = cm (datR m c b) (128 * q + l) g n := by
  rw [k10 m c (by decide), k9 m c (by decide), k8 m c (by decide), v60_at m c b]
theorem w53 (q : Fin 32) (l : Fin 128) (g : Fin 4) (r : Fin 8) (p : Fin 64) :
    E (A10 m c (Proc.devRef .tc main_v53) (ix6 b q l g r p)) = xdt (datR m c b) (128 * q + l) (512 * g + 64 * r + p) := by
  rw [k10 m c (by decide), k9 m c (by decide), k8 m c (by decide), k7 m c (by decide), k6 m c (by decide), v53_at m c b]

theorem v77_at (q : Fin 32) (l : Fin 128) (g : Fin 4) (r : Fin 8) (p : Fin 64) :
    E (A11 m c (Proc.devRef .tc main_v77) (ix6 b q l g r p)) = ydiag (datR m c b) q l (512 * g + 64 * r + p) := by
  refine (r77 _ b q l g r p).trans ?_
  rw [ydiag]
  refine Finset.sum_congr (M := EReal) rfl fun s _ => ?_
  rw [w53 m c b, v69_at m c b, mul_comm, cbm, decay, show (512 * (g : ℕ) + 64 * r + p) / 64 = 8 * g + r by omega, show (512 * (g : ℕ) + 64 * r + p) / 512 = g by omega]
  refine congrArg (· * _) (congrArg (· * _) (Finset.sum_congr rfl fun n _ => ?_))
  rw [w59 m c b, w60 m c b, mul_comm]

theorem v92_0_at (q : Fin 32) (g : Fin 4) (r : Fin 8) (p : Fin 64) (n : Fin 128) :
    E (A11 m c (Proc.devRef .tc main_v92_0) (ix6 q b g r p n)) = states (datR m c b) q (512 * g + 64 * r + p) n := by
  refine (r92_0 _ q b g r p n).trans ?_
  rw [states]
  refine Finset.sum_congr (M := EReal) rfl fun l _ => ?_
  rw [w58 m c b, w58 m c b, w53 m c b, w59 m c b, xdt, show (512 * (g : ℕ) + 64 * r + p) / 64 = 8 * g + r by omega, show (512 * (g : ℕ) + 64 * r + p) / 512 = g by omega]
  refine congrArg (· * _) ?_
  rw [mul_comm, mul_assoc]
  rfl

theorem v92_1_at (q : Fin 32) (g : Fin 4) (r : Fin 8) :
    E (A11 m c (Proc.devRef .tc main_v92_1) (ix4 q b g r)) = Ideal.exp (acs (datR m c b) q 127 (8 * g + r)) := by
  refine (r92_1 _ q b g r).trans ?_
  rw [w58 m c b]
  rfl

theorem v92_3_at (g : Fin 4) (r : Fin 8) (p : Fin 64) (n : Fin 128) :
    E (A11 m c (Proc.devRef .tc main_v92_3) (ix5 b g r p n)) = st (datR m c b) 0 (512 * g + 64 * r + p) n := by
  refine (r92_3 _ b g r p n).trans ?_
  rw [k10 m c (by decide), k9 m c (by decide), k8 m c (by decide), k7 m c (by decide), k6 m c (by decide), v49_at m c b, st]

/-! After the loop. -/

theorem hS (k : Fin 32) (b g : Fin 4) (r : Fin 8) (p : Fin 64) (n : Fin 128) : st (datR m c b) (k + 1) (512 * g + 64 * r + p) n
    = st (datR m c b) k (512 * g + 64 * r + p) n * E (entryContents preI m c (Proc.devRef .tc main_v92_1) (ix4 k b g r))
      + E (entryContents preI m c (Proc.devRef .tc main_v92_0) (ix6 k b g r p n)) := by
  rw [entry_eq, v92_1_at m c b, v92_0_at m c b, st, show (512 * (g : ℕ) + 64 * r + p) / 64 = 8 * g + r by omega]

theorem x92_3 (g : Fin 4) (r : Fin 8) (p : Fin 64) (n : Fin 128) :
    E (exit m c (Proc.devRef .tc main_v92_3) (ix5 b g r p n)) = st (datR m c b) 32 (512 * g + 64 * r + p) n := by
  rw [exit, cond_keep _ (by decide)]
  exact (walk m c (fun k b g r p n => st (datR m c b) k (512 * g + 64 * r + p) n) (v92_3_at m c) (hS m c) 32 (le_refl _)).2.2.1 b g r p n

theorem x92_4 (q : Fin 32) (g : Fin 4) (r : Fin 8) (p : Fin 64) (n : Fin 128) :
    E (exit m c (Proc.devRef .tc main_v92_4) (ix6 q b g r p n)) = st (datR m c b) q (512 * g + 64 * r + p) n := by
  rw [exit, cond_keep _ (by decide)]
  exact (walk m c (fun k b g r p n => st (datR m c b) k (512 * g + 64 * r + p) n) (v92_3_at m c) (hS m c) 32 (le_refl _)).2.2.2 q q.isLt b g r p n

abbrev B1 : Valuation τ sig (Elt Ideal) := after hostOps0_11 (exit m c)
abbrev B2 : Valuation τ sig (Elt Ideal) := after hostOps0_12 (B1 m c)
theorem t1 (h : r ∉ tail0_W) : B1 m c (Proc.devRef .tc r) = exit m c (Proc.devRef .tc r) := after_of_writes_sub _ _ tail0_writes h
theorem t2 (h : r ∉ tail1_W) : B2 m c (Proc.devRef .tc r) = B1 m c (Proc.devRef .tc r) := after_of_writes_sub _ _ tail1_writes h

/-- An argument after the loop. -/
theorem x_arg (h1 : r ∉ trip_W) (h2 : r ∉ head_W) : exit m c (Proc.devRef .tc r) = A0 m c (Proc.devRef .tc r) :=
  (exit_keep m c h1).trans (entry_keep m c h2)

/-- What the entering state gives a row, before the decay. -/
theorem mix_at (q : Fin 32) (l : Fin 128) (g : Fin 4) (r : Fin 8) (p : Fin 64) (j : ℕ) (ej : 512 * (g : ℕ) + 64 * r + p = j) :
    (∑ n : Fin 128, E (exit m c (Proc.devRef .tc main_v92_4) (ix6 q b g r p n)) * E (A11 m c (Proc.devRef .tc main_v60) (ix5 b q l g n)))
      = ∑ n : Fin 128, cm (datR m c b) (128 * q + l) g n * st (datR m c b) q j n := by
  refine Finset.sum_congr rfl fun n _ => ?_
  rw [x92_4 m c b, k11 m c (r := main_v60) (by decide), w60 m c b, mul_comm, ej]

theorem a37 (t : Fin 4096) (g : Fin 4) (r : Fin 8) (p : Fin 64) :
    E (A11 m c (Proc.devRef .tc main_v37) (ix5 b t g r p)) = act (datR m c b) t (512 * g + 64 * r + p) := by
  rw [k11 m c (by decide), k10 m c (by decide), k9 m c (by decide), k8 m c (by decide), k7 m c (by decide), k6 m c (by decide), k5 m c (by decide),
    k4 m c (by decide), v37_at m c b]

theorem v108_at (t : Fin 4096) (j : Fin 2048) : E (B1 m c (Proc.devRef .tc main_v108) (ix3 b t j))
    = (ydiag (datR m c b) (t / 128) (t % 128) j + yoff (datR m c b) (t / 128) (t % 128) j) + (datR m c b).d (j / 64) * act (datR m c b) t j := by
  refine (r108 _ b t j).trans ?_
  have ej : 512 * ((j : ℕ) / 512) + 64 * ((j : ℕ) / 64 % 8) + (j : ℕ) % 64 = j := by omega
  have eh : 8 * ((j : ℕ) / 512) + (j : ℕ) / 64 % 8 = (j : ℕ) / 64 := by omega
  rw [exit_keep m c (r := main_v77) (by decide +kernel), exit_keep m c (r := main_v60) (by decide +kernel), exit_keep m c (r := main_v58) (by decide +kernel),
    exit_keep m c (r := main_v37) (by decide +kernel), x_arg m c (r := main_arg9) (by decide +kernel) (by decide +kernel), entry_eq, v77_at m c b, dd m c b,
    k11 m c (r := main_v58) (by decide), w58 m c b, a37 m c b, mix_at m c b _ _ _ _ _ j ej]
  dsimp only
  rw [ej, eh, Nat.mul_comm ((j : ℕ) / 512) 8, eh, yoff]

theorem v109_at (t : Fin 4096) (j : Fin 2048) : E (B2 m c (Proc.devRef .tc main_v109) (ix3 b t j))
    = (datR m c b).z t j * Ideal.logistic ((datR m c b).z t j) := by
  refine (r109 _ b t j).trans ?_
  rw [t1 m c (by decide), x_arg m c (by decide +kernel) (by decide +kernel), dz m c b]

theorem y1_at (t : Fin 4096) (j : Fin 2048) : E (B2 m c (Proc.devRef .tc main_v108) (ix3 b t j)) * E (B2 m c (Proc.devRef .tc main_v109) (ix3 b t j))
    = y1 (datR m c b) (t / 128) (t % 128) j := by
  rw [v109_at m c b, t2 m c (by decide), v108_at m c b, y1, show 128 * ((t : ℕ) / 128) + t % 128 = t by omega]

theorem y_at (t : Fin 4096) (j : Fin 2048) : E (finalContents condOps preI bodyI postI 32 m c (Proc.devRef .tc main_v123) (ix3 b t j))
    = out (datR m c b) (t / 128) (t % 128) j := by
  rw [final_eq]
  refine (r123 (B2 m c) b t j).trans ?_
  simp only [y1_at m c b]
  rw [t2 m c (by decide), t1 m c (by decide), x_arg m c (by decide +kernel) (by decide +kernel), dg m c b, out]

theorem conv_at (k : Fin 3) (j : Fin 3072) : E (finalContents condOps preI bodyI postI 32 m c (Proc.devRef .tc main_v124) (ix3 b k j))
    = ext (datR m c b) (4096 + k) j := by
  rw [final_eq]
  refine (r124 (B2 m c) b k j).trans ?_
  rw [t2 m c (by decide), t1 m c (by decide), exit_keep m c (by decide +kernel), entry_eq, k11 m c (by decide), k10 m c (by decide), k9 m c (by decide), k8 m c (by decide),
    k7 m c (by decide), k6 m c (by decide), k5 m c (by decide), k4 m c (by decide), k3 m c (by decide), k2 m c (by decide), v0_at m c b]

theorem state_at (g : Fin 4) (q : Fin 512) (n : Fin 128) : E (finalContents condOps preI bodyI postI 32 m c (Proc.devRef .tc main_v125) (ix4 b g q n))
    = st (datR m c b) 32 (512 * g + q) n := by
  rw [final_eq]
  refine (r125 (B2 m c) b g q n).trans ?_
  rw [t2 m c (by decide), t1 m c (by decide), x92_3 m c b]
  dsimp only
  congr 1; omega

end Cert.ReferenceIdeal.Keep

end
-- ==== Proof.Alg.lean ====
/- The kernel and the reference leave the same three arrays. -/
module

public import proofs.«01_k».proof.Defs
public import proofs.«01_k».proof.Proof.Outs
public import proofs.«01_k».proof.Proof.RefVal

@[expose] public section

set_option maxRecDepth 8000

noncomputable section

namespace Cert.Proof

open Idealize.ShloMosaic Idealize.ShloMosaic.TcCoe Idealize.ShloMosaic.StableHlo
open Idealize.SL Idealize.SL.Sem
open Cert.Spec

instance : Cert.KernelIdeal.Facts := Cert.KernelIdeal.Gen.facts
instance : Cert.ReferenceIdeal.Facts := Cert.ReferenceIdeal.Gen.facts

theorem algebraic : Cert.algebraic_KernelIdeal_ReferenceIdeal := by
  intro m g m' g' _ hag
  refine ⟨fun c => Cert.KernelIdeal.Value.G12 m c, fun c => Cert.KernelIdeal.Value.G13 m c, fun c => Cert.KernelIdeal.Value.G14 m c,
    Cert.KernelIdeal.Value.run m g, ?_⟩
  refine (θ_run (Cert.ReferenceIdeal.defs (F := Ideal)) _ _).mono (fun r h c => ?_) (Cert.ReferenceIdeal.Value.run_fold m' g')
  obtain ⟨e0, e1, e2, e3, e4, e5, e6, e7, e8, e9, e10⟩ := hag c
  have hd : ∀ b : ℕ, Cert.ReferenceIdeal.Keep.datR m' c b = Cert.KernelIdeal.Stages.datK m c b := fun b => by
    unfold Cert.ReferenceIdeal.Keep.datR Cert.KernelIdeal.Stages.datK
    rw [e0, e1, e2, e3, e4, e5, e6, e7, e8, e9, e10]
  refine ⟨(h c _ rfl).trans ?_, (h c _ rfl).trans ?_, (h c _ rfl).trans ?_, ?_, ?_, ?_, ?_, ?_, ?_, ?_, ?_, ?_, ?_, ?_⟩
  · funext j
    obtain ⟨b, t, k, rfl⟩ : ∃ b t k, j = ix3 b t k := ⟨_, _, _, eq_ix3 j⟩
    exact (Cert.ReferenceIdeal.Keep.y_at m' c b t k).trans ((congrArg (fun D => out D _ _ _) (hd b)).trans (Cert.KernelIdeal.Stages.y_entry m c b t k).symm)
  · funext j
    obtain ⟨b, t, k, rfl⟩ : ∃ b t k, j = ix3 b t k := ⟨_, _, _, eq_ix3 j⟩
    exact (Cert.ReferenceIdeal.Keep.conv_at m' c b t k).trans ((congrArg (fun D => ext D _ _) (hd b)).trans (Cert.KernelIdeal.Stages.conv_entry m c b t k).symm)
  · funext j
    obtain ⟨b, s, q, n, rfl⟩ : ∃ b s q n, j = ix4 b s q n := ⟨_, _, _, _, eq_ix4 j⟩
    exact (Cert.ReferenceIdeal.Keep.state_at m' c b s q n).trans ((congrArg (fun D => st D _ _ _) (hd b)).trans (Cert.KernelIdeal.Stages.state_entry m c b s q n).symm)
  all_goals exact (h c _ rfl).trans (Cert.ReferenceIdeal.Keep.final_keep m' c (by decide +kernel) (by decide +kernel) (by decide +kernel))

end Cert.Proof

end
-- ==== Proof.Dense.lean ====
/- The layer's dense parts, element by element: the modulated norm of a row and the products behind it. -/
module

public import Idealize.ShloMosaic.Lib.Pointwise
public import Idealize.ShloMosaic.Lib.StableHlo.ReadAt
public import Idealize.ShloMosaic.Lib.Pipeline.ValueKit.Point

@[expose] public section

noncomputable section

namespace Cert.Dense

open Idealize.ShloMosaic

/-- The modulated root-mean-square norm of a row `x`, with gain `g`, scale `sc` and shift `sh`. -/
def modn (x g sc sh : Fin 1024 → EReal) (k : Fin 1024) : EReal :=
  x k * Ideal.rsqrt (Ideal.div (∑ i : Fin 1024, x i * x i) (Ideal.ofBits .f32 0x44800000#32) + Ideal.ofBits .f32 0x358637BD#32) * g k
    * (Ideal.ofBits .f32 0x3F800000#32 + sc k) + sh k

/-- An array of two axes from its entries. -/
def of2 {a b : ℕ} (f : Fin a → Fin b → EReal) : (⟨2, ![a, b]⟩ : Shape).Idx → EReal := fun i => f (i 0) (i 1)

theorem of2_ix2 {a b : ℕ} (f : Fin a → Fin b → EReal) (i : Fin a) (j : Fin b) : of2 f (ix2 i j) = f i j := rfl

/-- One entry of the projection: row `i` of the flattened sequence, normed and modulated, against column `j` of the weights. -/
def prow (x : FVec Ideal ⟨3, ![4, 4096, 1024]⟩ .f32) (sc sh : FVec Ideal ⟨3, ![4, 1, 1024]⟩ .f32) (g : FVec Ideal ⟨1, ![1024]⟩ .f32)
    (w : FVec Ideal ⟨2, ![1024, 14160]⟩ .f32) (i : Fin 16384) (j : Fin 14160) : EReal :=
  ∑ k : Fin 1024, modn (fun k => x (ix3 ⟨i / 4096, by omega⟩ ⟨i % 4096, by omega⟩ k)) (fun k => g (ix1 k))
      (fun k => sc (ix3 ⟨i / 4096, by omega⟩ 0 k)) (fun k => sh (ix3 ⟨i / 4096, by omega⟩ 0 k)) k * w (ix2 k j)

/-- The same entry, for row `r` of tile `t`. -/
theorem prow_tile (x : FVec Ideal ⟨3, ![4, 4096, 1024]⟩ .f32) (sc sh : FVec Ideal ⟨3, ![4, 1, 1024]⟩ .f32) (g : FVec Ideal ⟨1, ![1024]⟩ .f32)
    (w : FVec Ideal ⟨2, ![1024, 14160]⟩ .f32) (t : ℕ) (ht : t < 32) (r : Fin 512) (j : Fin 14160) :
    prow x sc sh g w ⟨512 * t + r, by omega⟩ j
      = ∑ k : Fin 1024, modn (fun k => x (ix3 ⟨t / 8, by omega⟩ ⟨512 * (t % 8) + r, by omega⟩ k)) (fun k => g (ix1 k))
          (fun k => sc (ix3 ⟨t / 8, by omega⟩ 0 k)) (fun k => sh (ix3 ⟨t / 8, by omega⟩ 0 k)) k * w (ix2 k j) := by
  have h1 : (512 * t + r.val) / 4096 = t / 8 := by omega
  have h2 : (512 * t + r.val) % 4096 = 512 * (t % 8) + r.val := by omega
  unfold prow
  simp only [h1, h2]

/-- The time-step columns, filled up with zero columns to 128. -/
def drow (x : FVec Ideal ⟨3, ![4, 4096, 1024]⟩ .f32) (sc sh : FVec Ideal ⟨3, ![4, 1, 1024]⟩ .f32) (g : FVec Ideal ⟨1, ![1024]⟩ .f32)
    (w : FVec Ideal ⟨2, ![1024, 14160]⟩ .f32) (i : Fin 16384) (j : Fin 128) : EReal :=
  if h : j.val < 32 then prow x sc sh g w i ⟨8448 + j, by omega⟩ else 0

/-- Two choices with equivalent conditions and equal branches. -/
theorem dite_trim {p q : Prop} [Decidable p] [Decidable q] (hpq : p ↔ q) {f : p → EReal} {f' : q → EReal} {z : EReal} (hf : ∀ hp hq, f hp = f' hq) (hz : z = 0) :
    (if h : p then f h else z) = if h : q then f' h else 0 := by
  by_cases h : q
  · rw [dif_pos h, dif_pos (hpq.2 h), hf _ h]
  · rw [dif_neg h, dif_neg (mt hpq.1 h), hz]

/-- One entry of the merge: the branches' products under their gates, projected, scaled and added to the stream. -/
def mcell (x gt : EReal) (pg : Fin 3072 → EReal) (a : Fin 1024 → EReal) (b : Fin 2048 → EReal) (c : Fin 1024 → EReal)
    (wa : Fin 1024 → Fin 1024 → EReal) (wb : Fin 2048 → Fin 1024 → EReal) (wc wo : Fin 1024 → Fin 1024 → EReal) (j : Fin 1024) : EReal :=
  x + gt * ∑ q : Fin 1024, (Ideal.logistic (pg ⟨q, by omega⟩) * ∑ k, a k * wa k q + Ideal.logistic (pg ⟨1024 + q, by omega⟩) * ∑ k, b k * wb k q
    + Ideal.logistic (pg ⟨2048 + q, by omega⟩) * ∑ k, c k * wc k q) * wo q j

/-- Row `i` of a flattened sequence. -/
abbrev row {n : ℕ} (x : FVec Ideal ⟨3, ![4, 4096, n]⟩ .f32) (i : Fin 16384) (k : Fin n) : EReal := x (ix3 ⟨i / 4096, by omega⟩ ⟨i % 4096, by omega⟩ k)

/-- The merge's result. -/
def mrow (x o_rw o_nsa : FVec Ideal ⟨3, ![4, 4096, 1024]⟩ .f32) (gt : FVec Ideal ⟨3, ![4, 1, 1024]⟩ .f32) (o_ssm : FVec Ideal ⟨3, ![4, 4096, 2048]⟩ .f32)
    (pg : FVec Ideal ⟨3, ![4, 4096, 3072]⟩ .f32) (w6 w8 w9 : FVec Ideal ⟨2, ![1024, 1024]⟩ .f32) (w7 : FVec Ideal ⟨2, ![2048, 1024]⟩ .f32)
    (i : Fin 16384) (j : Fin 1024) : EReal :=
  mcell (row x i j) (gt (ix3 ⟨i / 4096, by omega⟩ 0 j)) (row pg i) (row o_rw i) (row o_ssm i) (row o_nsa i) (fun k q => w6 (ix2 k q)) (fun k q => w7 (ix2 k q))
    (fun k q => w8 (ix2 k q)) (fun k q => w9 (ix2 k q)) j

/-- A load of some columns of a block. -/
theorem ld_cols {A B b o : ℕ} {e : EltTy} (X : Vec Ideal ⟨2, ![A, B]⟩ e)
    (inb : ∀ a, ![0, o] a + ![A, b] a ≤ (⟨2, ![A, B]⟩ : Shape).size a) (k : Fin A) (j : Fin b) (h : o + j < B) :
    View.ld (Val := Elt Ideal) (S := ⟨2, ![A, B]⟩) (e' := e) X (Rect.unit (s := ⟨2, ![A, B]⟩) ![0, o] ![A, b] inb) (ix2 k j) = X (ix2 k ⟨o + j, h⟩) := by
  refine congrArg X (funext fun a => Fin.ext ?_)
  match a with
  | 0 => show 0 + 1 * k.val = k.val; omega
  | 1 => show o + 1 * j.val = o + j.val; omega

end Cert.Dense

end
-- ==== Proof.Gated.lean ====
/- The gated feed-forward part, element by element, and its hidden width cut in chunks. -/
module

public import proofs.«01_k».proof.Proof.Dense
public import Idealize.ShloMosaic.Lib.Pointwise.Sums

@[expose] public section

noncomputable section

namespace Cert.Dense

open Idealize.ShloMosaic

/-- A hidden unit from its two products: the one under the gate and the gate's own. -/
def unit (u g : EReal) : EReal := g * Ideal.logistic g * u

/-- A hidden unit's contribution to an output. -/
def contrib (h : Fin 1024 → EReal) (wi : Fin 1024 → Fin 5632 → EReal) (wo : Fin 2816 → EReal) (q : Fin 2816) : EReal :=
  unit (∑ k, h k * wi k ⟨q, by omega⟩) (∑ k, h k * wi k ⟨2816 + q, by omega⟩) * wo q

/-- One entry of the feed-forward part: the hidden units' contributions, scaled and added to the stream. -/
def fcell (x gt : EReal) (h : Fin 1024 → EReal) (wi : Fin 1024 → Fin 5632 → EReal) (wo : Fin 2816 → EReal) : EReal :=
  x + gt * ∑ q : Fin 2816, contrib h wi wo q

/-- The feed-forward part's result. -/
def frow (x : FVec Ideal ⟨3, ![4, 4096, 1024]⟩ .f32) (sc sh gt : FVec Ideal ⟨3, ![4, 1, 1024]⟩ .f32) (g : FVec Ideal ⟨1, ![1024]⟩ .f32)
    (wi : FVec Ideal ⟨2, ![1024, 5632]⟩ .f32) (wo : FVec Ideal ⟨2, ![2816, 1024]⟩ .f32) (i : Fin 16384) (j : Fin 1024) : EReal :=
  fcell (row x i j) (gt (ix3 ⟨i / 4096, by omega⟩ 0 j))
    (modn (row x i) (fun k => g (ix1 k)) (fun k => sc (ix3 ⟨i / 4096, by omega⟩ 0 k)) (fun k => sh (ix3 ⟨i / 4096, by omega⟩ 0 k)))
    (fun k q => wi (ix2 k q)) (fun q => wo (ix2 q j))

/-- What chunk `s` of 256 hidden units contributes. -/
def part (h : Fin 1024 → EReal) (wi : Fin 1024 → Fin 5632 → EReal) (wo : Fin 2816 → EReal) (s : Fin 11) : EReal :=
  ∑ q : Fin 256, contrib h wi wo ⟨s.val * 256 + q.val, by omega⟩

/-- The eleven chunks, one after the other from zero, are the whole sum. -/
theorem parts (h : Fin 1024 → EReal) (wi : Fin 1024 → Fin 5632 → EReal) (wo : Fin 2816 → EReal) :
    ∑ q : Fin 2816, contrib h wi wo q = 0 + part h wi wo 0 + part h wi wo 1 + part h wi wo 2 + part h wi wo 3 + part h wi wo 4 + part h wi wo 5
      + part h wi wo 6 + part h wi wo 7 + part h wi wo 8 + part h wi wo 9 + part h wi wo 10 := by
  rw [Fin.sum_univ_tiles 11 256 rfl]
  change ∑ s : Fin 11, part h wi wo s = _
  simp only [Fin.sum_univ_castSucc, Fin.sum_univ_zero]
  rfl

/-- A load of some rows of a block. -/
theorem ld_rows {A B b o : ℕ} {e : EltTy} (X : Vec Ideal ⟨2, ![A, B]⟩ e)
    (inb : ∀ a, ![o, 0] a + ![b, B] a ≤ (⟨2, ![A, B]⟩ : Shape).size a) (k : Fin b) (j : Fin B) (h : o + k < A) :
    View.ld (Val := Elt Ideal) (S := ⟨2, ![A, B]⟩) (e' := e) X (Rect.unit (s := ⟨2, ![A, B]⟩) ![o, 0] ![b, B] inb) (ix2 k j) = X (ix2 ⟨o + k, h⟩ j) := by
  refine congrArg X (funext fun a => Fin.ext ?_)
  match a with
  | 0 => show o + 1 * k.val = o + k.val; omega
  | 1 => show 0 + 1 * j.val = j.val; omega

/-- A chunk's contribution from its loaded columns and rows. -/
theorem part_ld (h : Fin 1024 → EReal) (X : Vec Ideal ⟨2, ![1024, 5632]⟩ .bf16) (Y : Vec Ideal ⟨2, ![2816, 1024]⟩ .bf16) (j : Fin 1024) (s : Fin 11)
    {o o' : ℕ} (ho : o = s.val * 256) (ho' : o' = 2816 + s.val * 256)
    (i1 : ∀ a, ![0, o] a + ![1024, 256] a ≤ (⟨2, ![1024, 5632]⟩ : Shape).size a) (i2 : ∀ a, ![0, o'] a + ![1024, 256] a ≤ (⟨2, ![1024, 5632]⟩ : Shape).size a)
    (i3 : ∀ a, ![o, 0] a + ![256, 1024] a ≤ (⟨2, ![2816, 1024]⟩ : Shape).size a) :
    ∑ q : Fin 256, unit
        (∑ k, h k * View.ld (Val := Elt Ideal) (S := ⟨2, ![1024, 5632]⟩) (e' := .bf16) X (Rect.unit (s := ⟨2, ![1024, 5632]⟩) ![0, o] ![1024, 256] i1) (ix2 k q))
        (∑ k, h k * View.ld (Val := Elt Ideal) (S := ⟨2, ![1024, 5632]⟩) (e' := .bf16) X (Rect.unit (s := ⟨2, ![1024, 5632]⟩) ![0, o'] ![1024, 256] i2) (ix2 k q))
      * View.ld (Val := Elt Ideal) (S := ⟨2, ![2816, 1024]⟩) (e' := .bf16) Y (Rect.unit (s := ⟨2, ![2816, 1024]⟩) ![o, 0] ![256, 1024] i3) (ix2 q j)
      = part h (fun k q => X (ix2 k q)) (fun q => Y (ix2 q j)) s := by
  subst ho ho'
  refine Finset.sum_congr rfl fun q _ => ?_
  rw [ld_rows Y i3 q j (by omega)]
  unfold contrib
  simp only [fun k => ld_cols X i1 k q (by omega), fun k => ld_cols X i2 k q (by omega), Nat.add_assoc]

end Cert.Dense

end
-- ==== Proof.FfnK.lean ====
/- What the feed-forward part leaves, element by element. -/
module

public import proofs.«01_k».proof.Proof.Gated
public import proofs.«01_k».proof.Proof.Gen.FfnKernelIdeal.Value
public import Idealize.ShloMosaic.Lib.Claim
public import Idealize.ShloMosaic.Lib.Pipeline.ValueKit.Point
public import Idealize.ShloMosaic.Lib.Pointwise

@[expose] public section

set_option maxRecDepth 16384

noncomputable section

namespace Cert.FfnKernelIdeal.Out

open Idealize.ShloMosaic Idealize.ShloMosaic.TcCoe Idealize.SL.Sem Cert.FfnKernelIdeal Cert.FfnKernelIdeal.Gen Cert.Dense

/-! The body's values, one entry each. -/

section
variable (v26 : FVec Ideal S512x1024 .bf16) (r : Fin 512)

theorem pay1 (v1 v181 : FVec Ideal S512x1024 .f32) (v182 : Vec Ideal S1x1x1024 .f32) (j : Fin 1024) :
    k0_pay1 v1 v181 v182 (ix2 r j) = v1 (ix2 r j) + v182 (ix3 0 0 j) * v181 (ix2 r j) := by
  pointwise [k0_pay1]

theorem pay2 (v0 : Vec Ideal S512x1024 .f32) (j : Fin 1024) : k0_pay2 v0 (ix2 r j) = v0 (ix2 r j) := by
  pointwise [k0_pay2]

theorem pay3 (v0 : Vec Ideal S512x1024 .f32) (v2 : Vec Ideal S1x1024 .f32) (v4 v6 : Vec Ideal S1x1x1024 .f32) (k : Fin 1024) : k0_pay3 v0 v2 v4 v6 (ix2 r k)
    = modn (fun k => v0 (ix2 r k)) (fun k => v2 (ix2 0 k)) (fun k => v4 (ix3 0 0 k)) (fun k => v6 (ix3 0 0 k)) k := by
  pointwise [k0_pay3, k0_pay2, modn]

theorem pay15 (x0 : Vec Ideal S512x1024 .f32) (x1 x2 x3 : Vec Ideal S1x1x1024 .f32) (x4 : Vec Ideal S1x1024 .f32) (x5 : Vec Ideal S1024x5632 .bf16) (x6 : Vec Ideal S2816x1024 .bf16)
    (k : Fin 1024) : k0_pay15 x0 x1 x2 x3 x4 x5 x6 (ix2 r k)
      = modn (fun k => x0 (ix2 r k)) (fun k => x4 (ix2 0 k)) (fun k => x1 (ix3 0 0 k)) (fun k => x2 (ix3 0 0 k)) k := by
  unfold k0_pay15
  frame_out
  exact pay3 r _ _ _ _ k

theorem pay4 (j : Fin 1024) : (k0_pay4 : FVec Ideal S512x1024 .f32) (ix2 r j) = 0 := by
  pointwise [k0_pay4]

theorem pay5 (v0 : Vec Ideal S512x1024 .f32) (v2 : Vec Ideal S1x1024 .f32) (v4 v6 : Vec Ideal S1x1x1024 .f32) (v28 v31 : Vec Ideal S1024x256 .bf16) (q : Fin 256) :
    k0_pay5 v0 v2 v4 v6 v28 v31 (ix2 r q)
      = unit (∑ k, k0_pay3 v0 v2 v4 v6 (ix2 r k) * v28 (ix2 k q)) (∑ k, k0_pay3 v0 v2 v4 v6 (ix2 r k) * v31 (ix2 k q)) := by
  pointwise [k0_pay5, unit]

theorem pay7 (v70 : Vec Ideal S1024x256 .bf16) (q : Fin 256) : k0_pay7 v26 v70 (ix2 r q) = ∑ k, v26 (ix2 r k) * v70 (ix2 k q) := by
  pointwise [k0_pay7]

theorem pay9 (v98 v101 : Vec Ideal S1024x256 .bf16) (q : Fin 256) :
    k0_pay9 v26 v98 v101 (ix2 r q) = unit (∑ k, v26 (ix2 r k) * v98 (ix2 k q)) (∑ k, v26 (ix2 r k) * v101 (ix2 k q)) := by
  pointwise [k0_pay9, unit]

theorem pay10 (v : Vec Ideal S256x1024 .bf16) (q : Fin 256) (j : Fin 1024) : k0_pay10 v (ix2 q j) = v (ix2 q j) := by
  pointwise [k0_pay10]

theorem pay12 (v : Vec Ideal S1024x256 .bf16) (q : Fin 256) : k0_pay12 v26 v (ix2 r q) = ∑ k, v26 (ix2 r k) * v (ix2 k q) := by
  pointwise [k0_pay12]

theorem pay13 (v : Vec Ideal S1024x256 .bf16) (q : Fin 256) : k0_pay13 v26 v (ix2 r q) = ∑ k, v26 (ix2 r k) * v (ix2 k q) := by
  pointwise [k0_pay13]

variable (acc : FVec Ideal S512x1024 .f32) (a : FVec Ideal S512x256 .bf16) (u g : FVec Ideal S512x256 .f32) (w1 w2 w3 w4 : Vec Ideal S1024x256 .bf16)
  (y0 y1 y2 : Vec Ideal S256x1024 .bf16) (j : Fin 1024)

theorem pay6 : k0_pay6 v26 acc a y0 w1 w2 y1 w3 w4 y2 (ix2 r j)
    = acc (ix2 r j) + (∑ q : Fin 256, a (ix2 r q) * y0 (ix2 q j)) + (∑ q : Fin 256, unit (∑ k, v26 (ix2 r k) * w1 (ix2 k q)) (∑ k, v26 (ix2 r k) * w2 (ix2 k q)) * y1 (ix2 q j)) + (∑ q : Fin 256, unit (∑ k, v26 (ix2 r k) * w3 (ix2 k q)) (∑ k, v26 (ix2 r k) * w4 (ix2 k q)) * y2 (ix2 q j)) := by
  pointwise [k0_pay6, unit]

theorem pay8 : k0_pay8 v26 acc u w1 y0 w3 w4 y2 (ix2 r j)
    = acc (ix2 r j) + (∑ q : Fin 256, unit (u (ix2 r q)) (∑ k, v26 (ix2 r k) * w1 (ix2 k q)) * y0 (ix2 q j)) + (∑ q : Fin 256, unit (∑ k, v26 (ix2 r k) * w3 (ix2 k q)) (∑ k, v26 (ix2 r k) * w4 (ix2 k q)) * y2 (ix2 q j)) := by
  pointwise [k0_pay8, unit]

theorem pay11 (y : FVec Ideal S256x1024 .bf16) : k0_pay11 v26 acc a y (constant S512x1024 .f32 0x00000000#32) w1 w2 y1 w3 w4 y2 (ix2 r j)
    = acc (ix2 r j) + (∑ q : Fin 256, a (ix2 r q) * y (ix2 q j)) + (∑ q : Fin 256, unit (∑ k, v26 (ix2 r k) * w1 (ix2 k q)) (∑ k, v26 (ix2 r k) * w2 (ix2 k q)) * y1 (ix2 q j)) + (∑ q : Fin 256, unit (∑ k, v26 (ix2 r k) * w3 (ix2 k q)) (∑ k, v26 (ix2 r k) * w4 (ix2 k q)) * y2 (ix2 q j)) := by
  pointwise [k0_pay11, unit]

theorem pay14 : k0_pay14 v26 acc u g y0 w1 w2 y1 w3 w4 y2 (ix2 r j)
    = acc (ix2 r j) + (∑ q : Fin 256, unit (u (ix2 r q)) (g (ix2 r q)) * y0 (ix2 q j)) + (∑ q : Fin 256, unit (∑ k, v26 (ix2 r k) * w1 (ix2 k q)) (∑ k, v26 (ix2 r k) * w2 (ix2 k q)) * y1 (ix2 q j)) + (∑ q : Fin 256, unit (∑ k, v26 (ix2 r k) * w3 (ix2 k q)) (∑ k, v26 (ix2 r k) * w4 (ix2 k q)) * y2 (ix2 q j)) := by
  pointwise [k0_pay14, unit]

end

variable (m : (ℓ : Loc nD τ sig) → Buf (Elt Ideal) ℓ) (c : Dev nD)

theorem idx : ∀ t : Fin cfg0.N, win0_0.index t = ![t.val, 0] ∧ win0_1.index t = ![t.val / 8, 0, 0] ∧ win0_2.index t = ![t.val / 8, 0, 0]
    ∧ win0_3.index t = ![t.val / 8, 0, 0] ∧ win0_4.index t = ![0, 0] ∧ win0_5.index t = ![0, 0] ∧ win0_6.index t = ![0, 0] ∧ win0_7.index t = ![t.val, 0] :=
  (by decide +kernel : ∀ t : Fin grid0.N, _)

theorem lt32 (t : Fin cfg0.N) : t.val < 32 := lt_of_lt_of_eq t.isLt N_0

theorem ent0 (i : Fin 16384) (k : Fin 1024) : (V m c main_v0 : FVec Ideal S16384x1024 .f32) (ix2 i k) = row (m ((c : Thread nD τ).loc main_arg0) : FVec Ideal S4x4096x1024 .f32) i k := by
  dsimp only [V, hostOps0]
  entry_read
  pointwise

theorem ent4 (k : Fin 1024) : (V m c main_v3 : FVec Ideal S1x1024 .f32) (ix2 0 k) = (m ((c : Thread nD τ).loc main_arg4) : FVec Ideal S1024 .f32) (ix1 k) := by
  dsimp only [V, hostOps0]
  entry_read
  pointwise

theorem ent5 (k : Fin 1024) (j : Fin 5632) : (V m c main_v1 : FVec Ideal S1024x5632 .bf16) (ix2 k j) = (m ((c : Thread nD τ).loc main_arg5) : FVec Ideal S1024x5632 .f32) (ix2 k j) := by
  dsimp only [V, hostOps0]
  entry_read
  pointwise

theorem ent6 (k : Fin 2816) (j : Fin 1024) : (V m c main_v2 : FVec Ideal S2816x1024 .bf16) (ix2 k j) = (m ((c : Thread nD τ).loc main_arg6) : FVec Ideal S2816x1024 .f32) (ix2 k j) := by
  dsimp only [V, hostOps0]
  entry_read
  pointwise

/-! The blocks a point loads. -/

variable (t : Fin cfg0.N)

theorem blk0 (r : Fin 512) (k : Fin 1024) : iblk m c 0 t (ix2 r k)
    = row (m ((c : Thread nD τ).loc main_arg0) : FVec Ideal S4x4096x1024 .f32) ⟨512 * t.val + r, by have := lt32 t; omega⟩ k := by
  have := lt32 t
  rw [show iblk m c 0 t (ix2 r k) = V m c main_v0 (ix2 ⟨512 * t.val + r, by omega⟩ k) by blk_ext [iblk, idx t], ent0]

theorem blk1 (r : Fin 512) (k : Fin 1024) : iblk m c 1 t (ix3 0 0 k)
    = (m ((c : Thread nD τ).loc main_arg1) : FVec Ideal S4x1x1024 .f32) (ix3 ⟨(512 * t.val + r.val) / 4096, by have := lt32 t; omega⟩ 0 k) := by
  have := lt32 t
  simp only [show (512 * t.val + r.val) / 4096 = t.val / 8 by omega]
  blk_ext [iblk, V_main_arg1, idx t]

theorem blk2 (r : Fin 512) (k : Fin 1024) : iblk m c 2 t (ix3 0 0 k)
    = (m ((c : Thread nD τ).loc main_arg2) : FVec Ideal S4x1x1024 .f32) (ix3 ⟨(512 * t.val + r.val) / 4096, by have := lt32 t; omega⟩ 0 k) := by
  have := lt32 t
  simp only [show (512 * t.val + r.val) / 4096 = t.val / 8 by omega]
  blk_ext [iblk, V_main_arg2, idx t]

theorem blk3 (r : Fin 512) (k : Fin 1024) : iblk m c 3 t (ix3 0 0 k)
    = (m ((c : Thread nD τ).loc main_arg3) : FVec Ideal S4x1x1024 .f32) (ix3 ⟨(512 * t.val + r.val) / 4096, by have := lt32 t; omega⟩ 0 k) := by
  have := lt32 t
  simp only [show (512 * t.val + r.val) / 4096 = t.val / 8 by omega]
  blk_ext [iblk, V_main_arg3, idx t]

theorem blk4 (k : Fin 1024) : iblk m c 4 t (ix2 0 k) = (m ((c : Thread nD τ).loc main_arg4) : FVec Ideal S1024 .f32) (ix1 k) := by
  rw [show iblk m c 4 t (ix2 0 k) = V m c main_v3 (ix2 0 k) by blk_ext [iblk, idx t], ent4]

theorem blk5 (k : Fin 1024) (j : Fin 5632) : iblk m c 5 t (ix2 k j) = (m ((c : Thread nD τ).loc main_arg5) : FVec Ideal S1024x5632 .f32) (ix2 k j) := by
  rw [show iblk m c 5 t (ix2 k j) = V m c main_v1 (ix2 k j) by blk_ext [iblk, idx t], ent5]

theorem blk6 (k : Fin 2816) (j : Fin 1024) : iblk m c 6 t (ix2 k j) = (m ((c : Thread nD τ).loc main_arg6) : FVec Ideal S2816x1024 .f32) (ix2 k j) := by
  rw [show iblk m c 6 t (ix2 k j) = V m c main_v2 (ix2 k j) by blk_ext [iblk, idx t], ent6]

/-- What the array ends holding. -/
def G : FVec Ideal S16384x1024 .f32 := of2 (frow (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)))

/-- The body's result, from the blocks a point loads. -/
theorem cell (x0 : Vec Ideal S512x1024 .f32) (x1 x2 x3 : Vec Ideal S1x1x1024 .f32) (x4 : Vec Ideal S1x1024 .f32) (x5 : Vec Ideal S1024x5632 .bf16) (x6 : Vec Ideal S2816x1024 .bf16)
    (r : Fin 512) (j : Fin 1024) : out0_7 x0 x1 x2 x3 x4 x5 x6 (ix2 r j)
      = fcell (x0 (ix2 r j)) (x3 (ix3 0 0 j)) (modn (fun k => x0 (ix2 r k)) (fun k => x4 (ix2 0 k)) (fun k => x1 (ix3 0 0 k)) (fun k => x2 (ix3 0 0 k)))
          (fun k q => x5 (ix2 k q)) (fun q => x6 (ix2 q j)) := by
  have add : ∀ {a b c d : EReal}, a = b → c = d → a + c = b + d := fun h h' => by rw [h, h']
  have e := fun s o o' h h' i1 i2 i3 => part_ld (modn (fun k => x0 (ix2 r k)) (fun k => x4 (ix2 0 k)) (fun k => x1 (ix3 0 0 k)) (fun k => x2 (ix3 0 0 k))) x5 x6 j s (o := o) (o' := o') h h' i1 i2 i3
  frame_out
  rw [pay1, pay2, pay14, pay11, pay8, pay6, pay4]
  simp only [pay5, pay7, pay9, pay10, pay12, pay13, pay3, pay15]
  unfold fcell
  rw [parts]
  exact add rfl (congrArg _ (add (add (add (add (add (add (add (add (add (add (add rfl (e 0 0 2816 rfl rfl _ _ _)) (e 1 256 3072 rfl rfl _ _ _)) (e 2 512 3328 rfl rfl _ _ _)) (e 3 768 3584 rfl rfl _ _ _)) (e 4 1024 3840 rfl rfl _ _ _)) (e 5 1280 4096 rfl rfl _ _ _)) (e 6 1536 4352 rfl rfl _ _ _)) (e 7 1792 4608 rfl rfl _ _ _)) (e 8 2048 4864 rfl rfl _ _ _)) (e 9 2304 5120 rfl rfl _ _ _)) (e 10 2560 5376 rfl rfl _ _ _)))

/-- A point's result, at its place in the array. -/
theorem point (r : Fin 512) (j : Fin 1024) :
    out0_7 (iblk m c 0 t) (iblk m c 1 t) (iblk m c 2 t) (iblk m c 3 t) (iblk m c 4 t) (iblk m c 5 t) (iblk m c 6 t) (ix2 r j)
      = frow (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) ⟨512 * t.val + r, by have := lt32 t; omega⟩ j := by
  rw [cell]
  simp only [blk0, blk1 m c t r, blk2 m c t r, blk3 m c t r, blk4, blk5, blk6]
  unfold frow
  rfl

theorem whole : (dats m 0 c).arrAt 7 cfg0.N = G m c := by
  refine (dats m 0 c).arrAt_eq_of_covers 7 _ (by decide +kernel) fun t hf y => ?_
  obtain ⟨r, j, rfl⟩ : ∃ r j, y = ix2 r j := ⟨_, _, eq_ix2 y⟩
  have ht := lt32 t
  rw [after0_7]
  have he : ((cfg0.win 7).blk t).view.emb (ix2 r j) = ix2 ⟨512 * t.val + r, by omega⟩ j := by
    blk_ext [idx t]
  rw [he]
  have h := point m c t r j
  unfold G
  rw [of2_ix2]
  generalize out0_7 (iblk m c 0 t) (iblk m c 1 t) (iblk m c 2 t) (iblk m c 3 t) (iblk m c 4 t) (iblk m c 5 t) (iblk m c 6 t) = f at h ⊢
  exact h

/-- The run's result and arguments. -/
theorem run (ρ : Dev nD → PrngReg) : θ_run defs (onTc (τ := τ) (main (F := Ideal))) ⟨m, fun _ => 0, ρ⟩ fun r => ∀ c : Dev nD,
    r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (whole m c), (h c).2⟩) (Value.run_blocks m ρ)

end Cert.FfnKernelIdeal.Out

end
-- ==== Proof.FfnA.lean ====
/- The feed-forward part: the kernel and the reference leave the same array. -/
module

public import proofs.«01_k».proof.Defs
public import proofs.«01_k».proof.Proof.FfnK
public import proofs.«01_k».proof.Proof.Gen.FfnReferenceIdeal.Run

@[expose] public section

set_option maxRecDepth 16384

noncomputable section

namespace Cert.Ffn

open Idealize.ShloMosaic Idealize.ShloMosaic.TcCoe Idealize.ShloMosaic.StableHlo Idealize.SL Idealize.SL.Sem Cert.Dense

instance : Cert.FfnKernelIdeal.Facts := Cert.FfnKernelIdeal.Gen.facts
instance : Cert.FfnReferenceIdeal.Facts := Cert.FfnReferenceIdeal.Gen.facts

section
open Cert.FfnReferenceIdeal Cert.FfnReferenceIdeal.Gen

variable (x : FVec Ideal S4x4096x1024 .f32) (sc sh gt : FVec Ideal S4x1x1024 .f32) (g : FVec Ideal S1024 .f32) (wi : FVec Ideal S1024x5632 .f32)
  (wo : FVec Ideal S2816x1024 .f32)

/-- The reference's normed and modulated stream. -/
def hid : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)

theorem hid_at (b : Fin 4) (t : Fin 4096) (k : Fin 1024) :
    hid x sc sh g (ix3 b t k) = modn (fun k => x (ix3 b t k)) (fun k => g (ix1 k)) (fun k => sc (ix3 b 0 k)) (fun k => sh (ix3 b 0 k)) k := by
  pointwise [hid, modn]

/-- The reference's composed term. -/
def ref : FVec Ideal S16384x1024 .f32 :=
  shapeCast _ (addf x (mulf (broadcastInDim S4x4096x1024 ![0, 1, 2] bcast_S4x1x1024_S4x4096x1024_0_1_2 gt) (Host.dotGeneral dot_S4x4096x2816_S2816x1024_S4x4096x1024_2_0_01_1_n_n none (mulf (mulf (extractStridedSlice S4x4096x2816 ![0, 0, 2816] (Host.dotGeneral dot_S4x4096x1024_S1024x5632_S4x4096x5632_2_0_01_1_n_n none (hid x sc sh g) wi) slices_S4x4096x5632_S4x4096x2816_0_0_2816) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 2816] (Host.dotGeneral dot_S4x4096x1024_S1024x5632_S4x4096x5632_2_0_01_1_n_n none (hid x sc sh g) wi) slices_S4x4096x5632_S4x4096x2816_0_0_2816)))))) (extractStridedSlice S4x4096x2816 ![0, 0, 0] (Host.dotGeneral dot_S4x4096x1024_S1024x5632_S4x4096x5632_2_0_01_1_n_n none (hid x sc sh g) wi) slices_S4x4096x5632_S4x4096x2816_0_0_0)) wo))) shapeCasts_S4x4096x1024_S16384x1024

theorem ref_at (i : Fin 16384) (j : Fin 1024) : ref x sc sh gt g wi wo (ix2 i j) = frow x sc sh gt g wi wo i j := by
  pointwise [ref, hid_at, frow, fcell, contrib, unit, Ideal.logistic]

end

/-- The reference's frame. -/
theorem frame : Cert.quiescent_FfnReferenceIdeal := fun m g _ =>
  (θ_run (Cert.FfnReferenceIdeal.defs (F := Ideal)) _ _).mono (fun _ h => ⟨fun c => (h c).2, sem_eq_zero_of_no_sems rfl _⟩) (Cert.FfnReferenceIdeal.Value.run m g)

/-- The two leave the same results. -/
theorem algebraic : Cert.algebraic_FfnKernelIdeal_FfnReferenceIdeal := by
  intro m g m' g' _ hag
  refine ⟨fun c => Cert.FfnKernelIdeal.Out.G m c, Cert.FfnKernelIdeal.Out.run m g, ?_⟩
  refine (θ_run (Cert.FfnReferenceIdeal.defs (F := Ideal)) _ _).mono (fun r h c => ?_) (Cert.FfnReferenceIdeal.Value.run m' g')
  obtain ⟨e0, e1, e2, e3, e4, e5, e6⟩ := hag c
  refine ⟨(h c).1.trans ?_, (h c).2⟩
  unfold Cert.FfnReferenceIdeal.Value.res_main_v28
  rw [e0, e1, e2, e3, e4, e5, e6]
  funext y
  obtain ⟨i, j, rfl⟩ : ∃ i j, y = ix2 i j := ⟨_, _, eq_ix2 y⟩
  exact ref_at _ _ _ _ _ _ _ i j

end Cert.Ffn

end
-- ==== Proof.MergeK.lean ====
/- What the merge leaves, element by element. -/
module

public import proofs.«01_k».proof.Proof.Dense
public import proofs.«01_k».proof.Proof.Gen.MergeKernelIdeal.Value
public import Idealize.ShloMosaic.Lib.Claim
public import Idealize.ShloMosaic.Lib.Pipeline.ValueKit.Point
public import Idealize.ShloMosaic.Lib.Pointwise

@[expose] public section

set_option maxRecDepth 16384

noncomputable section

namespace Cert.MergeKernelIdeal.Out

open Idealize.ShloMosaic Idealize.ShloMosaic.TcCoe Idealize.SL.Sem Cert.MergeKernelIdeal Cert.MergeKernelIdeal.Gen Cert.Dense

/-- An entry of the result, from the loaded blocks. -/
theorem pay (v0 : Vec Ideal S512x3072 .f32) (v3 : Vec Ideal S512x1024 .f32) (v6 : Vec Ideal S1024x1024 .bf16) (v9 : Vec Ideal S512x2048 .f32) (v12 : Vec Ideal S2048x1024 .bf16)
    (v15 : Vec Ideal S512x1024 .f32) (v18 v32 : Vec Ideal S1024x1024 .bf16) (v35 : Vec Ideal S512x1024 .f32) (v37 : Vec Ideal S1x1x1024 .f32) (r : Fin 512) (j : Fin 1024) :
    k0_pay1 (k0_pay2 v0 v3 v6 v9 v12 v15 v18 v32) v35 v37 (ix2 r j)
      = mcell (v35 (ix2 r j)) (v37 (ix3 0 0 j)) (fun k => v0 (ix2 r k)) (fun k => v3 (ix2 r k)) (fun k => v9 (ix2 r k)) (fun k => v15 (ix2 r k))
          (fun k q => v6 (ix2 k q)) (fun k q => v12 (ix2 k q)) (fun k q => v18 (ix2 k q)) (fun k q => v32 (ix2 k q)) j := by
  pointwise [k0_pay1, k0_pay2, mcell]

variable (m : (ℓ : Loc nD τ sig) → Buf (Elt Ideal) ℓ) (c : Dev nD)

theorem idx : ∀ t : Fin cfg0.N, win0_0.index t = ![t.val, 0] ∧ win0_1.index t = ![t.val / 8, 0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![t.val, 0] := (by decide +kernel : ∀ t : Fin grid0.N, _)

theorem lt32 (t : Fin cfg0.N) : t.val < 32 := lt_of_lt_of_eq t.isLt N_0

theorem ent0 (i : Fin 16384) (k : Fin 1024) : (V m c main_v0 : FVec Ideal S16384x1024 .f32) (ix2 i k) = row (m ((c : Thread nD τ).loc main_arg0) : FVec Ideal S4x4096x1024 .f32) i k := by
  dsimp only [V, hostOps0]
  entry_read
  pointwise

theorem ent2 (i : Fin 16384) (k : Fin 1024) : (V m c main_v1 : FVec Ideal S16384x1024 .f32) (ix2 i k) = row (m ((c : Thread nD τ).loc main_arg2) : FVec Ideal S4x4096x1024 .f32) i k := by
  dsimp only [V, hostOps0]
  entry_read
  pointwise

theorem ent3 (i : Fin 16384) (k : Fin 2048) : (V m c main_v2 : FVec Ideal S16384x2048 .f32) (ix2 i k) = row (m ((c : Thread nD τ).loc main_arg3) : FVec Ideal S4x4096x2048 .f32) i k := by
  dsimp only [V, hostOps0]
  entry_read
  pointwise

theorem ent4 (i : Fin 16384) (k : Fin 1024) : (V m c main_v3 : FVec Ideal S16384x1024 .f32) (ix2 i k) = row (m ((c : Thread nD τ).loc main_arg4) : FVec Ideal S4x4096x1024 .f32) i k := by
  dsimp only [V, hostOps0]
  entry_read
  pointwise

theorem ent5 (i : Fin 16384) (k : Fin 3072) : (V m c main_v4 : FVec Ideal S16384x3072 .f32) (ix2 i k) = row (m ((c : Thread nD τ).loc main_arg5) : FVec Ideal S4x4096x3072 .f32) i k := by
  dsimp only [V, hostOps0]
  entry_read
  pointwise

theorem ent6 (k : Fin 1024) (j : Fin 1024) : (V m c main_v5 : FVec Ideal S1024x1024 .bf16) (ix2 k j) = (m ((c : Thread nD τ).loc main_arg6) : FVec Ideal S1024x1024 .f32) (ix2 k j) := by
  dsimp only [V, hostOps0]
  entry_read
  pointwise

theorem ent7 (k : Fin 2048) (j : Fin 1024) : (V m c main_v6 : FVec Ideal S2048x1024 .bf16) (ix2 k j) = (m ((c : Thread nD τ).loc main_arg7) : FVec Ideal S2048x1024 .f32) (ix2 k j) := by
  dsimp only [V, hostOps0]
  entry_read
  pointwise

theorem ent8 (k : Fin 1024) (j : Fin 1024) : (V m c main_v7 : FVec Ideal S1024x1024 .bf16) (ix2 k j) = (m ((c : Thread nD τ).loc main_arg8) : FVec Ideal S1024x1024 .f32) (ix2 k j) := by
  dsimp only [V, hostOps0]
  entry_read
  pointwise

theorem ent9 (k : Fin 1024) (j : Fin 1024) : (V m c main_v8 : FVec Ideal S1024x1024 .bf16) (ix2 k j) = (m ((c : Thread nD τ).loc main_arg9) : FVec Ideal S1024x1024 .f32) (ix2 k j) := by
  dsimp only [V, hostOps0]
  entry_read
  pointwise

/-! The blocks a point loads. -/

variable (t : Fin cfg0.N)

theorem blk0 (r : Fin 512) (k : Fin 1024) : iblk m c 0 t (ix2 r k)
    = row (m ((c : Thread nD τ).loc main_arg0) : FVec Ideal S4x4096x1024 .f32) ⟨512 * t.val + r, by have := lt32 t; omega⟩ k := by
  have := lt32 t
  rw [show iblk m c 0 t (ix2 r k) = V m c main_v0 (ix2 ⟨512 * t.val + r, by omega⟩ k) by blk_ext [iblk, idx t], ent0]

theorem blk2 (r : Fin 512) (k : Fin 1024) : iblk m c 2 t (ix2 r k)
    = row (m ((c : Thread nD τ).loc main_arg2) : FVec Ideal S4x4096x1024 .f32) ⟨512 * t.val + r, by have := lt32 t; omega⟩ k := by
  have := lt32 t
  rw [show iblk m c 2 t (ix2 r k) = V m c main_v1 (ix2 ⟨512 * t.val + r, by omega⟩ k) by blk_ext [iblk, idx t], ent2]

theorem blk3 (r : Fin 512) (k : Fin 2048) : iblk m c 3 t (ix2 r k)
    = row (m ((c : Thread nD τ).loc main_arg3) : FVec Ideal S4x4096x2048 .f32) ⟨512 * t.val + r, by have := lt32 t; omega⟩ k := by
  have := lt32 t
  rw [show iblk m c 3 t (ix2 r k) = V m c main_v2 (ix2 ⟨512 * t.val + r, by omega⟩ k) by blk_ext [iblk, idx t], ent3]

theorem blk4 (r : Fin 512) (k : Fin 1024) : iblk m c 4 t (ix2 r k)
    = row (m ((c : Thread nD τ).loc main_arg4) : FVec Ideal S4x4096x1024 .f32) ⟨512 * t.val + r, by have := lt32 t; omega⟩ k := by
  have := lt32 t
  rw [show iblk m c 4 t (ix2 r k) = V m c main_v3 (ix2 ⟨512 * t.val + r, by omega⟩ k) by blk_ext [iblk, idx t], ent4]

theorem blk5 (r : Fin 512) (k : Fin 3072) : iblk m c 5 t (ix2 r k)
    = row (m ((c : Thread nD τ).loc main_arg5) : FVec Ideal S4x4096x3072 .f32) ⟨512 * t.val + r, by have := lt32 t; omega⟩ k := by
  have := lt32 t
  rw [show iblk m c 5 t (ix2 r k) = V m c main_v4 (ix2 ⟨512 * t.val + r, by omega⟩ k) by blk_ext [iblk, idx t], ent5]

theorem blk1 (r : Fin 512) (k : Fin 1024) : iblk m c 1 t (ix3 0 0 k)
    = (m ((c : Thread nD τ).loc main_arg1) : FVec Ideal S4x1x1024 .f32) (ix3 ⟨(512 * t.val + r.val) / 4096, by have := lt32 t; omega⟩ 0 k) := by
  have := lt32 t
  simp only [show (512 * t.val + r.val) / 4096 = t.val / 8 by omega]
  blk_ext [iblk, V_main_arg1, idx t]

theorem blk6 (k : Fin 1024) (j : Fin 1024) : iblk m c 6 t (ix2 k j) = (m ((c : Thread nD τ).loc main_arg6) : FVec Ideal S1024x1024 .f32) (ix2 k j) := by
  rw [show iblk m c 6 t (ix2 k j) = V m c main_v5 (ix2 k j) by blk_ext [iblk, idx t], ent6]

theorem blk7 (k : Fin 2048) (j : Fin 1024) : iblk m c 7 t (ix2 k j) = (m ((c : Thread nD τ).loc main_arg7) : FVec Ideal S2048x1024 .f32) (ix2 k j) := by
  rw [show iblk m c 7 t (ix2 k j) = V m c main_v6 (ix2 k j) by blk_ext [iblk, idx t], ent7]

theorem blk8 (k : Fin 1024) (j : Fin 1024) : iblk m c 8 t (ix2 k j) = (m ((c : Thread nD τ).loc main_arg8) : FVec Ideal S1024x1024 .f32) (ix2 k j) := by
  rw [show iblk m c 8 t (ix2 k j) = V m c main_v7 (ix2 k j) by blk_ext [iblk, idx t], ent8]

theorem blk9 (k : Fin 1024) (j : Fin 1024) : iblk m c 9 t (ix2 k j) = (m ((c : Thread nD τ).loc main_arg9) : FVec Ideal S1024x1024 .f32) (ix2 k j) := by
  rw [show iblk m c 9 t (ix2 k j) = V m c main_v8 (ix2 k j) by blk_ext [iblk, idx t], ent9]

/-- What the array ends holding. -/
def G : FVec Ideal S16384x1024 .f32 := of2 (mrow (m ((c : Thread nD τ).loc main_arg0)) (m ((c : Thread nD τ).loc main_arg2)) (m ((c : Thread nD τ).loc main_arg4)) (m ((c : Thread nD τ).loc main_arg1)) (m ((c : Thread nD τ).loc main_arg3))
  (m ((c : Thread nD τ).loc main_arg5)) (m ((c : Thread nD τ).loc main_arg6)) (m ((c : Thread nD τ).loc main_arg8)) (m ((c : Thread nD τ).loc main_arg9)) (m ((c : Thread nD τ).loc main_arg7)))

theorem whole : (dats m 0 c).arrAt 10 cfg0.N = G m c := by
  refine (dats m 0 c).arrAt_eq_of_covers 10 _ (by decide +kernel) fun t hf y => ?_
  obtain ⟨r, j, rfl⟩ : ∃ r j, y = ix2 r j := ⟨_, _, eq_ix2 y⟩
  have ht := lt32 t
  rw [after0_10]
  frame_out
  refine (pay _ _ _ _ _ _ _ _ _ _ r j).trans ?_
  have he : ((cfg0.win 10).blk t).view.emb (ix2 r j) = ix2 ⟨512 * t.val + r, by omega⟩ j := by
    blk_ext [idx t]
  rw [he]
  simp only [blk0, blk1 m c t r, blk2, blk3, blk4, blk5, blk6, blk7, blk8, blk9]
  rfl

/-- The run's result and arguments. -/
theorem run (ρ : Dev nD → PrngReg) : θ_run defs (onTc (τ := τ) (main (F := Ideal))) ⟨m, fun _ => 0, ρ⟩ fun r => ∀ c : Dev nD,
    r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (whole m c), (h c).2⟩) (Value.run_blocks m ρ)

end Cert.MergeKernelIdeal.Out

end
-- ==== Proof.MergeA.lean ====
/- The merge: the kernel and the reference leave the same array. -/
module

public import proofs.«01_k».proof.Defs
public import proofs.«01_k».proof.Proof.MergeK
public import proofs.«01_k».proof.Proof.Gen.MergeReferenceIdeal.Run

@[expose] public section

set_option maxRecDepth 16384

noncomputable section

namespace Cert.Merge

open Idealize.ShloMosaic Idealize.ShloMosaic.TcCoe Idealize.ShloMosaic.StableHlo Idealize.SL Idealize.SL.Sem Cert.Dense

instance : Cert.MergeKernelIdeal.Facts := Cert.MergeKernelIdeal.Gen.facts
instance : Cert.MergeReferenceIdeal.Facts := Cert.MergeReferenceIdeal.Gen.facts

section
open Cert.MergeReferenceIdeal Cert.MergeReferenceIdeal.Gen

variable (x o_rw o_nsa : FVec Ideal S4x4096x1024 .f32) (gt : FVec Ideal S4x1x1024 .f32) (o_ssm : FVec Ideal S4x4096x2048 .f32) (pg : FVec Ideal S4x4096x3072 .f32)
  (w6 w8 w9 : FVec Ideal S1024x1024 .f32) (w7 : FVec Ideal S2048x1024 .f32)

/-- The reference's composed term. -/
def ref : FVec Ideal S16384x1024 .f32 :=
  shapeCast _ (addf x (mulf (broadcastInDim S4x4096x1024 ![0, 1, 2] bcast_S4x1x1024_S4x4096x1024_0_1_2 gt) (Host.dotGeneral dot_S4x4096x1024_S1024x1024_S4x4096x1024_2_0_01_1_n_n none (addf (addf (mulf (shapeCast _ (extractStridedSlice S4x4096x1x1024 ![0, 0, 0, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf pg)))) shapeCasts_S4x4096x3072_S4x4096x3x1024) slices_S4x4096x3x1024_S4x4096x1x1024_0_0_0_0) shapeCasts_S4x4096x1x1024_S4x4096x1024) (Host.dotGeneral dot_S4x4096x1024_S1024x1024_S4x4096x1024_2_0_01_1_n_n none o_rw w6)) (mulf (shapeCast _ (extractStridedSlice S4x4096x1x1024 ![0, 0, 1, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf pg)))) shapeCasts_S4x4096x3072_S4x4096x3x1024) slices_S4x4096x3x1024_S4x4096x1x1024_0_0_1_0) shapeCasts_S4x4096x1x1024_S4x4096x1024) (Host.dotGeneral dot_S4x4096x2048_S2048x1024_S4x4096x1024_2_0_01_1_n_n none o_ssm w7))) (mulf (shapeCast _ (extractStridedSlice S4x4096x1x1024 ![0, 0, 2, 0] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf pg)))) shapeCasts_S4x4096x3072_S4x4096x3x1024) slices_S4x4096x3x1024_S4x4096x1x1024_0_0_2_0) shapeCasts_S4x4096x1x1024_S4x4096x1024) (Host.dotGeneral dot_S4x4096x1024_S1024x1024_S4x4096x1024_2_0_01_1_n_n none o_nsa w8))) w9))) shapeCasts_S4x4096x1024_S16384x1024

theorem ref_at (i : Fin 16384) (j : Fin 1024) : ref x o_rw o_nsa gt o_ssm pg w6 w8 w9 w7 (ix2 i j) = mrow x o_rw o_nsa gt o_ssm pg w6 w8 w9 w7 i j := by
  pointwise [ref, mrow, mcell, Ideal.logistic]

end

/-- The reference's frame. -/
theorem frame : Cert.quiescent_MergeReferenceIdeal := fun m g _ =>
  (θ_run (Cert.MergeReferenceIdeal.defs (F := Ideal)) _ _).mono (fun _ h => ⟨fun c => (h c).2, sem_eq_zero_of_no_sems rfl _⟩) (Cert.MergeReferenceIdeal.Value.run m g)

/-- The two leave the same results. -/
theorem algebraic : Cert.algebraic_MergeKernelIdeal_MergeReferenceIdeal := by
  intro m g m' g' _ hag
  refine ⟨fun c => Cert.MergeKernelIdeal.Out.G m c, Cert.MergeKernelIdeal.Out.run m g, ?_⟩
  refine (θ_run (Cert.MergeReferenceIdeal.defs (F := Ideal)) _ _).mono (fun r h c => ?_) (Cert.MergeReferenceIdeal.Value.run m' g')
  obtain ⟨e0, e1, e2, e3, e4, e5, e6, e7, e8, e9⟩ := hag c
  refine ⟨(h c).1.trans ?_, (h c).2⟩
  rw [e0, e1, e2, e3, e4, e5, e6, e7, e8, e9]
  funext y
  obtain ⟨i, j, rfl⟩ : ∃ i j, y = ix2 i j := ⟨_, _, eq_ix2 y⟩
  exact ref_at _ _ _ _ _ _ _ _ _ _ i j

end Cert.Merge

end
-- ==== Proof.RwK.lean ====
/- What the projection to the recurrent mixer's columns leaves, element by element. -/
module

public import proofs.«01_k».proof.Proof.Dense
public import proofs.«01_k».proof.Proof.Gen.ProjRwKernelIdeal.Value
public import Idealize.ShloMosaic.Lib.Claim
public import Idealize.ShloMosaic.Lib.Pipeline.ValueKit.Point
public import Idealize.ShloMosaic.Lib.Pointwise

@[expose] public section

set_option maxRecDepth 16384

noncomputable section

namespace Cert.ProjRwKernelIdeal.Out

open Idealize.ShloMosaic Idealize.ShloMosaic.TcCoe Idealize.SL.Sem Cert.ProjRwKernelIdeal Cert.ProjRwKernelIdeal.Gen Cert.Dense

/-- A row's product with a column, from the loaded blocks. -/
theorem pay (v0 : Vec Ideal S512x1024 .f32) (v2 : Vec Ideal S1x1024 .f32) (v4 v6 : Vec Ideal S1x1x1024 .f32) (v27 : Vec Ideal S1024x3328 .bf16)
    (r : Fin 512) (j : Fin 3328) : k0_pay1 v0 v2 v4 v6 v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay1, modn]

variable (m : (ℓ : Loc nD τ sig) → Buf (Elt Ideal) ℓ) (c : Dev nD)

theorem idx : ∀ t : Fin cfg0.N, win0_0.index t = ![t.val, 0] ∧ win0_1.index t = ![t.val / 8, 0, 0] ∧ win0_2.index t = ![t.val / 8, 0, 0]
    ∧ win0_3.index t = ![0, 0] ∧ win0_4.index t = ![0, 0] ∧ win0_5.index t = ![t.val, 0] := (by decide +kernel : ∀ t : Fin grid0.N, _)

theorem lt32 (t : Fin cfg0.N) : t.val < 32 := lt_of_lt_of_eq t.isLt N_0

theorem ent0 (i : Fin 16384) (k : Fin 1024) : (V m c main_v2 : FVec Ideal S16384x1024 .f32) (ix2 i k)
    = (m ((c : Thread nD τ).loc main_arg0) : FVec Ideal S4x4096x1024 .f32) (ix3 ⟨i / 4096, by omega⟩ ⟨i % 4096, by omega⟩ k) := by
  dsimp only [V, hostOps0]
  entry_read
  pointwise

theorem ent3 (k : Fin 1024) : (V m c main_v3 : FVec Ideal S1x1024 .f32) (ix2 0 k) = (m ((c : Thread nD τ).loc main_arg3) : FVec Ideal S1024 .f32) (ix1 k) := by
  dsimp only [V, hostOps0]
  entry_read
  pointwise

theorem ent4 (k : Fin 1024) (j : Fin 3328) : (V m c main_v1 : FVec Ideal S1024x3328 .bf16) (ix2 k j)
    = (m ((c : Thread nD τ).loc main_arg4) : FVec Ideal S1024x14160 .f32) (ix2 k ⟨j, by omega⟩) := by
  dsimp only [V, hostOps0]
  entry_read
  pointwise

/-! The blocks a point loads. -/

variable (t : Fin cfg0.N)

theorem blk0 (r : Fin 512) (k : Fin 1024) : iblk m c 0 t (ix2 r k)
    = (m ((c : Thread nD τ).loc main_arg0) : FVec Ideal S4x4096x1024 .f32) (ix3 ⟨t.val / 8, by have := lt32 t; omega⟩ ⟨512 * (t.val % 8) + r, by omega⟩ k) := by
  have := lt32 t
  rw [show iblk m c 0 t (ix2 r k) = V m c main_v2 (ix2 ⟨512 * t.val + r, by omega⟩ k) by blk_ext [iblk, idx t], ent0]
  congr 2 <;> exact Fin.ext (by dsimp only; omega)

theorem blk1 (k : Fin 1024) : iblk m c 1 t (ix3 0 0 k)
    = (m ((c : Thread nD τ).loc main_arg1) : FVec Ideal S4x1x1024 .f32) (ix3 ⟨t.val / 8, by have := lt32 t; omega⟩ 0 k) := by
  have := lt32 t
  blk_ext [iblk, V_main_arg1, idx t]

theorem blk2 (k : Fin 1024) : iblk m c 2 t (ix3 0 0 k)
    = (m ((c : Thread nD τ).loc main_arg2) : FVec Ideal S4x1x1024 .f32) (ix3 ⟨t.val / 8, by have := lt32 t; omega⟩ 0 k) := by
  have := lt32 t
  blk_ext [iblk, V_main_arg2, idx t]

theorem blk3 (k : Fin 1024) : iblk m c 3 t (ix2 0 k) = (m ((c : Thread nD τ).loc main_arg3) : FVec Ideal S1024 .f32) (ix1 k) := by
  rw [show iblk m c 3 t (ix2 0 k) = V m c main_v3 (ix2 0 k) by blk_ext [iblk, idx t], ent3]

theorem blk4 (k : Fin 1024) (j : Fin 3328) : iblk m c 4 t (ix2 k j)
    = (m ((c : Thread nD τ).loc main_arg4) : FVec Ideal S1024x14160 .f32) (ix2 k ⟨j, by omega⟩) := by
  rw [show iblk m c 4 t (ix2 k j) = V m c main_v1 (ix2 k j) by blk_ext [iblk, idx t], ent4]

/-! The array. -/

/-- What the array ends holding. -/
def G : FVec Ideal S16384x3328 .f32 := of2 fun (i : Fin 16384) (j : Fin 3328) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨j, by omega⟩

theorem whole : (dats m 0 c).arrAt 5 cfg0.N = G m c := by
  refine (dats m 0 c).arrAt_eq_of_covers 5 _ (by decide +kernel) fun t hf y => ?_
  obtain ⟨r, j, rfl⟩ : ∃ r j, y = ix2 r j := ⟨_, _, eq_ix2 y⟩
  have ht := lt32 t
  rw [after0_5]
  frame_out
  refine (pay _ _ _ _ _ r j).trans ?_
  have he : ((cfg0.win 5).blk t).view.emb (ix2 r j) = ix2 ⟨512 * t.val + r, by omega⟩ j := by
    blk_ext [idx t]
  rw [he]
  simp only [blk0, blk1, blk2, blk3, blk4]
  unfold G
  rw [of2_ix2, prow_tile _ _ _ _ _ t.val ht]

/-- The run's result and arguments. -/
theorem run (ρ : Dev nD → PrngReg) : θ_run defs (onTc (τ := τ) (main (F := Ideal))) ⟨m, fun _ => 0, ρ⟩ fun r => ∀ c : Dev nD,
    r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (whole m c), (h c).2⟩) (Value.run_blocks m ρ)

end Cert.ProjRwKernelIdeal.Out

end
-- ==== Proof.RwA.lean ====
/- The projection to the recurrent mixer's columns: the kernel and the reference leave the same array. -/
module

public import proofs.«01_k».proof.Defs
public import proofs.«01_k».proof.Proof.RwK
public import proofs.«01_k».proof.Proof.Gen.ProjRwReferenceIdeal.Run

@[expose] public section

set_option maxRecDepth 16384

noncomputable section

namespace Cert.ProjRw

open Idealize.ShloMosaic Idealize.ShloMosaic.TcCoe Idealize.ShloMosaic.StableHlo Idealize.SL Idealize.SL.Sem Cert.Dense

instance : Cert.ProjRwKernelIdeal.Facts := Cert.ProjRwKernelIdeal.Gen.facts
instance : Cert.ProjRwReferenceIdeal.Facts := Cert.ProjRwReferenceIdeal.Gen.facts

section
open Cert.ProjRwReferenceIdeal Cert.ProjRwReferenceIdeal.Gen

/-- The reference's normed and modulated sequence. -/
def hid (x : FVec Ideal S4x4096x1024 .f32) (sc sh : FVec Ideal S4x1x1024 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

theorem hid_at (x : FVec Ideal S4x4096x1024 .f32) (sc sh : FVec Ideal S4x1x1024 .f32) (g : FVec Ideal S1024 .f32) (b : Fin 4) (t : Fin 4096) (k : Fin 1024) :
    hid x sc sh g (ix3 b t k) = modn (fun k => x (ix3 b t k)) (fun k => g (ix1 k)) (fun k => sc (ix3 b 0 k)) (fun k => sh (ix3 b 0 k)) k := by
  pointwise [hid, modn]

theorem ref_at (x : FVec Ideal S4x4096x1024 .f32) (sc sh : FVec Ideal S4x1x1024 .f32) (g : FVec Ideal S1024 .f32) (w : FVec Ideal S1024x14160 .f32)
    (i : Fin 16384) (j : Fin 3328) :
    (shapeCast S16384x3328 (extractStridedSlice S4x4096x3328 ![0, 0, 0] (Host.dotGeneral dot_S4x4096x1024_S1024x14160_S4x4096x14160_2_0_01_1_n_n none (hid x sc sh g) w) slices_S4x4096x14160_S4x4096x3328_0_0_0) shapeCasts_S4x4096x3328_S16384x3328 : FVec Ideal S16384x3328 .f32) (ix2 i j)
      = prow x sc sh g w i ⟨j, by omega⟩ := by
  pointwise [hid_at, prow]

end

/-- The reference's frame. -/
theorem frame : Cert.quiescent_ProjRwReferenceIdeal := fun m g _ =>
  (θ_run (Cert.ProjRwReferenceIdeal.defs (F := Ideal)) _ _).mono (fun _ h => ⟨fun c => (h c).2, sem_eq_zero_of_no_sems rfl _⟩) (Cert.ProjRwReferenceIdeal.Value.run m g)

/-- The two leave the same results. -/
theorem algebraic : Cert.algebraic_ProjRwKernelIdeal_ProjRwReferenceIdeal := by
  intro m g m' g' _ hag
  refine ⟨fun c => Cert.ProjRwKernelIdeal.Out.G m c, Cert.ProjRwKernelIdeal.Out.run m g, ?_⟩
  refine (θ_run (Cert.ProjRwReferenceIdeal.defs (F := Ideal)) _ _).mono (fun r h c => ?_) (Cert.ProjRwReferenceIdeal.Value.run m' g')
  obtain ⟨e0, e1, e2, e3, e4⟩ := hag c
  refine ⟨(h c).1.trans ?_, (h c).2⟩
  rw [e0, e1, e2, e3, e4]
  funext y
  obtain ⟨i, j, rfl⟩ : ∃ i j, y = ix2 i j := ⟨_, _, eq_ix2 y⟩
  exact ref_at _ _ _ _ _ i j

end Cert.ProjRw

end
-- ==== Proof.SsmK.lean ====
/- What the projection to the state-space mixer's columns leaves, element by element. -/
module

public import proofs.«01_k».proof.Proof.Dense
public import proofs.«01_k».proof.Proof.Gen.ProjSsmKernelIdeal.Value
public import Idealize.ShloMosaic.Lib.Claim
public import Idealize.ShloMosaic.Lib.Pipeline.ValueKit.Point
public import Idealize.ShloMosaic.Lib.Pointwise

@[expose] public section

set_option maxRecDepth 16384

noncomputable section

namespace Cert.ProjSsmKernelIdeal.Out

open Idealize.ShloMosaic Idealize.ShloMosaic.TcCoe Idealize.SL.Sem Cert.ProjSsmKernelIdeal Cert.ProjSsmKernelIdeal.Gen Cert.Dense

/-- A row's product with a column, from the loaded blocks. -/
theorem pay5 (v0 : Vec Ideal S512x1024 .f32) (v2 : Vec Ideal S1x1024 .f32) (v4 v6 : Vec Ideal S1x1x1024 .f32) (v27 : Vec Ideal S1024x2048 .bf16)
    (r : Fin 512) (j : Fin 2048) : k0_pay3 v0 v2 v4 v6 v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay3, k0_pay2, modn]

theorem pay6 (v0 : Vec Ideal S512x1024 .f32) (v2 : Vec Ideal S1x1024 .f32) (v4 v6 : Vec Ideal S1x1x1024 .f32) (v27 : Vec Ideal S1024x3072 .bf16)
    (r : Fin 512) (j : Fin 3072) : k0_pay4 v0 v2 v4 v6 v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay4, k0_pay2, modn]

theorem pay7 (v0 : Vec Ideal S512x1024 .f32) (v2 : Vec Ideal S1x1024 .f32) (v4 v6 : Vec Ideal S1x1x1024 .f32) (v27 : Vec Ideal S1024x128 .bf16)
    (r : Fin 512) (j : Fin 128) : k0_pay1 (k0_pay2 v0 v2 v4 v6) v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay1, k0_pay2, modn]

variable (m : (ℓ : Loc nD τ sig) → Buf (Elt Ideal) ℓ) (c : Dev nD)

theorem idx : ∀ t : Fin cfg0.N, win0_0.index t = ![t.val, 0] ∧ win0_1.index t = ![t.val / 8, 0, 0] ∧ win0_2.index t = ![t.val / 8, 0, 0]
    ∧ win0_3.index t = ![0, 0] ∧ win0_4.index t = ![0, 0] ∧ win0_5.index t = ![t.val, 0] ∧ win0_6.index t = ![t.val, 0] ∧ win0_7.index t = ![t.val, 0] := (by decide +kernel : ∀ t : Fin grid0.N, _)

theorem lt32 (t : Fin cfg0.N) : t.val < 32 := lt_of_lt_of_eq t.isLt N_0

theorem ent0 (i : Fin 16384) (k : Fin 1024) : (V m c main_v5 : FVec Ideal S16384x1024 .f32) (ix2 i k)
    = (m ((c : Thread nD τ).loc main_arg0) : FVec Ideal S4x4096x1024 .f32) (ix3 ⟨i / 4096, by omega⟩ ⟨i % 4096, by omega⟩ k) := by
  dsimp only [V, hostOps0, hostOps0_1, hostOps0_2, List.flatten_cons, List.flatten_nil, List.append_nil, List.cons_append, List.nil_append]
  entry_read
  pointwise

theorem ent3 (k : Fin 1024) : (V m c main_v6 : FVec Ideal S1x1024 .f32) (ix2 0 k) = (m ((c : Thread nD τ).loc main_arg3) : FVec Ideal S1024 .f32) (ix1 k) := by
  dsimp only [V, hostOps0, hostOps0_1, hostOps0_2, List.flatten_cons, List.flatten_nil, List.append_nil, List.cons_append, List.nil_append]
  entry_read
  pointwise

theorem ent4 (k : Fin 1024) (j : Fin 5120) : (V m c main_v4 : FVec Ideal S1024x5248 .bf16) (ix2 k ⟨j, by omega⟩)
    = (m ((c : Thread nD τ).loc main_arg4) : FVec Ideal S1024x14160 .f32) (ix2 k ⟨3328 + j, by omega⟩) := by
  dsimp only [V, hostOps0, hostOps0_1, hostOps0_2, List.flatten_cons, List.flatten_nil, List.append_nil, List.cons_append, List.nil_append]
  entry_read
  pointwise

theorem ent4p (k : Fin 1024) (j : Fin 128) : (V m c main_v4 : FVec Ideal S1024x5248 .bf16) (ix2 k ⟨5120 + j, by omega⟩)
    = if h : j.val < 32 then (m ((c : Thread nD τ).loc main_arg4) : FVec Ideal S1024x14160 .f32) (ix2 k ⟨8448 + j, by omega⟩) else (0 : EReal) := by
  dsimp only [V, hostOps0, hostOps0_1, hostOps0_2, List.flatten_cons, List.flatten_nil, List.append_nil, List.cons_append, List.nil_append]
  entry_read
  pointwise
  simp only [StableHlo.TRef.ofBuf_toBuf]
  simp only [StableHlo.TRef.ofBuf, StableHlo.TRef.toBuf, cast_eq]
  pointwise
  congr 1
  funext _
  exact show (((0#32 : BitVec 32).toInt : ℝ) : EReal) = 0 by simp

/-! The blocks a point loads. -/

variable (t : Fin cfg0.N)

theorem blk0 (r : Fin 512) (k : Fin 1024) : iblk m c 0 t (ix2 r k)
    = (m ((c : Thread nD τ).loc main_arg0) : FVec Ideal S4x4096x1024 .f32) (ix3 ⟨t.val / 8, by have := lt32 t; omega⟩ ⟨512 * (t.val % 8) + r, by omega⟩ k) := by
  have := lt32 t
  rw [show iblk m c 0 t (ix2 r k) = V m c main_v5 (ix2 ⟨512 * t.val + r, by omega⟩ k) by blk_ext [iblk, idx t], ent0]
  congr 2 <;> exact Fin.ext (by dsimp only; omega)

theorem blk1 (k : Fin 1024) : iblk m c 1 t (ix3 0 0 k)
    = (m ((c : Thread nD τ).loc main_arg1) : FVec Ideal S4x1x1024 .f32) (ix3 ⟨t.val / 8, by have := lt32 t; omega⟩ 0 k) := by
  have := lt32 t
  blk_ext [iblk, V_main_arg1, idx t]

theorem blk2 (k : Fin 1024) : iblk m c 2 t (ix3 0 0 k)
    = (m ((c : Thread nD τ).loc main_arg2) : FVec Ideal S4x1x1024 .f32) (ix3 ⟨t.val / 8, by have := lt32 t; omega⟩ 0 k) := by
  have := lt32 t
  blk_ext [iblk, V_main_arg2, idx t]

theorem blk3 (k : Fin 1024) : iblk m c 3 t (ix2 0 k) = (m ((c : Thread nD τ).loc main_arg3) : FVec Ideal S1024 .f32) (ix1 k) := by
  rw [show iblk m c 3 t (ix2 0 k) = V m c main_v6 (ix2 0 k) by blk_ext [iblk, idx t], ent3]

theorem blk4 (k : Fin 1024) (j : Fin 5248) : iblk m c 4 t (ix2 k j) = V m c main_v4 (ix2 k j) := by
  blk_ext [iblk, idx t]

theorem ld5 (k : Fin 1024) (j : Fin 2048) : View.ld (iblk m c 4 t) r0_3 (ix2 k j)
    = (m ((c : Thread nD τ).loc main_arg4) : FVec Ideal S1024x14160 .f32) (ix2 k ⟨3328 + j, by omega⟩) := by
  refine (ld_cols (iblk m c 4 t) _ k j (by omega)).trans ((blk4 m c t k _).trans ((ent4 m c k ⟨0 + j, by omega⟩).trans ?_))
  congr 2; exact Fin.ext (by dsimp only; omega)

theorem ld6 (k : Fin 1024) (j : Fin 3072) : View.ld (iblk m c 4 t) r0_5 (ix2 k j)
    = (m ((c : Thread nD τ).loc main_arg4) : FVec Ideal S1024x14160 .f32) (ix2 k ⟨5376 + j, by omega⟩) := by
  refine (ld_cols (iblk m c 4 t) _ k j (by omega)).trans ((blk4 m c t k _).trans ((ent4 m c k ⟨2048 + j, by omega⟩).trans ?_))
  congr 2; exact Fin.ext (by dsimp only; omega)

theorem ld7 (k : Fin 1024) (j : Fin 128) : View.ld (iblk m c 4 t) r0_7 (ix2 k j)
    = if h : j.val < 32 then (m ((c : Thread nD τ).loc main_arg4) : FVec Ideal S1024x14160 .f32) (ix2 k ⟨8448 + j, by omega⟩) else (0 : EReal) :=
  (ld_cols (iblk m c 4 t) _ k j (by omega)).trans ((blk4 m c t k _).trans (ent4p m c k j))

/-! The arrays. -/

/-- What output 1 ends holding. -/
def G5 : FVec Ideal S16384x2048 .f32 := of2 fun (i : Fin 16384) (j : Fin 2048) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨3328 + j, by omega⟩

theorem whole5 : (dats m 0 c).arrAt 5 cfg0.N = G5 m c := by
  refine (dats m 0 c).arrAt_eq_of_covers 5 _ (by decide +kernel) fun t hf y => ?_
  obtain ⟨r, j, rfl⟩ : ∃ r j, y = ix2 r j := ⟨_, _, eq_ix2 y⟩
  have ht := lt32 t
  rw [after0_5]
  frame_out
  refine (pay5 _ _ _ _ _ r j).trans ?_
  have he : ((cfg0.win 5).blk t).view.emb (ix2 r j) = ix2 ⟨512 * t.val + r, by omega⟩ j := by
    blk_ext [idx t]
  rw [he]
  simp only [blk0, blk1, blk2, blk3, ld5]
  unfold G5
  rw [of2_ix2, prow_tile _ _ _ _ _ t.val ht]

/-- What output 2 ends holding. -/
def G6 : FVec Ideal S16384x3072 .f32 := of2 fun (i : Fin 16384) (j : Fin 3072) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨5376 + j, by omega⟩

theorem whole6 : (dats m 0 c).arrAt 6 cfg0.N = G6 m c := by
  refine (dats m 0 c).arrAt_eq_of_covers 6 _ (by decide +kernel) fun t hf y => ?_
  obtain ⟨r, j, rfl⟩ : ∃ r j, y = ix2 r j := ⟨_, _, eq_ix2 y⟩
  have ht := lt32 t
  rw [after0_6]
  frame_out
  refine (pay6 _ _ _ _ _ r j).trans ?_
  have he : ((cfg0.win 6).blk t).view.emb (ix2 r j) = ix2 ⟨512 * t.val + r, by omega⟩ j := by
    blk_ext [idx t]
  rw [he]
  simp only [blk0, blk1, blk2, blk3, ld6]
  unfold G6
  rw [of2_ix2, prow_tile _ _ _ _ _ t.val ht]

/-- What output 3 ends holding. -/
def G7 : FVec Ideal S16384x128 .f32 := of2 fun (i : Fin 16384) (j : Fin 128) =>
  drow (m ((c : Thread nD τ).loc main_arg0)) (m ((c : Thread nD τ).loc main_arg1)) (m ((c : Thread nD τ).loc main_arg2)) (m ((c : Thread nD τ).loc main_arg3))
    (m ((c : Thread nD τ).loc main_arg4)) i j

theorem whole7 : (dats m 0 c).arrAt 7 cfg0.N = G7 m c := by
  refine (dats m 0 c).arrAt_eq_of_covers 7 _ (by decide +kernel) fun t hf y => ?_
  obtain ⟨r, j, rfl⟩ : ∃ r j, y = ix2 r j := ⟨_, _, eq_ix2 y⟩
  have ht := lt32 t
  rw [after0_7]
  frame_out
  refine (pay7 _ _ _ _ _ r j).trans ?_
  have he : ((cfg0.win 7).blk t).view.emb (ix2 r j) = ix2 ⟨512 * t.val + r, by omega⟩ j := by
    blk_ext [idx t]
  rw [he]
  simp only [blk0, blk1, blk2, blk3, ld7]
  unfold G7 drow
  rw [of2_ix2]
  by_cases h : j.val < 32
  · simp only [dif_pos h]
    rw [prow_tile _ _ _ _ _ t.val ht]
  · simp only [dif_neg h, mul_zero, Finset.sum_const_zero]

/-- The run's results and arguments. -/
theorem run (ρ : Dev nD → PrngReg) : θ_run defs (onTc (τ := τ) (main (F := Ideal))) ⟨m, fun _ => 0, ρ⟩ fun r => ∀ c : Dev nD,
    r.2.mem ((c : Thread nD τ).loc main_v7_0) = G5 m c
      ∧ r.2.mem ((c : Thread nD τ).loc main_v7_1) = G6 m c
      ∧ r.2.mem ((c : Thread nD τ).loc main_v7_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (whole5 m c), (h c).2.1.trans (whole6 m c), (h c).2.2.1.trans (whole7 m c), (h c).2.2.2⟩)
    (Value.run_blocks m ρ)

end Cert.ProjSsmKernelIdeal.Out

end
-- ==== Proof.SsmA.lean ====
/- The projection to the state-space mixer's columns: the kernel and the reference leave the same arrays. -/
module

public import proofs.«01_k».proof.Defs
public import proofs.«01_k».proof.Proof.SsmK
public import proofs.«01_k».proof.Proof.Gen.ProjSsmReferenceIdeal.Run

@[expose] public section

set_option maxRecDepth 16384

noncomputable section

namespace Cert.ProjSsm

open Idealize.ShloMosaic Idealize.ShloMosaic.TcCoe Idealize.ShloMosaic.StableHlo Idealize.SL Idealize.SL.Sem Cert.Dense

instance : Cert.ProjSsmKernelIdeal.Facts := Cert.ProjSsmKernelIdeal.Gen.facts
instance : Cert.ProjSsmReferenceIdeal.Facts := Cert.ProjSsmReferenceIdeal.Gen.facts

section
open Cert.ProjSsmReferenceIdeal Cert.ProjSsmReferenceIdeal.Gen

/-- The reference's normed and modulated sequence. -/
def hid (x : FVec Ideal S4x4096x1024 .f32) (sc sh : FVec Ideal S4x1x1024 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

theorem hid_at (x : FVec Ideal S4x4096x1024 .f32) (sc sh : FVec Ideal S4x1x1024 .f32) (g : FVec Ideal S1024 .f32) (b : Fin 4) (t : Fin 4096) (k : Fin 1024) :
    hid x sc sh g (ix3 b t k) = modn (fun k => x (ix3 b t k)) (fun k => g (ix1 k)) (fun k => sc (ix3 b 0 k)) (fun k => sh (ix3 b 0 k)) k := by
  pointwise [hid, modn]

theorem ref_z (x : FVec Ideal S4x4096x1024 .f32) (sc sh : FVec Ideal S4x1x1024 .f32) (g : FVec Ideal S1024 .f32) (w : FVec Ideal S1024x14160 .f32)
    (i : Fin 16384) (j : Fin 2048) :
    (shapeCast S16384x2048 (extractStridedSlice S4x4096x2048 ![0, 0, 0] (extractStridedSlice S4x4096x5152 ![0, 0, 3328] (Host.dotGeneral dot_S4x4096x1024_S1024x14160_S4x4096x14160_2_0_01_1_n_n none (hid x sc sh g) w) slices_S4x4096x14160_S4x4096x5152_0_0_3328) slices_S4x4096x5152_S4x4096x2048_0_0_0) shapeCasts_S4x4096x2048_S16384x2048 : FVec Ideal S16384x2048 .f32) (ix2 i j)
      = prow x sc sh g w i ⟨3328 + j, by omega⟩ := by
  pointwise [hid_at, prow]

theorem ref_x (x : FVec Ideal S4x4096x1024 .f32) (sc sh : FVec Ideal S4x1x1024 .f32) (g : FVec Ideal S1024 .f32) (w : FVec Ideal S1024x14160 .f32)
    (i : Fin 16384) (j : Fin 3072) :
    (shapeCast S16384x3072 (extractStridedSlice S4x4096x3072 ![0, 0, 2048] (extractStridedSlice S4x4096x5152 ![0, 0, 3328] (Host.dotGeneral dot_S4x4096x1024_S1024x14160_S4x4096x14160_2_0_01_1_n_n none (hid x sc sh g) w) slices_S4x4096x14160_S4x4096x5152_0_0_3328) slices_S4x4096x5152_S4x4096x3072_0_0_2048) shapeCasts_S4x4096x3072_S16384x3072 : FVec Ideal S16384x3072 .f32) (ix2 i j)
      = prow x sc sh g w i ⟨5376 + j, by omega⟩ := by
  pointwise [hid_at, prow]
  simp only [show 3328 + (2048 + j.val) = 5376 + j.val by omega]

theorem ref_d (x : FVec Ideal S4x4096x1024 .f32) (sc sh : FVec Ideal S4x1x1024 .f32) (g : FVec Ideal S1024 .f32) (w : FVec Ideal S1024x14160 .f32)
    (i : Fin 16384) (j : Fin 128) :
    (shapeCast S16384x128 (pad S4x4096x128 ![0, 0, 0] ![0, 0, 96] ![0, 0, 0] (extractStridedSlice S4x4096x32 ![0, 0, 5120] (extractStridedSlice S4x4096x5152 ![0, 0, 3328] (Host.dotGeneral dot_S4x4096x1024_S1024x14160_S4x4096x14160_2_0_01_1_n_n none (hid x sc sh g) w) slices_S4x4096x14160_S4x4096x5152_0_0_3328) slices_S4x4096x5152_S4x4096x32_0_0_5120) (sitofp .f32 (constantI S_ 32 0#32)) pads_S4x4096x32_S4x4096x128_000_000_0960 h_S_) shapeCasts_S4x4096x128_S16384x128 : FVec Ideal S16384x128 .f32) (ix2 i j)
      = drow x sc sh g w i j := by
  pointwise [hid_at, prow, drow]
  refine dite_trim ⟨fun q => q.2.2, fun h => ⟨by omega, by omega, h⟩⟩ (fun hp hq => ?_) ?_
  · simp only [show 3328 + (5120 + j.val) = 8448 + j.val by omega]
  · exact show (((0#32 : BitVec 32).toInt : ℝ) : EReal) = 0 by simp

end

/-- The reference's frame. -/
theorem frame : Cert.quiescent_ProjSsmReferenceIdeal := fun m g _ =>
  (θ_run (Cert.ProjSsmReferenceIdeal.defs (F := Ideal)) _ _).mono (fun _ h => ⟨fun c => (h c).2.2.2, sem_eq_zero_of_no_sems rfl _⟩) (Cert.ProjSsmReferenceIdeal.Value.run m g)

/-- The two leave the same results. -/
theorem algebraic : Cert.algebraic_ProjSsmKernelIdeal_ProjSsmReferenceIdeal := by
  intro m g m' g' _ hag
  refine ⟨fun c => Cert.ProjSsmKernelIdeal.Out.G5 m c, fun c => Cert.ProjSsmKernelIdeal.Out.G6 m c, fun c => Cert.ProjSsmKernelIdeal.Out.G7 m c,
    Cert.ProjSsmKernelIdeal.Out.run m g, ?_⟩
  refine (θ_run (Cert.ProjSsmReferenceIdeal.defs (F := Ideal)) _ _).mono (fun r h c => ?_) (Cert.ProjSsmReferenceIdeal.Value.run m' g')
  obtain ⟨e0, e1, e2, e3, e4⟩ := hag c
  refine ⟨(h c).1.trans ?_, (h c).2.1.trans ?_, (h c).2.2.1.trans ?_, (h c).2.2.2⟩
  all_goals
    rw [e0, e1, e2, e3, e4]
    funext y
    obtain ⟨i, j, rfl⟩ : ∃ i j, y = ix2 i j := ⟨_, _, eq_ix2 y⟩
  · exact ref_z _ _ _ _ _ i j
  · exact ref_x _ _ _ _ _ i j
  · exact ref_d _ _ _ _ _ i j

end Cert.ProjSsm

end
-- ==== Proof.NsaK.lean ====
/- What the projection to the sparse attention's columns and the gates of the merge leaves, element by element. -/
module

public import proofs.«01_k».proof.Proof.Dense
public import proofs.«01_k».proof.Proof.Gen.ProjNsaKernelIdeal.Value
public import Idealize.ShloMosaic.Lib.Claim
public import Idealize.ShloMosaic.Lib.Pipeline.ValueKit.Point
public import Idealize.ShloMosaic.Lib.Pointwise

@[expose] public section

set_option maxRecDepth 16384

noncomputable section

namespace Cert.ProjNsaKernelIdeal.Out

open Idealize.ShloMosaic Idealize.ShloMosaic.TcCoe Idealize.SL.Sem Cert.ProjNsaKernelIdeal Cert.ProjNsaKernelIdeal.Gen Cert.Dense

/-! A row's product with a column, from the loaded blocks. -/

theorem pay5 (v0 : Vec Ideal S512x1024 .f32) (v2 : Vec Ideal S1x1024 .f32) (v4 v6 : Vec Ideal S1x1x1024 .f32) (v27 : Vec Ideal S1024x1024 .bf16)
    (r : Fin 512) (j : Fin 1024) : k0_pay6 v0 v2 v4 v6 v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay6, k0_pay5, modn]

theorem pay6 (v0 : Vec Ideal S512x1024 .f32) (v2 : Vec Ideal S1x1024 .f32) (v4 v6 : Vec Ideal S1x1x1024 .f32) (v27 : Vec Ideal S1024x512 .bf16)
    (r : Fin 512) (j : Fin 512) : k0_pay7 v0 v2 v4 v6 v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay7, k0_pay5, modn]

theorem pay7 (v0 : Vec Ideal S512x1024 .f32) (v2 : Vec Ideal S1x1024 .f32) (v4 v6 : Vec Ideal S1x1x1024 .f32) (v27 : Vec Ideal S1024x512 .bf16)
    (r : Fin 512) (j : Fin 512) : k0_pay1 (k0_pay5 v0 v2 v4 v6) v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay1, k0_pay5, modn]

theorem pay8 (v0 : Vec Ideal S512x1024 .f32) (v2 : Vec Ideal S1x1024 .f32) (v4 v6 : Vec Ideal S1x1x1024 .f32) (v27 : Vec Ideal S1024x512 .bf16)
    (r : Fin 512) (j : Fin 512) : k0_pay2 (k0_pay5 v0 v2 v4 v6) v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay2, k0_pay5, modn]

theorem pay10 (v0 : Vec Ideal S512x1024 .f32) (v2 : Vec Ideal S1x1024 .f32) (v4 v6 : Vec Ideal S1x1x1024 .f32) (v27 : Vec Ideal S1024x3072 .bf16)
    (r : Fin 512) (j : Fin 3072) : k0_pay4 (k0_pay5 v0 v2 v4 v6) v27 (ix2 r j)
      = ∑ k : Fin 1024, modn (fun k => v0 (ix2 r k)) (fun k => v2 (ix2 0 k)) (fun k => v4 (ix3 0 0 k)) (fun k => v6 (ix3 0 0 k)) k * v27 (ix2 k j) := by
  pointwise [k0_pay4, k0_pay5, modn]

theorem pay8_eq (x0 : Vec Ideal S512x1024 .f32) (x1 x2 : Vec Ideal S1x1x1024 .f32) (x3 : Vec Ideal S1x1024 .f32) (x4 : Vec Ideal S1024x5760 .bf16) :
    k0_pay8 x0 x1 x2 x3 x4 = k0_pay5 x0 x3 x1 x2 := by
  unfold k0_pay8
  simp (disch := decide) only [View.ld_unit_lit']

variable (m : (ℓ : Loc nD τ sig) → Buf (Elt Ideal) ℓ) (c : Dev nD)

theorem idx : ∀ t : Fin cfg0.N, win0_0.index t = ![t.val, 0] ∧ win0_1.index t = ![t.val / 8, 0, 0] ∧ win0_2.index t = ![t.val / 8, 0, 0]
    ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_10.index t = ![t.val, 0] := (by decide +kernel : ∀ t : Fin grid0.N, _)

theorem lt32 (t : Fin cfg0.N) : t.val < 32 := lt_of_lt_of_eq t.isLt N_0

theorem ent0 (i : Fin 16384) (k : Fin 1024) : (V m c main_v11 : FVec Ideal S16384x1024 .f32) (ix2 i k)
    = (m ((c : Thread nD τ).loc main_arg0) : FVec Ideal S4x4096x1024 .f32) (ix3 ⟨i / 4096, by omega⟩ ⟨i % 4096, by omega⟩ k) := by
  dsimp only [V, hostOps0, hostOps0_1, hostOps0_2, hostOps0_3, hostOps0_4, List.flatten_cons, List.flatten_nil, List.append_nil, List.cons_append, List.nil_append]
  entry_read
  pointwise

theorem ent3 (k : Fin 1024) : (V m c main_v12 : FVec Ideal S1x1024 .f32) (ix2 0 k) = (m ((c : Thread nD τ).loc main_arg3) : FVec Ideal S1024 .f32) (ix1 k) := by
  dsimp only [V, hostOps0, hostOps0_1, hostOps0_2, hostOps0_3, hostOps0_4, List.flatten_cons, List.flatten_nil, List.append_nil, List.cons_append, List.nil_append]
  entry_read
  pointwise

/-- The buffers before the weights are put together. -/
abbrev pre : Valuation τ sig (Elt Ideal) := StableHlo.after (List.flatten [hostOps0, hostOps0_1, hostOps0_2, hostOps0_3]) (fun b => m (c, b))

theorem V_pre (b : Ref sig .tc) : V m c b = StableHlo.after hostOps0_4 (pre m c) b := by
  unfold V pre
  rw [← StableHlo.after_append]
  rfl

theorem pre5 (k : Fin 1024) (j : Fin 2560) : (pre m c main_v5 : FVec Ideal S1024x2560 .f32) (ix2 k j)
    = (m ((c : Thread nD τ).loc main_arg4) : FVec Ideal S1024x14160 .f32) (ix2 k ⟨8480 + j, by omega⟩) := by
  dsimp only [pre, hostOps0, hostOps0_1, hostOps0_2, hostOps0_3, List.flatten_cons, List.flatten_nil, List.append_nil, List.cons_append, List.nil_append]
  entry_read
  pointwise

theorem pre4 : pre m c main_arg4 = m ((c : Thread nD τ).loc main_arg4) := by
  dsimp only [pre, hostOps0, hostOps0_1, hostOps0_2, hostOps0_3, List.flatten_cons, List.flatten_nil, List.append_nil, List.cons_append, List.nil_append]
  entry_read
  rfl

/-- The weights put together. -/
abbrev cat (x : FVec Ideal S1024x2560 .f32) (y : FVec Ideal S1024x128 .f32) (z : FVec Ideal S1024x14160 .f32) : FVec Ideal S1024x5760 .bf16 :=
  truncf .bf16 (concatenate S1024x5760 1 [⟨S1024x2560, x⟩, ⟨S1024x128, y⟩, ⟨S1024x3072, extractStridedSlice S1024x3072 ![0, 11088] z slices_S1024x14160_S1024x3072_0_11088⟩]
    concatenates_S1024x2560_S1024x128_S1024x3072_S1024x5760_d1) bitsLt_bf16_f32

theorem cat_eq (R : Valuation τ sig (Elt Ideal)) : (StableHlo.after hostOps0_4 R main_v10 : FVec Ideal S1024x5760 .bf16) = cat (R main_v5) (R main_v7) (R main_arg4) := by
  after_results <;> rfl

theorem cat_at (x : FVec Ideal S1024x2560 .f32) (y : FVec Ideal S1024x128 .f32) (z : FVec Ideal S1024x14160 .f32) (k : Fin 1024) (j : Fin 2560) :
    cat x y z (ix2 k ⟨j, by omega⟩) = x (ix2 k j) := by
  pointwise

theorem cat_atg (x : FVec Ideal S1024x2560 .f32) (y : FVec Ideal S1024x128 .f32) (z : FVec Ideal S1024x14160 .f32) (k : Fin 1024) (j : Fin 3072) :
    cat x y z (ix2 k ⟨2688 + j, by omega⟩) = z (ix2 k ⟨11088 + j, by omega⟩) := by
  pointwise
  rw [dif_neg (by omega), dif_neg (by omega)]
  simp only [show 11088 + (2688 + j.val - 2560 - 128) = 11088 + j.val by omega]

theorem ent4 (k : Fin 1024) (j : Fin 2560) : (V m c main_v10 : FVec Ideal S1024x5760 .bf16) (ix2 k ⟨j, by omega⟩)
    = (m ((c : Thread nD τ).loc main_arg4) : FVec Ideal S1024x14160 .f32) (ix2 k ⟨8480 + j, by omega⟩) := by
  rw [V_pre]
  exact (congrFun (cat_eq (pre m c)) _).trans ((cat_at _ _ _ k j).trans (pre5 m c k j))

theorem ent4g (k : Fin 1024) (j : Fin 3072) : (V m c main_v10 : FVec Ideal S1024x5760 .bf16) (ix2 k ⟨2688 + j, by omega⟩)
    = (m ((c : Thread nD τ).loc main_arg4) : FVec Ideal S1024x14160 .f32) (ix2 k ⟨11088 + j, by omega⟩) := by
  rw [V_pre]
  exact (congrFun (cat_eq (pre m c)) _).trans ((cat_atg _ _ _ k j).trans (congrFun (pre4 m c) _))

/-! The blocks a point loads. -/

variable (t : Fin cfg0.N)

theorem blk0 (r : Fin 512) (k : Fin 1024) : iblk m c 0 t (ix2 r k)
    = (m ((c : Thread nD τ).loc main_arg0) : FVec Ideal S4x4096x1024 .f32) (ix3 ⟨t.val / 8, by have := lt32 t; omega⟩ ⟨512 * (t.val % 8) + r, by omega⟩ k) := by
  have := lt32 t
  rw [show iblk m c 0 t (ix2 r k) = V m c main_v11 (ix2 ⟨512 * t.val + r, by omega⟩ k) by blk_ext [iblk, idx t], ent0]
  congr 2 <;> exact Fin.ext (by dsimp only; omega)

theorem blk1 (k : Fin 1024) : iblk m c 1 t (ix3 0 0 k)
    = (m ((c : Thread nD τ).loc main_arg1) : FVec Ideal S4x1x1024 .f32) (ix3 ⟨t.val / 8, by have := lt32 t; omega⟩ 0 k) := by
  have := lt32 t
  blk_ext [iblk, V_main_arg1, idx t]

theorem blk2 (k : Fin 1024) : iblk m c 2 t (ix3 0 0 k)
    = (m ((c : Thread nD τ).loc main_arg2) : FVec Ideal S4x1x1024 .f32) (ix3 ⟨t.val / 8, by have := lt32 t; omega⟩ 0 k) := by
  have := lt32 t
  blk_ext [iblk, V_main_arg2, idx t]

theorem blk3 (k : Fin 1024) : iblk m c 3 t (ix2 0 k) = (m ((c : Thread nD τ).loc main_arg3) : FVec Ideal S1024 .f32) (ix1 k) := by
  rw [show iblk m c 3 t (ix2 0 k) = V m c main_v12 (ix2 0 k) by blk_ext [iblk, idx t], ent3]

theorem blk4 (k : Fin 1024) (j : Fin 5760) : iblk m c 4 t (ix2 k j) = V m c main_v10 (ix2 k j) := by
  blk_ext [iblk, idx t]

theorem ld5 (k : Fin 1024) (j : Fin 1024) : View.ld (iblk m c 4 t) r0_3 (ix2 k j)
    = (m ((c : Thread nD τ).loc main_arg4) : FVec Ideal S1024x14160 .f32) (ix2 k ⟨8480 + j, by omega⟩) := by
  refine (ld_cols (iblk m c 4 t) _ k j (by omega)).trans ((blk4 m c t k _).trans ((ent4 m c k ⟨0 + j, by omega⟩).trans ?_))
  congr 2; exact Fin.ext (by dsimp only; omega)

theorem ld6 (k : Fin 1024) (j : Fin 512) : View.ld (iblk m c 4 t) r0_4 (ix2 k j)
    = (m ((c : Thread nD τ).loc main_arg4) : FVec Ideal S1024x14160 .f32) (ix2 k ⟨9504 + j, by omega⟩) := by
  refine (ld_cols (iblk m c 4 t) _ k j (by omega)).trans ((blk4 m c t k _).trans ((ent4 m c k ⟨1024 + j, by omega⟩).trans ?_))
  congr 2; exact Fin.ext (by dsimp only; omega)

theorem ld7 (k : Fin 1024) (j : Fin 512) : View.ld (iblk m c 4 t) r0_6 (ix2 k j)
    = (m ((c : Thread nD τ).loc main_arg4) : FVec Ideal S1024x14160 .f32) (ix2 k ⟨10016 + j, by omega⟩) := by
  refine (ld_cols (iblk m c 4 t) _ k j (by omega)).trans ((blk4 m c t k _).trans ((ent4 m c k ⟨1536 + j, by omega⟩).trans ?_))
  congr 2; exact Fin.ext (by dsimp only; omega)

theorem ld8 (k : Fin 1024) (j : Fin 512) : View.ld (iblk m c 4 t) r0_7 (ix2 k j)
    = (m ((c : Thread nD τ).loc main_arg4) : FVec Ideal S1024x14160 .f32) (ix2 k ⟨10528 + j, by omega⟩) := by
  refine (ld_cols (iblk m c 4 t) _ k j (by omega)).trans ((blk4 m c t k _).trans ((ent4 m c k ⟨2048 + j, by omega⟩).trans ?_))
  congr 2; exact Fin.ext (by dsimp only; omega)

theorem ld10 (k : Fin 1024) (j : Fin 3072) : View.ld (iblk m c 4 t) r0_10 (ix2 k j)
    = (m ((c : Thread nD τ).loc main_arg4) : FVec Ideal S1024x14160 .f32) (ix2 k ⟨11088 + j, by omega⟩) := by
  exact (ld_cols (iblk m c 4 t) _ k j (by omega)).trans ((blk4 m c t k _).trans (ent4g m c k j))

/-! The arrays. -/

/-- What output window 5 ends holding. -/
def G5 : FVec Ideal S16384x1024 .f32 := of2 fun (i : Fin 16384) (j : Fin 1024) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨8480 + j, by omega⟩

theorem whole5 : (dats m 0 c).arrAt 5 cfg0.N = G5 m c := by
  refine (dats m 0 c).arrAt_eq_of_covers 5 _ (by decide +kernel) fun t hf y => ?_
  obtain ⟨r, j, rfl⟩ : ∃ r j, y = ix2 r j := ⟨_, _, eq_ix2 y⟩
  have ht := lt32 t
  rw [after0_5]
  frame_out
  refine (pay5 _ _ _ _ _ r j).trans ?_
  have he : ((cfg0.win 5).blk t).view.emb (ix2 r j) = ix2 ⟨512 * t.val + r, by omega⟩ j := by
    blk_ext [idx t]
  rw [he]
  simp only [blk0, blk1, blk2, blk3, ld5]
  unfold G5
  rw [of2_ix2, prow_tile _ _ _ _ _ t.val ht]

/-- What output window 6 ends holding. -/
def G6 : FVec Ideal S16384x512 .f32 := of2 fun (i : Fin 16384) (j : Fin 512) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨9504 + j, by omega⟩

theorem whole6 : (dats m 0 c).arrAt 6 cfg0.N = G6 m c := by
  refine (dats m 0 c).arrAt_eq_of_covers 6 _ (by decide +kernel) fun t hf y => ?_
  obtain ⟨r, j, rfl⟩ : ∃ r j, y = ix2 r j := ⟨_, _, eq_ix2 y⟩
  have ht := lt32 t
  rw [after0_6]
  frame_out
  refine (pay6 _ _ _ _ _ r j).trans ?_
  have he : ((cfg0.win 6).blk t).view.emb (ix2 r j) = ix2 ⟨512 * t.val + r, by omega⟩ j := by
    blk_ext [idx t]
  rw [he]
  simp only [blk0, blk1, blk2, blk3, ld6]
  unfold G6
  rw [of2_ix2, prow_tile _ _ _ _ _ t.val ht]

/-- What output window 7 ends holding. -/
def G7 : FVec Ideal S16384x512 .f32 := of2 fun (i : Fin 16384) (j : Fin 512) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨10016 + j, by omega⟩

theorem whole7 : (dats m 0 c).arrAt 7 cfg0.N = G7 m c := by
  refine (dats m 0 c).arrAt_eq_of_covers 7 _ (by decide +kernel) fun t hf y => ?_
  obtain ⟨r, j, rfl⟩ : ∃ r j, y = ix2 r j := ⟨_, _, eq_ix2 y⟩
  have ht := lt32 t
  rw [after0_7]
  frame_out
  rw [pay8_eq]
  refine (pay7 _ _ _ _ _ r j).trans ?_
  have he : ((cfg0.win 7).blk t).view.emb (ix2 r j) = ix2 ⟨512 * t.val + r, by omega⟩ j := by
    blk_ext [idx t]
  rw [he]
  simp only [blk0, blk1, blk2, blk3, ld7]
  unfold G7
  rw [of2_ix2, prow_tile _ _ _ _ _ t.val ht]

/-- What output window 8 ends holding. -/
def G8 : FVec Ideal S16384x512 .f32 := of2 fun (i : Fin 16384) (j : Fin 512) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨10528 + j, by omega⟩

theorem whole8 : (dats m 0 c).arrAt 8 cfg0.N = G8 m c := by
  refine (dats m 0 c).arrAt_eq_of_covers 8 _ (by decide +kernel) fun t hf y => ?_
  obtain ⟨r, j, rfl⟩ : ∃ r j, y = ix2 r j := ⟨_, _, eq_ix2 y⟩
  have ht := lt32 t
  rw [after0_8]
  frame_out
  rw [pay8_eq]
  refine (pay8 _ _ _ _ _ r j).trans ?_
  have he : ((cfg0.win 8).blk t).view.emb (ix2 r j) = ix2 ⟨512 * t.val + r, by omega⟩ j := by
    blk_ext [idx t]
  rw [he]
  simp only [blk0, blk1, blk2, blk3, ld8]
  unfold G8
  rw [of2_ix2, prow_tile _ _ _ _ _ t.val ht]

/-- What output window 10 ends holding. -/
def G10 : FVec Ideal S16384x3072 .f32 := of2 fun (i : Fin 16384) (j : Fin 3072) =>
  prow (m ((c : Thread nD τ).loc main_arg0)) (m ((c : Thread nD τ).loc main_arg1)) (m ((c : Thread nD τ).loc main_arg2)) (m ((c : Thread nD τ).loc main_arg3))
    (m ((c : Thread nD τ).loc main_arg4)) i ⟨11088 + j, by omega⟩

theorem whole10 : (dats m 0 c).arrAt 10 cfg0.N = G10 m c := by
  refine (dats m 0 c).arrAt_eq_of_covers 10 _ (by decide +kernel) fun t hf y => ?_
  obtain ⟨r, j, rfl⟩ : ∃ r j, y = ix2 r j := ⟨_, _, eq_ix2 y⟩
  have ht := lt32 t
  rw [after0_10]
  frame_out
  rw [pay8_eq]
  refine (pay10 _ _ _ _ _ r j).trans ?_
  have he : ((cfg0.win 10).blk t).view.emb (ix2 r j) = ix2 ⟨512 * t.val + r, by omega⟩ j := by
    blk_ext [idx t]
  rw [he]
  simp only [blk0, blk1, blk2, blk3, ld10]
  unfold G10
  rw [of2_ix2, prow_tile _ _ _ _ _ t.val ht]

/-- The run's results and arguments. -/
theorem run (ρ : Dev nD → PrngReg) : θ_run defs (onTc (τ := τ) (main (F := Ideal))) ⟨m, fun _ => 0, ρ⟩ fun r => ∀ c : Dev nD,
    r.2.mem ((c : Thread nD τ).loc main_v13_0) = G5 m c
      ∧ r.2.mem ((c : Thread nD τ).loc main_v13_1) = G6 m c
      ∧ r.2.mem ((c : Thread nD τ).loc main_v13_2) = G7 m c
      ∧ r.2.mem ((c : Thread nD τ).loc main_v13_3) = G8 m c
      ∧ r.2.mem ((c : Thread nD τ).loc main_v13_5) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (whole5 m c), (h c).2.1.trans (whole6 m c), (h c).2.2.1.trans (whole7 m c), (h c).2.2.2.1.trans (whole8 m c),
    (h c).2.2.2.2.2.1.trans (whole10 m c), (h c).2.2.2.2.2.2⟩) (Value.run_blocks m ρ)

end Cert.ProjNsaKernelIdeal.Out

end
-- ==== Proof.NsaA.lean ====
/- The projection to the sparse attention's columns and the gates of the merge: the kernel and the reference leave the same arrays. -/
module

public import proofs.«01_k».proof.Defs
public import proofs.«01_k».proof.Proof.NsaK
public import proofs.«01_k».proof.Proof.Gen.ProjNsaReferenceIdeal.Run

@[expose] public section

set_option maxRecDepth 16384

noncomputable section

namespace Cert.ProjNsa

open Idealize.ShloMosaic Idealize.ShloMosaic.TcCoe Idealize.ShloMosaic.StableHlo Idealize.SL Idealize.SL.Sem Cert.Dense

instance : Cert.ProjNsaKernelIdeal.Facts := Cert.ProjNsaKernelIdeal.Gen.facts
instance : Cert.ProjNsaReferenceIdeal.Facts := Cert.ProjNsaReferenceIdeal.Gen.facts

section
open Cert.ProjNsaReferenceIdeal Cert.ProjNsaReferenceIdeal.Gen

/-- The reference's normed and modulated sequence. -/
def hid (x : FVec Ideal S4x4096x1024 .f32) (sc sh : FVec Ideal S4x1x1024 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

theorem hid_at (x : FVec Ideal S4x4096x1024 .f32) (sc sh : FVec Ideal S4x1x1024 .f32) (g : FVec Ideal S1024 .f32) (b : Fin 4) (t : Fin 4096) (k : Fin 1024) :
    hid x sc sh g (ix3 b t k) = modn (fun k => x (ix3 b t k)) (fun k => g (ix1 k)) (fun k => sc (ix3 b 0 k)) (fun k => sh (ix3 b 0 k)) k := by
  pointwise [hid, modn]

theorem ref5 (x : FVec Ideal S4x4096x1024 .f32) (sc sh : FVec Ideal S4x1x1024 .f32) (g : FVec Ideal S1024 .f32) (w : FVec Ideal S1024x14160 .f32)
    (i : Fin 16384) (j : Fin 1024) :
    (shapeCast S16384x1024 (extractStridedSlice S4x4096x1024 ![0, 0, 0] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x1024_0_0_0) shapeCasts_S4x4096x1024_S16384x1024 : FVec Ideal S16384x1024 .f32) (ix2 i j)
      = prow x sc sh g w i ⟨8480 + j, by omega⟩ := by
  pointwise [hid_at, prow]

theorem ref10 (x : FVec Ideal S4x4096x1024 .f32) (sc sh : FVec Ideal S4x1x1024 .f32) (g : FVec Ideal S1024 .f32) (w : FVec Ideal S1024x14160 .f32)
    (i : Fin 16384) (j : Fin 3072) :
    (shapeCast S16384x3072 (extractStridedSlice S4x4096x3072 ![0, 0, 11088] (Host.dotGeneral dot_S4x4096x1024_S1024x14160_S4x4096x14160_2_0_01_1_n_n none (hid x sc sh g) w) slices_S4x4096x14160_S4x4096x3072_0_0_11088) shapeCasts_S4x4096x3072_S16384x3072 : FVec Ideal S16384x3072 .f32) (ix2 i j)
      = prow x sc sh g w i ⟨11088 + j, by omega⟩ := by
  pointwise [hid_at, prow]

/-- Keys beside values, as the reference stacks them. -/
theorem stack_at (y z : FVec Ideal S4x4096x256 .f32) (i : Fin 16384) (j : Fin 512) :
    (shapeCast S16384x512 (concatenate S4x4096x2x256 2 [⟨S4x4096x1x256, (broadcastInDim S4x4096x1x256 ![0, 1, 3] bcast_S4x4096x256_S4x4096x1x256_0_1_3 y)⟩, ⟨S4x4096x1x256, (broadcastInDim S4x4096x1x256 ![0, 1, 3] bcast_S4x4096x256_S4x4096x1x256_0_1_3 z)⟩] concatenates_S4x4096x1x256_S4x4096x1x256_S4x4096x2x256_d2) shapeCasts_S4x4096x2x256_S16384x512 : FVec Ideal S16384x512 .f32) (ix2 i j)
      = if h : j.val < 256 then y (ix3 ⟨i / 4096, by omega⟩ ⟨i % 4096, by omega⟩ ⟨j, h⟩) else z (ix3 ⟨i / 4096, by omega⟩ ⟨i % 4096, by omega⟩ ⟨j - 256, by omega⟩) := by
  pointwise
  by_cases h : j.val < 256
  · rw [dif_pos (by omega), dif_pos h]
    simp only [Nat.mod_eq_of_lt h]
  · rw [dif_neg (by omega), dif_neg h]
    simp only [show j.val % 256 = j.val - 256 by omega]

theorem ref6 (x : FVec Ideal S4x4096x1024 .f32) (sc sh : FVec Ideal S4x1x1024 .f32) (g : FVec Ideal S1024 .f32) (w : FVec Ideal S1024x14160 .f32)
    (i : Fin 16384) (j : Fin 512) :
    (shapeCast S16384x512 (concatenate S4x4096x2x256 2 [⟨S4x4096x1x256, (broadcastInDim S4x4096x1x256 ![0, 1, 3] bcast_S4x4096x256_S4x4096x1x256_0_1_3 (extractStridedSlice S4x4096x256 ![0, 0, 1024] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_1024))⟩, ⟨S4x4096x1x256, (broadcastInDim S4x4096x1x256 ![0, 1, 3] bcast_S4x4096x256_S4x4096x1x256_0_1_3 (extractStridedSlice S4x4096x256 ![0, 0, 1280] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_1280))⟩] concatenates_S4x4096x1x256_S4x4096x1x256_S4x4096x2x256_d2) shapeCasts_S4x4096x2x256_S16384x512 : FVec Ideal S16384x512 .f32) (ix2 i j)
      = prow x sc sh g w i ⟨9504 + j, by omega⟩ := by
  refine (stack_at _ _ i j).trans ?_
  by_cases h : j.val < 256
  · rw [dif_pos h]
    pointwise [hid_at, prow]
    simp only [show 8480 + (1024 + j.val) = 9504 + j.val by omega]
  · rw [dif_neg h]
    pointwise [hid_at, prow]
    simp only [show 8480 + (1280 + (j.val - 256)) = 9504 + j.val by omega]

theorem ref7 (x : FVec Ideal S4x4096x1024 .f32) (sc sh : FVec Ideal S4x1x1024 .f32) (g : FVec Ideal S1024 .f32) (w : FVec Ideal S1024x14160 .f32)
    (i : Fin 16384) (j : Fin 512) :
    (shapeCast S16384x512 (concatenate S4x4096x2x256 2 [⟨S4x4096x1x256, (broadcastInDim S4x4096x1x256 ![0, 1, 3] bcast_S4x4096x256_S4x4096x1x256_0_1_3 (extractStridedSlice S4x4096x256 ![0, 0, 1536] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_1536))⟩, ⟨S4x4096x1x256, (broadcastInDim S4x4096x1x256 ![0, 1, 3] bcast_S4x4096x256_S4x4096x1x256_0_1_3 (extractStridedSlice S4x4096x256 ![0, 0, 1792] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_1792))⟩] concatenates_S4x4096x1x256_S4x4096x1x256_S4x4096x2x256_d2) shapeCasts_S4x4096x2x256_S16384x512 : FVec Ideal S16384x512 .f32) (ix2 i j)
      = prow x sc sh g w i ⟨10016 + j, by omega⟩ := by
  refine (stack_at _ _ i j).trans ?_
  by_cases h : j.val < 256
  · rw [dif_pos h]
    pointwise [hid_at, prow]
    simp only [show 8480 + (1536 + j.val) = 10016 + j.val by omega]
  · rw [dif_neg h]
    pointwise [hid_at, prow]
    simp only [show 8480 + (1792 + (j.val - 256)) = 10016 + j.val by omega]

theorem ref8 (x : FVec Ideal S4x4096x1024 .f32) (sc sh : FVec Ideal S4x1x1024 .f32) (g : FVec Ideal S1024 .f32) (w : FVec Ideal S1024x14160 .f32)
    (i : Fin 16384) (j : Fin 512) :
    (shapeCast S16384x512 (concatenate S4x4096x2x256 2 [⟨S4x4096x1x256, (broadcastInDim S4x4096x1x256 ![0, 1, 3] bcast_S4x4096x256_S4x4096x1x256_0_1_3 (extractStridedSlice S4x4096x256 ![0, 0, 2048] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_2048))⟩, ⟨S4x4096x1x256, (broadcastInDim S4x4096x1x256 ![0, 1, 3] bcast_S4x4096x256_S4x4096x1x256_0_1_3 (extractStridedSlice S4x4096x256 ![0, 0, 2304] (extractStridedSlice S4x4096x2608 ![0, 0, 8480] (Host.dotGeneral dot_S4x4096x1024_S1024x14160_S4x4096x14160_2_0_01_1_n_n none (hid x sc sh g) w) slices_S4x4096x14160_S4x4096x2608_0_0_8480) slices_S4x4096x2608_S4x4096x256_0_0_2304))⟩] concatenates_S4x4096x1x256_S4x4096x1x256_S4x4096x2x256_d2) shapeCasts_S4x4096x2x256_S16384x512 : FVec Ideal S16384x512 .f32) (ix2 i j)
      = prow x sc sh g w i ⟨10528 + j, by omega⟩ := by
  refine (stack_at _ _ i j).trans ?_
  by_cases h : j.val < 256
  · rw [dif_pos h]
    pointwise [hid_at, prow]
    simp only [show 8480 + (2048 + j.val) = 10528 + j.val by omega]
  · rw [dif_neg h]
    pointwise [hid_at, prow]
    simp only [show 8480 + (2304 + (j.val - 256)) = 10528 + j.val by omega]

end

/-- The reference's frame. -/
theorem frame : Cert.quiescent_ProjNsaReferenceIdeal := fun m g _ =>
  (θ_run (Cert.ProjNsaReferenceIdeal.defs (F := Ideal)) _ _).mono (fun _ h => ⟨fun c => (h c).2.2.2.2.2, sem_eq_zero_of_no_sems rfl _⟩) (Cert.ProjNsaReferenceIdeal.Value.run m g)

/-- The two leave the same results. -/
theorem algebraic : Cert.algebraic_ProjNsaKernelIdeal_ProjNsaReferenceIdeal := by
  intro m g m' g' _ hag
  refine ⟨fun c => Cert.ProjNsaKernelIdeal.Out.G5 m c, fun c => Cert.ProjNsaKernelIdeal.Out.G6 m c, fun c => Cert.ProjNsaKernelIdeal.Out.G7 m c,
    fun c => Cert.ProjNsaKernelIdeal.Out.G8 m c, fun c => Cert.ProjNsaKernelIdeal.Out.G10 m c, Cert.ProjNsaKernelIdeal.Out.run m g, ?_⟩
  refine (θ_run (Cert.ProjNsaReferenceIdeal.defs (F := Ideal)) _ _).mono (fun r h c => ?_) (Cert.ProjNsaReferenceIdeal.Value.run m' g')
  obtain ⟨e0, e1, e2, e3, e4⟩ := hag c
  refine ⟨(h c).1.trans ?_, (h c).2.1.trans ?_, (h c).2.2.1.trans ?_, (h c).2.2.2.1.trans ?_, (h c).2.2.2.2.1.trans ?_, (h c).2.2.2.2.2⟩
  all_goals
    rw [e0, e1, e2, e3, e4]
    funext y
    obtain ⟨i, j, rfl⟩ : ∃ i j, y = ix2 i j := ⟨_, _, eq_ix2 y⟩
  · exact ref5 _ _ _ _ _ i j
  · exact ref6 _ _ _ _ _ i j
  · exact ref7 _ _ _ _ _ i j
  · exact ref8 _ _ _ _ _ i j
  · exact ref10 _ _ _ _ _ i j

end Cert.ProjNsa

end
-- ==== Proof.lean ====
/- The claims, assembled from the modules that prove them one by one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.ProjRwKernel
public import proofs.«01_k».proof.Proof.Gen.ProjRwKernel.Skeleton
public import proofs.«01_k».proof.Proof.Gen.ProjRwKernel.Launch
public import proofs.«01_k».proof.Proof.Gen.ProjRwKernel.Points
public import proofs.«01_k».proof.Proof.Gen.ProjRwKernel.Frame
public import proofs.«01_k».proof.Proof.Gen.ProjRwKernelIdeal
public import proofs.«01_k».proof.Proof.Gen.ProjRwKernelIdeal.Skeleton
public import proofs.«01_k».proof.Proof.Gen.ProjRwKernelIdeal.Launch
public import proofs.«01_k».proof.Proof.Gen.ProjRwKernelIdeal.Points
public import proofs.«01_k».proof.Proof.Gen.ProjRwKernelIdeal.Frame
public import proofs.«01_k».proof.Proof.Gen.ProjRwReferenceIdeal
public import proofs.«01_k».proof.Proof.Gen.ProjSsmKernel
public import proofs.«01_k».proof.Proof.Gen.ProjSsmKernel.Skeleton
public import proofs.«01_k».proof.Proof.Gen.ProjSsmKernel.Launch
public import proofs.«01_k».proof.Proof.Gen.ProjSsmKernel.Points
public import proofs.«01_k».proof.Proof.Gen.ProjSsmKernel.Frame
public import proofs.«01_k».proof.Proof.Gen.ProjSsmKernelIdeal
public import proofs.«01_k».proof.Proof.Gen.ProjSsmKernelIdeal.Skeleton
public import proofs.«01_k».proof.Proof.Gen.ProjSsmKernelIdeal.Launch
public import proofs.«01_k».proof.Proof.Gen.ProjSsmKernelIdeal.Points
public import proofs.«01_k».proof.Proof.Gen.ProjSsmKernelIdeal.Frame
public import proofs.«01_k».proof.Proof.Gen.ProjSsmReferenceIdeal
public import proofs.«01_k».proof.Proof.Gen.ProjNsaKernel
public import proofs.«01_k».proof.Proof.Gen.ProjNsaKernel.Skeleton
public import proofs.«01_k».proof.Proof.Gen.ProjNsaKernel.Launch
public import proofs.«01_k».proof.Proof.Gen.ProjNsaKernel.Points
public import proofs.«01_k».proof.Proof.Gen.ProjNsaKernel.Frame
public import proofs.«01_k».proof.Proof.Gen.ProjNsaKernelIdeal
public import proofs.«01_k».proof.Proof.Gen.ProjNsaKernelIdeal.Skeleton
public import proofs.«01_k».proof.Proof.Gen.ProjNsaKernelIdeal.Launch
public import proofs.«01_k».proof.Proof.Gen.ProjNsaKernelIdeal.Points
public import proofs.«01_k».proof.Proof.Gen.ProjNsaKernelIdeal.Frame
public import proofs.«01_k».proof.Proof.Gen.ProjNsaReferenceIdeal
public import proofs.«01_k».proof.Proof.Gen.KernelIdeal.Value
public import proofs.«01_k».proof.Proof.Gen.ReferenceIdeal.Run
public import proofs.«01_k».proof.Proof.Gen.FfnKernelIdeal.Value
public import proofs.«01_k».proof.Proof.Gen.FfnReferenceIdeal.Run
public import proofs.«01_k».proof.Proof.Gen.MergeKernelIdeal.Value
public import proofs.«01_k».proof.Proof.Gen.MergeReferenceIdeal.Run
public import proofs.«01_k».proof.Proof.Gen.ProjRwKernelIdeal.Value
public import proofs.«01_k».proof.Proof.Gen.ProjRwReferenceIdeal.Run
public import proofs.«01_k».proof.Proof.Gen.ProjSsmKernelIdeal.Value
public import proofs.«01_k».proof.Proof.Gen.ProjSsmReferenceIdeal.Run
public import proofs.«01_k».proof.Proof.Gen.ProjNsaKernelIdeal.Value
public import proofs.«01_k».proof.Proof.Gen.ProjNsaReferenceIdeal.Run
public import proofs.«01_k».proof.Proof.RefKeep
public import proofs.«01_k».proof.Proof.Alg
public import proofs.«01_k».proof.Proof.FfnA
public import proofs.«01_k».proof.Proof.MergeA
public import proofs.«01_k».proof.Proof.RwA
public import proofs.«01_k».proof.Proof.SsmA
public import proofs.«01_k».proof.Proof.NsaA
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnKernel.Gen.facts, Cert.FfnKernelIdeal.Gen.facts, Cert.FfnReferenceIdeal.Gen.facts, Cert.MergeKernel.Gen.facts, Cert.MergeKernelIdeal.Gen.facts, Cert.MergeReferenceIdeal.Gen.facts, Cert.ProjRwKernel.Gen.facts, Cert.ProjRwKernelIdeal.Gen.facts, Cert.ProjRwReferenceIdeal.Gen.facts, Cert.ProjSsmKernel.Gen.facts, Cert.ProjSsmKernelIdeal.Gen.facts, Cert.ProjSsmReferenceIdeal.Gen.facts, Cert.ProjNsaKernel.Gen.facts, Cert.ProjNsaKernelIdeal.Gen.facts, Cert.ProjNsaReferenceIdeal.Gen.facts,
  fun m ρ _ => Cert.Kernel.Gen.frame m ρ, fun m ρ _ => Cert.KernelIdeal.Gen.frame m ρ, fun m ρ _ => Cert.ReferenceIdeal.Keep.frame m ρ,
  fun m ρ _ => Cert.FfnKernel.Gen.frame m ρ, fun m ρ _ => Cert.FfnKernelIdeal.Gen.frame m ρ, Cert.Ffn.frame,
  fun m ρ _ => Cert.MergeKernel.Gen.frame m ρ, fun m ρ _ => Cert.MergeKernelIdeal.Gen.frame m ρ, Cert.Merge.frame,
  fun m ρ _ => Cert.ProjRwKernel.Gen.frame m ρ, fun m ρ _ => Cert.ProjRwKernelIdeal.Gen.frame m ρ, Cert.ProjRw.frame,
  fun m ρ _ => Cert.ProjSsmKernel.Gen.frame m ρ, fun m ρ _ => Cert.ProjSsmKernelIdeal.Gen.frame m ρ, Cert.ProjSsm.frame,
  fun m ρ _ => Cert.ProjNsaKernel.Gen.frame m ρ, fun m ρ _ => Cert.ProjNsaKernelIdeal.Gen.frame m ρ, Cert.ProjNsa.frame,
  trivial, algebraic, trivial, Cert.Ffn.algebraic, trivial, Cert.Merge.algebraic, trivial, Cert.ProjRw.algebraic, trivial, Cert.ProjSsm.algebraic, trivial, Cert.ProjNsa.algebraic⟩

end Cert.Proof

end
